-- ==== Defs.lean ====
def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowIdeal_finite [hPre_finite : Cert.Pre_finite.Facts] (m : (ℓ : Loc Cert.WindowIdeal.nD Cert.WindowIdeal.τ Cert.WindowIdeal.sig) → Buf (Elt Ideal) ℓ) : Prop :=
  ∀ c : Dev Cert.WindowIdeal.nD,
    (Cert.Pre_finite.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1)) (m ((c.tc : Thread Cert.WindowIdeal.nD Cert.WindowIdeal.τ).loc Cert.WindowIdeal.main_arg2)) (m ((c.tc : Thread Cert.WindowIdeal.nD Cert.WindowIdeal.τ).loc Cert.WindowIdeal.main_arg3)) (m ((c.tc : Thread Cert.WindowIdeal.nD Cert.WindowIdeal.τ).loc Cert.WindowIdeal.main_arg4)) (m ((c.tc : Thread Cert.WindowIdeal.nD Cert.WindowIdeal.τ).loc Cert.WindowIdeal.main_arg5))).1 = (fun _ => 1#1)
    ∧ (Cert.Pre_finite.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1)) (m ((c.tc : Thread Cert.WindowIdeal.nD Cert.WindowIdeal.τ).loc Cert.WindowIdeal.main_arg2)) (m ((c.tc : Thread Cert.WindowIdeal.nD Cert.WindowIdeal.τ).loc Cert.WindowIdeal.main_arg3)) (m ((c.tc : Thread Cert.WindowIdeal.nD Cert.WindowIdeal.τ).loc Cert.WindowIdeal.main_arg4)) (m ((c.tc : Thread Cert.WindowIdeal.nD Cert.WindowIdeal.τ).loc Cert.WindowIdeal.main_arg5))).2.1 = (fun _ => 1#1)
    ∧ (Cert.Pre_finite.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1)) (m ((c.tc : Thread Cert.WindowIdeal.nD Cert.WindowIdeal.τ).loc Cert.WindowIdeal.main_arg2)) (m ((c.tc : Thread Cert.WindowIdeal.nD Cert.WindowIdeal.τ).loc Cert.WindowIdeal.main_arg3)) (m ((c.tc : Thread Cert.WindowIdeal.nD Cert.WindowIdeal.τ).loc Cert.WindowIdeal.main_arg4)) (m ((c.tc : Thread Cert.WindowIdeal.nD Cert.WindowIdeal.τ).loc Cert.WindowIdeal.main_arg5))).2.2.1 = (fun _ => 1#1)
    ∧ (Cert.Pre_finite.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1)) (m ((c.tc : Thread Cert.WindowIdeal.nD Cert.WindowIdeal.τ).loc Cert.WindowIdeal.main_arg2)) (m ((c.tc : Thread Cert.WindowIdeal.nD Cert.WindowIdeal.τ).loc Cert.WindowIdeal.main_arg3)) (m ((c.tc : Thread Cert.WindowIdeal.nD Cert.WindowIdeal.τ).loc Cert.WindowIdeal.main_arg4)) (m ((c.tc : Thread Cert.WindowIdeal.nD Cert.WindowIdeal.τ).loc Cert.WindowIdeal.main_arg5))).2.2.2 = (fun _ => 1#1)

def Pre_WindowRefIdeal (m : (ℓ : Loc Cert.WindowRefIdeal.nD Cert.WindowRefIdeal.τ Cert.WindowRefIdeal.sig) → Buf (Elt Ideal) ℓ) : Prop :=
  True

def Pre_WindowRefIdeal_finite [hPre_finite : Cert.Pre_finite.Facts] (m : (ℓ : Loc Cert.WindowRefIdeal.nD Cert.WindowRefIdeal.τ Cert.WindowRefIdeal.sig) → Buf (Elt Ideal) ℓ) : Prop :=
  ∀ c : Dev Cert.WindowRefIdeal.nD,
    (Cert.Pre_finite.fn (F := Ideal) (m ((c.tc : Thread Cert.WindowRefIdeal.nD Cert.WindowRefIdeal.τ).loc Cert.WindowRefIdeal.main_arg0)) (m ((c.tc : Thread Cert.WindowRefIdeal.nD Cert.WindowRefIdeal.τ).loc Cert.WindowRefIdeal.main_arg1)) (m ((c.tc : Thread Cert.WindowRefIdeal.nD Cert.WindowRefIdeal.τ).loc Cert.WindowRefIdeal.main_arg2)) (m ((c.tc : Thread Cert.WindowRefIdeal.nD Cert.WindowRefIdeal.τ).loc Cert.WindowRefIdeal.main_arg3)) (m ((c.tc : Thread Cert.WindowRefIdeal.nD Cert.WindowRefIdeal.τ).loc Cert.WindowRefIdeal.main_arg4)) (m ((c.tc : Thread Cert.WindowRefIdeal.nD Cert.WindowRefIdeal.τ).loc Cert.WindowRefIdeal.main_arg5))).1 = (fun _ => 1#1)
    ∧ (Cert.Pre_finite.fn (F := Ideal) (m ((c.tc : Thread Cert.WindowRefIdeal.nD Cert.WindowRefIdeal.τ).loc Cert.WindowRefIdeal.main_arg0)) (m ((c.tc : Thread Cert.WindowRefIdeal.nD Cert.WindowRefIdeal.τ).loc Cert.WindowRefIdeal.main_arg1)) (m ((c.tc : Thread Cert.WindowRefIdeal.nD Cert.WindowRefIdeal.τ).loc Cert.WindowRefIdeal.main_arg2)) (m ((c.tc : Thread Cert.WindowRefIdeal.nD Cert.WindowRefIdeal.τ).loc Cert.WindowRefIdeal.main_arg3)) (m ((c.tc : Thread Cert.WindowRefIdeal.nD Cert.WindowRefIdeal.τ).loc Cert.WindowRefIdeal.main_arg4)) (m ((c.tc : Thread Cert.WindowRefIdeal.nD Cert.WindowRefIdeal.τ).loc Cert.WindowRefIdeal.main_arg5))).2.1 = (fun _ => 1#1)
    ∧ (Cert.Pre_finite.fn (F := Ideal) (m ((c.tc : Thread Cert.WindowRefIdeal.nD Cert.WindowRefIdeal.τ).loc Cert.WindowRefIdeal.main_arg0)) (m ((c.tc : Thread Cert.WindowRefIdeal.nD Cert.WindowRefIdeal.τ).loc Cert.WindowRefIdeal.main_arg1)) (m ((c.tc : Thread Cert.WindowRefIdeal.nD Cert.WindowRefIdeal.τ).loc Cert.WindowRefIdeal.main_arg2)) (m ((c.tc : Thread Cert.WindowRefIdeal.nD Cert.WindowRefIdeal.τ).loc Cert.WindowRefIdeal.main_arg3)) (m ((c.tc : Thread Cert.WindowRefIdeal.nD Cert.WindowRefIdeal.τ).loc Cert.WindowRefIdeal.main_arg4)) (m ((c.tc : Thread Cert.WindowRefIdeal.nD Cert.WindowRefIdeal.τ).loc Cert.WindowRefIdeal.main_arg5))).2.2.1 = (fun _ => 1#1)
    ∧ (Cert.Pre_finite.fn (F := Ideal) (m ((c.tc : Thread Cert.WindowRefIdeal.nD Cert.WindowRefIdeal.τ).loc Cert.WindowRefIdeal.main_arg0)) (m ((c.tc : Thread Cert.WindowRefIdeal.nD Cert.WindowRefIdeal.τ).loc Cert.WindowRefIdeal.main_arg1)) (m ((c.tc : Thread Cert.WindowRefIdeal.nD Cert.WindowRefIdeal.τ).loc Cert.WindowRefIdeal.main_arg2)) (m ((c.tc : Thread Cert.WindowRefIdeal.nD Cert.WindowRefIdeal.τ).loc Cert.WindowRefIdeal.main_arg3)) (m ((c.tc : Thread Cert.WindowRefIdeal.nD Cert.WindowRefIdeal.τ).loc Cert.WindowRefIdeal.main_arg4)) (m ((c.tc : Thread Cert.WindowRefIdeal.nD Cert.WindowRefIdeal.τ).loc Cert.WindowRefIdeal.main_arg5))).2.2.2 = (fun _ => 1#1)

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInRefIdeal (m : (ℓ : Loc Cert.SsdInRefIdeal.nD Cert.SsdInRefIdeal.τ Cert.SsdInRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_FnetOut (m : (ℓ : Loc Cert.FnetOut.nD Cert.FnetOut.τ Cert.FnetOut.sig) → Buf (Elt Bits) ℓ) : Prop :=
  True

def Pre_FnetOutIdeal (m : (ℓ : Loc Cert.FnetOutIdeal.nD Cert.FnetOutIdeal.τ Cert.FnetOutIdeal.sig) → Buf (Elt Ideal) ℓ) : Prop :=
  True

def Pre_FnetOutRefIdeal (m : (ℓ : Loc Cert.FnetOutRefIdeal.nD Cert.FnetOutRefIdeal.τ Cert.FnetOutRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutRefIdeal (m : (ℓ : Loc Cert.SsdOutRefIdeal.nD Cert.SsdOutRefIdeal.τ Cert.SsdOutRefIdeal.sig) → Buf (Elt Ideal) ℓ) : Prop :=
  True

def Pre_MoeUp [hPre_experts : Cert.Pre_experts.Facts] (m : (ℓ : Loc Cert.MoeUp.nD Cert.MoeUp.τ Cert.MoeUp.sig) → Buf (Elt Bits) ℓ) : Prop :=
  ∀ c : Dev Cert.MoeUp.nD,
    (Cert.Pre_experts.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4))) = (fun _ => 1#1)

def Pre_MoeUpIdeal [hPre_experts : Cert.Pre_experts.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_experts.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4))) = (fun _ => 1#1)

def Pre_MoeUpRefIdeal (m : (ℓ : Loc Cert.MoeUpRefIdeal.nD Cert.MoeUpRefIdeal.τ Cert.MoeUpRefIdeal.sig) → Buf (Elt Ideal) ℓ) : Prop :=
  True

def Pre_MoeUpRefIdeal_experts [hPre_experts : Cert.Pre_experts.Facts] (m : (ℓ : Loc Cert.MoeUpRefIdeal.nD Cert.MoeUpRefIdeal.τ Cert.MoeUpRefIdeal.sig) → Buf (Elt Ideal) ℓ) : Prop :=
  ∀ c : Dev Cert.MoeUpRefIdeal.nD,
    (Cert.Pre_experts.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4))) = (fun _ => 1#1)

def Pre_MoeDown [hPre_experts_down : Cert.Pre_experts_down.Facts] (m : (ℓ : Loc Cert.MoeDown.nD Cert.MoeDown.τ Cert.MoeDown.sig) → Buf (Elt Bits) ℓ) : Prop :=
  ∀ c : Dev Cert.MoeDown.nD,
    (Cert.Pre_experts_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4))) = (fun _ => 1#1)

def Pre_MoeDownIdeal [hPre_experts_down : Cert.Pre_experts_down.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_experts_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4))) = (fun _ => 1#1)

def Pre_MoeDownRefIdeal (m : (ℓ : Loc Cert.MoeDownRefIdeal.nD Cert.MoeDownRefIdeal.τ Cert.MoeDownRefIdeal.sig) → Buf (Elt Ideal) ℓ) : Prop :=
  True

def Pre_MoeDownRefIdeal_experts_down [hPre_experts_down : Cert.Pre_experts_down.Facts] (m : (ℓ : Loc Cert.MoeDownRefIdeal.nD Cert.MoeDownRefIdeal.τ Cert.MoeDownRefIdeal.sig) → Buf (Elt Ideal) ℓ) : Prop :=
  ∀ c : Dev Cert.MoeDownRefIdeal.nD,
    (Cert.Pre_experts_down.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4))) = (fun _ => 1#1)

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1)
      ∧ r.2.mem ((c.tc : Thread Cert.Window.nD Cert.Window.τ).loc Cert.Window.main_arg2) = m ((c.tc : Thread Cert.Window.nD Cert.Window.τ).loc Cert.Window.main_arg2)
      ∧ r.2.mem ((c.tc : Thread Cert.Window.nD Cert.Window.τ).loc Cert.Window.main_arg3) = m ((c.tc : Thread Cert.Window.nD Cert.Window.τ).loc Cert.Window.main_arg3)
      ∧ r.2.mem ((c.tc : Thread Cert.Window.nD Cert.Window.τ).loc Cert.Window.main_arg4) = m ((c.tc : Thread Cert.Window.nD Cert.Window.τ).loc Cert.Window.main_arg4)
      ∧ r.2.mem ((c.tc : Thread Cert.Window.nD Cert.Window.τ).loc Cert.Window.main_arg5) = m ((c.tc : Thread Cert.Window.nD Cert.Window.τ).loc Cert.Window.main_arg5))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
      ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3)
      ∧ r.2.mem ((c.tc : Thread Cert.WindowIdeal.nD Cert.WindowIdeal.τ).loc Cert.WindowIdeal.main_arg4) = m ((c.tc : Thread Cert.WindowIdeal.nD Cert.WindowIdeal.τ).loc Cert.WindowIdeal.main_arg4)
      ∧ r.2.mem ((c.tc : Thread Cert.WindowIdeal.nD Cert.WindowIdeal.τ).loc Cert.WindowIdeal.main_arg5) = m ((c.tc : Thread Cert.WindowIdeal.nD Cert.WindowIdeal.τ).loc Cert.WindowIdeal.main_arg5))
      ∧ r.2.sem = fun _ => 0)

def quiescent_WindowIdeal_pre_finite [hWindowIdeal : Cert.WindowIdeal.Facts] [hPre_finite : Cert.Pre_finite.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal_finite m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
      ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3)
      ∧ r.2.mem ((c.tc : Thread Cert.WindowIdeal.nD Cert.WindowIdeal.τ).loc Cert.WindowIdeal.main_arg4) = m ((c.tc : Thread Cert.WindowIdeal.nD Cert.WindowIdeal.τ).loc Cert.WindowIdeal.main_arg4)
      ∧ r.2.mem ((c.tc : Thread Cert.WindowIdeal.nD Cert.WindowIdeal.τ).loc Cert.WindowIdeal.main_arg5) = m ((c.tc : Thread Cert.WindowIdeal.nD Cert.WindowIdeal.τ).loc Cert.WindowIdeal.main_arg5))
      ∧ r.2.sem = fun _ => 0)

def quiescent_WindowRefIdeal [hWindowRefIdeal : Cert.WindowRefIdeal.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1)
      ∧ r.2.mem ((c.tc : Thread Cert.WindowRefIdeal.nD Cert.WindowRefIdeal.τ).loc Cert.WindowRefIdeal.main_arg2) = m ((c.tc : Thread Cert.WindowRefIdeal.nD Cert.WindowRefIdeal.τ).loc Cert.WindowRefIdeal.main_arg2)
      ∧ r.2.mem ((c.tc : Thread Cert.WindowRefIdeal.nD Cert.WindowRefIdeal.τ).loc Cert.WindowRefIdeal.main_arg3) = m ((c.tc : Thread Cert.WindowRefIdeal.nD Cert.WindowRefIdeal.τ).loc Cert.WindowRefIdeal.main_arg3)
      ∧ r.2.mem ((c.tc : Thread Cert.WindowRefIdeal.nD Cert.WindowRefIdeal.τ).loc Cert.WindowRefIdeal.main_arg4) = m ((c.tc : Thread Cert.WindowRefIdeal.nD Cert.WindowRefIdeal.τ).loc Cert.WindowRefIdeal.main_arg4)
      ∧ r.2.mem ((c.tc : Thread Cert.WindowRefIdeal.nD Cert.WindowRefIdeal.τ).loc Cert.WindowRefIdeal.main_arg5) = m ((c.tc : Thread Cert.WindowRefIdeal.nD Cert.WindowRefIdeal.τ).loc Cert.WindowRefIdeal.main_arg5))
      ∧ r.2.sem = fun _ => 0)

def quiescent_WindowRefIdeal_pre_finite [hWindowRefIdeal : Cert.WindowRefIdeal.Facts] [hPre_finite : Cert.Pre_finite.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal_finite m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1)
      ∧ r.2.mem ((c.tc : Thread Cert.WindowRefIdeal.nD Cert.WindowRefIdeal.τ).loc Cert.WindowRefIdeal.main_arg2) = m ((c.tc : Thread Cert.WindowRefIdeal.nD Cert.WindowRefIdeal.τ).loc Cert.WindowRefIdeal.main_arg2)
      ∧ r.2.mem ((c.tc : Thread Cert.WindowRefIdeal.nD Cert.WindowRefIdeal.τ).loc Cert.WindowRefIdeal.main_arg3) = m ((c.tc : Thread Cert.WindowRefIdeal.nD Cert.WindowRefIdeal.τ).loc Cert.WindowRefIdeal.main_arg3)
      ∧ r.2.mem ((c.tc : Thread Cert.WindowRefIdeal.nD Cert.WindowRefIdeal.τ).loc Cert.WindowRefIdeal.main_arg4) = m ((c.tc : Thread Cert.WindowRefIdeal.nD Cert.WindowRefIdeal.τ).loc Cert.WindowRefIdeal.main_arg4)
      ∧ r.2.mem ((c.tc : Thread Cert.WindowRefIdeal.nD Cert.WindowRefIdeal.τ).loc Cert.WindowRefIdeal.main_arg5) = m ((c.tc : Thread Cert.WindowRefIdeal.nD Cert.WindowRefIdeal.τ).loc Cert.WindowRefIdeal.main_arg5))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ r.2.sem = fun _ => 0)

def quiescent_SsdInRefIdeal [hSsdInRefIdeal : Cert.SsdInRefIdeal.Facts] : Prop :=
  ∀ (m : (ℓ : Loc Cert.SsdInRefIdeal.nD Cert.SsdInRefIdeal.τ Cert.SsdInRefIdeal.sig) → Buf (Elt Ideal) ℓ) (g : Dev Cert.SsdInRefIdeal.nD → PrngReg), Pre_SsdInRefIdeal m →
    θ_run (Cert.SsdInRefIdeal.defs (F := Ideal)) (onTc (τ := Cert.SsdInRefIdeal.τ) (Cert.SsdInRefIdeal.main (F := Ideal))) ⟨m, fun _ => 0, g⟩ (fun r => (∀ c : Dev Cert.SsdInRefIdeal.nD,
      r.2.mem ((c.tc : Thread Cert.SsdInRefIdeal.nD Cert.SsdInRefIdeal.τ).loc Cert.SsdInRefIdeal.main_arg0) = m ((c.tc : Thread Cert.SsdInRefIdeal.nD Cert.SsdInRefIdeal.τ).loc Cert.SsdInRefIdeal.main_arg0)
      ∧ r.2.mem ((c.tc : Thread Cert.SsdInRefIdeal.nD Cert.SsdInRefIdeal.τ).loc Cert.SsdInRefIdeal.main_arg1) = m ((c.tc : Thread Cert.SsdInRefIdeal.nD Cert.SsdInRefIdeal.τ).loc Cert.SsdInRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_FnetOut [hFnetOut : Cert.FnetOut.Facts] : Prop :=
  ∀ (m : (ℓ : Loc Cert.FnetOut.nD Cert.FnetOut.τ Cert.FnetOut.sig) → Buf (Elt Bits) ℓ) (g : Dev Cert.FnetOut.nD → PrngReg), Pre_FnetOut m →
    θ_run (Cert.FnetOut.defs (F := Bits)) (onTc (τ := Cert.FnetOut.τ) (Cert.FnetOut.main (F := Bits))) ⟨m, fun _ => 0, g⟩ (fun r => (∀ c : Dev Cert.FnetOut.nD,
      r.2.mem ((c.tc : Thread Cert.FnetOut.nD Cert.FnetOut.τ).loc Cert.FnetOut.main_arg0) = m ((c.tc : Thread Cert.FnetOut.nD Cert.FnetOut.τ).loc Cert.FnetOut.main_arg0)
      ∧ r.2.mem ((c.tc : Thread Cert.FnetOut.nD Cert.FnetOut.τ).loc Cert.FnetOut.main_arg1) = m ((c.tc : Thread Cert.FnetOut.nD Cert.FnetOut.τ).loc Cert.FnetOut.main_arg1)
      ∧ r.2.mem ((c.tc : Thread Cert.FnetOut.nD Cert.FnetOut.τ).loc Cert.FnetOut.main_arg2) = m ((c.tc : Thread Cert.FnetOut.nD Cert.FnetOut.τ).loc Cert.FnetOut.main_arg2)
      ∧ r.2.mem ((c.tc : Thread Cert.FnetOut.nD Cert.FnetOut.τ).loc Cert.FnetOut.main_arg3) = m ((c.tc : Thread Cert.FnetOut.nD Cert.FnetOut.τ).loc Cert.FnetOut.main_arg3)
      ∧ r.2.mem ((c.tc : Thread Cert.FnetOut.nD Cert.FnetOut.τ).loc Cert.FnetOut.main_arg4) = m ((c.tc : Thread Cert.FnetOut.nD Cert.FnetOut.τ).loc Cert.FnetOut.main_arg4))
      ∧ r.2.sem = fun _ => 0)

def quiescent_FnetOutIdeal [hFnetOutIdeal : Cert.FnetOutIdeal.Facts] : Prop :=
  ∀ (m : (ℓ : Loc Cert.FnetOutIdeal.nD Cert.FnetOutIdeal.τ Cert.FnetOutIdeal.sig) → Buf (Elt Ideal) ℓ) (g : Dev Cert.FnetOutIdeal.nD → PrngReg), Pre_FnetOutIdeal m →
    θ_run (Cert.FnetOutIdeal.defs (F := Ideal)) (onTc (τ := Cert.FnetOutIdeal.τ) (Cert.FnetOutIdeal.main (F := Ideal))) ⟨m, fun _ => 0, g⟩ (fun r => (∀ c : Dev Cert.FnetOutIdeal.nD,
      r.2.mem ((c.tc : Thread Cert.FnetOutIdeal.nD Cert.FnetOutIdeal.τ).loc Cert.FnetOutIdeal.main_arg0) = m ((c.tc : Thread Cert.FnetOutIdeal.nD Cert.FnetOutIdeal.τ).loc Cert.FnetOutIdeal.main_arg0)
      ∧ r.2.mem ((c.tc : Thread Cert.FnetOutIdeal.nD Cert.FnetOutIdeal.τ).loc Cert.FnetOutIdeal.main_arg1) = m ((c.tc : Thread Cert.FnetOutIdeal.nD Cert.FnetOutIdeal.τ).loc Cert.FnetOutIdeal.main_arg1)
      ∧ r.2.mem ((c.tc : Thread Cert.FnetOutIdeal.nD Cert.FnetOutIdeal.τ).loc Cert.FnetOutIdeal.main_arg2) = m ((c.tc : Thread Cert.FnetOutIdeal.nD Cert.FnetOutIdeal.τ).loc Cert.FnetOutIdeal.main_arg2)
      ∧ r.2.mem ((c.tc : Thread Cert.FnetOutIdeal.nD Cert.FnetOutIdeal.τ).loc Cert.FnetOutIdeal.main_arg3) = m ((c.tc : Thread Cert.FnetOutIdeal.nD Cert.FnetOutIdeal.τ).loc Cert.FnetOutIdeal.main_arg3)
      ∧ r.2.mem ((c.tc : Thread Cert.FnetOutIdeal.nD Cert.FnetOutIdeal.τ).loc Cert.FnetOutIdeal.main_arg4) = m ((c.tc : Thread Cert.FnetOutIdeal.nD Cert.FnetOutIdeal.τ).loc Cert.FnetOutIdeal.main_arg4))
      ∧ r.2.sem = fun _ => 0)

def quiescent_FnetOutRefIdeal [hFnetOutRefIdeal : Cert.FnetOutRefIdeal.Facts] : Prop :=
  ∀ (m : (ℓ : Loc Cert.FnetOutRefIdeal.nD Cert.FnetOutRefIdeal.τ Cert.FnetOutRefIdeal.sig) → Buf (Elt Ideal) ℓ) (g : Dev Cert.FnetOutRefIdeal.nD → PrngReg), Pre_FnetOutRefIdeal m →
    θ_run (Cert.FnetOutRefIdeal.defs (F := Ideal)) (onTc (τ := Cert.FnetOutRefIdeal.τ) (Cert.FnetOutRefIdeal.main (F := Ideal))) ⟨m, fun _ => 0, g⟩ (fun r => (∀ c : Dev Cert.FnetOutRefIdeal.nD,
      r.2.mem ((c.tc : Thread Cert.FnetOutRefIdeal.nD Cert.FnetOutRefIdeal.τ).loc Cert.FnetOutRefIdeal.main_arg0) = m ((c.tc : Thread Cert.FnetOutRefIdeal.nD Cert.FnetOutRefIdeal.τ).loc Cert.FnetOutRefIdeal.main_arg0)
      ∧ r.2.mem ((c.tc : Thread Cert.FnetOutRefIdeal.nD Cert.FnetOutRefIdeal.τ).loc Cert.FnetOutRefIdeal.main_arg1) = m ((c.tc : Thread Cert.FnetOutRefIdeal.nD Cert.FnetOutRefIdeal.τ).loc Cert.FnetOutRefIdeal.main_arg1)
      ∧ r.2.mem ((c.tc : Thread Cert.FnetOutRefIdeal.nD Cert.FnetOutRefIdeal.τ).loc Cert.FnetOutRefIdeal.main_arg2) = m ((c.tc : Thread Cert.FnetOutRefIdeal.nD Cert.FnetOutRefIdeal.τ).loc Cert.FnetOutRefIdeal.main_arg2)
      ∧ r.2.mem ((c.tc : Thread Cert.FnetOutRefIdeal.nD Cert.FnetOutRefIdeal.τ).loc Cert.FnetOutRefIdeal.main_arg3) = m ((c.tc : Thread Cert.FnetOutRefIdeal.nD Cert.FnetOutRefIdeal.τ).loc Cert.FnetOutRefIdeal.main_arg3)
      ∧ r.2.mem ((c.tc : Thread Cert.FnetOutRefIdeal.nD Cert.FnetOutRefIdeal.τ).loc Cert.FnetOutRefIdeal.main_arg4) = m ((c.tc : Thread Cert.FnetOutRefIdeal.nD Cert.FnetOutRefIdeal.τ).loc Cert.FnetOutRefIdeal.main_arg4))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2)
      ∧ r.2.mem ((c.tc : Thread Cert.SsdOut.nD Cert.SsdOut.τ).loc Cert.SsdOut.main_arg3) = m ((c.tc : Thread Cert.SsdOut.nD Cert.SsdOut.τ).loc Cert.SsdOut.main_arg3))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3))
      ∧ r.2.sem = fun _ => 0)

def quiescent_SsdOutRefIdeal [hSsdOutRefIdeal : Cert.SsdOutRefIdeal.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1)
      ∧ r.2.mem ((c.tc : Thread Cert.SsdOutRefIdeal.nD Cert.SsdOutRefIdeal.τ).loc Cert.SsdOutRefIdeal.main_arg2) = m ((c.tc : Thread Cert.SsdOutRefIdeal.nD Cert.SsdOutRefIdeal.τ).loc Cert.SsdOutRefIdeal.main_arg2)
      ∧ r.2.mem ((c.tc : Thread Cert.SsdOutRefIdeal.nD Cert.SsdOutRefIdeal.τ).loc Cert.SsdOutRefIdeal.main_arg3) = m ((c.tc : Thread Cert.SsdOutRefIdeal.nD Cert.SsdOutRefIdeal.τ).loc Cert.SsdOutRefIdeal.main_arg3))
      ∧ r.2.sem = fun _ => 0)

def quiescent_MoeUp [hMoeUp : Cert.MoeUp.Facts] [hPre_experts : Cert.Pre_experts.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4))
      ∧ r.2.sem = fun _ => 0)

def quiescent_MoeUpIdeal [hMoeUpIdeal : Cert.MoeUpIdeal.Facts] [hPre_experts : Cert.Pre_experts.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ r.2.sem = fun _ => 0)

def quiescent_MoeUpRefIdeal [hMoeUpRefIdeal : Cert.MoeUpRefIdeal.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4))
      ∧ r.2.sem = fun _ => 0)

def quiescent_MoeUpRefIdeal_pre_experts [hMoeUpRefIdeal : Cert.MoeUpRefIdeal.Facts] [hPre_experts : Cert.Pre_experts.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal_experts m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4))
      ∧ r.2.sem = fun _ => 0)

def quiescent_MoeDown [hMoeDown : Cert.MoeDown.Facts] [hPre_experts_down : Cert.Pre_experts_down.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3)
      ∧ r.2.mem ((c.tc : Thread Cert.MoeDown.nD Cert.MoeDown.τ).loc Cert.MoeDown.main_arg4) = m ((c.tc : Thread Cert.MoeDown.nD Cert.MoeDown.τ).loc Cert.MoeDown.main_arg4))
      ∧ r.2.sem = fun _ => 0)

def quiescent_MoeDownIdeal [hMoeDownIdeal : Cert.MoeDownIdeal.Facts] [hPre_experts_down : Cert.Pre_experts_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
      ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4))
      ∧ r.2.sem = fun _ => 0)

def quiescent_MoeDownRefIdeal [hMoeDownRefIdeal : Cert.MoeDownRefIdeal.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3)
      ∧ r.2.mem ((c.tc : Thread Cert.MoeDownRefIdeal.nD Cert.MoeDownRefIdeal.τ).loc Cert.MoeDownRefIdeal.main_arg4) = m ((c.tc : Thread Cert.MoeDownRefIdeal.nD Cert.MoeDownRefIdeal.τ).loc Cert.MoeDownRefIdeal.main_arg4))
      ∧ r.2.sem = fun _ => 0)

def quiescent_MoeDownRefIdeal_pre_experts_down [hMoeDownRefIdeal : Cert.MoeDownRefIdeal.Facts] [hPre_experts_down : Cert.Pre_experts_down.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal_experts_down m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3)
      ∧ r.2.mem ((c.tc : Thread Cert.MoeDownRefIdeal.nD Cert.MoeDownRefIdeal.τ).loc Cert.MoeDownRefIdeal.main_arg4) = m ((c.tc : Thread Cert.MoeDownRefIdeal.nD Cert.MoeDownRefIdeal.τ).loc Cert.MoeDownRefIdeal.main_arg4))
      ∧ r.2.sem = fun _ => 0)

def preserves_Window_WindowIdeal : Prop :=
  True

def algebraic_WindowIdeal_WindowRefIdeal_pre_finite [hWindowIdeal : Cert.WindowIdeal.Facts] [hWindowRefIdeal : Cert.WindowRefIdeal.Facts] [hPre_finite : Cert.Pre_finite.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.WindowRefIdeal.nD Cert.WindowRefIdeal.τ Cert.WindowRefIdeal.sig) → Buf (Elt Ideal) ℓ) (g' : Dev Cert.WindowRefIdeal.nD → PrngReg), Pre_WindowIdeal_finite m →
    (∀ c : Dev Cert.WindowIdeal.nD,
      m' ((c.tc : Thread Cert.WindowRefIdeal.nD Cert.WindowRefIdeal.τ).loc Cert.WindowRefIdeal.main_arg0) = m ((c.tc : Thread Cert.WindowIdeal.nD Cert.WindowIdeal.τ).loc Cert.WindowIdeal.main_arg0)
      ∧ m' ((c.tc : Thread Cert.WindowRefIdeal.nD Cert.WindowRefIdeal.τ).loc Cert.WindowRefIdeal.main_arg1) = m ((c.tc : Thread Cert.WindowIdeal.nD Cert.WindowIdeal.τ).loc Cert.WindowIdeal.main_arg1)
      ∧ m' ((c.tc : Thread Cert.WindowRefIdeal.nD Cert.WindowRefIdeal.τ).loc Cert.WindowRefIdeal.main_arg2) = m ((c.tc : Thread Cert.WindowIdeal.nD Cert.WindowIdeal.τ).loc Cert.WindowIdeal.main_arg2)
      ∧ m' ((c.tc : Thread Cert.WindowRefIdeal.nD Cert.WindowRefIdeal.τ).loc Cert.WindowRefIdeal.main_arg3) = m ((c.tc : Thread Cert.WindowIdeal.nD Cert.WindowIdeal.τ).loc Cert.WindowIdeal.main_arg3)
      ∧ m' ((c.tc : Thread Cert.WindowRefIdeal.nD Cert.WindowRefIdeal.τ).loc Cert.WindowRefIdeal.main_arg4) = m ((c.tc : Thread Cert.WindowIdeal.nD Cert.WindowIdeal.τ).loc Cert.WindowIdeal.main_arg4)
      ∧ m' ((c.tc : Thread Cert.WindowRefIdeal.nD Cert.WindowRefIdeal.τ).loc Cert.WindowRefIdeal.main_arg5) = m ((c.tc : Thread Cert.WindowIdeal.nD Cert.WindowIdeal.τ).loc Cert.WindowIdeal.main_arg5)) →
    ∃ (v0 : (c : Dev Cert.WindowIdeal.nD) → Buf (Elt Ideal) ((c.tc : Thread Cert.WindowIdeal.nD Cert.WindowIdeal.τ).loc Cert.WindowIdeal.main_v73)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          r.2.mem ((c.tc : Thread Cert.WindowIdeal.nD Cert.WindowIdeal.τ).loc Cert.WindowIdeal.main_v73) = v0 c
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
          ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
          ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3)
          ∧ r.2.mem ((c.tc : Thread Cert.WindowIdeal.nD Cert.WindowIdeal.τ).loc Cert.WindowIdeal.main_arg4) = m ((c.tc : Thread Cert.WindowIdeal.nD Cert.WindowIdeal.τ).loc Cert.WindowIdeal.main_arg4)
          ∧ r.2.mem ((c.tc : Thread Cert.WindowIdeal.nD Cert.WindowIdeal.τ).loc Cert.WindowIdeal.main_arg5) = m ((c.tc : Thread Cert.WindowIdeal.nD Cert.WindowIdeal.τ).loc Cert.WindowIdeal.main_arg5))
      ∧ θ_run (Cert.WindowRefIdeal.defs (F := Ideal)) (onTc (τ := Cert.WindowRefIdeal.τ) (Cert.WindowRefIdeal.main (F := Ideal))) ⟨m', fun _ => 0, g'⟩ (fun r => ∀ c : Dev Cert.WindowRefIdeal.nD,
          r.2.mem ((c.tc : Thread Cert.WindowRefIdeal.nD Cert.WindowRefIdeal.τ).loc Cert.WindowRefIdeal.main_v46) = v0 c
          ∧ r.2.mem ((c.tc : Thread Cert.WindowRefIdeal.nD Cert.WindowRefIdeal.τ).loc Cert.WindowRefIdeal.main_arg0) = m' ((c.tc : Thread Cert.WindowRefIdeal.nD Cert.WindowRefIdeal.τ).loc Cert.WindowRefIdeal.main_arg0)
          ∧ r.2.mem ((c.tc : Thread Cert.WindowRefIdeal.nD Cert.WindowRefIdeal.τ).loc Cert.WindowRefIdeal.main_arg1) = m' ((c.tc : Thread Cert.WindowRefIdeal.nD Cert.WindowRefIdeal.τ).loc Cert.WindowRefIdeal.main_arg1)
          ∧ r.2.mem ((c.tc : Thread Cert.WindowRefIdeal.nD Cert.WindowRefIdeal.τ).loc Cert.WindowRefIdeal.main_arg2) = m' ((c.tc : Thread Cert.WindowRefIdeal.nD Cert.WindowRefIdeal.τ).loc Cert.WindowRefIdeal.main_arg2)
          ∧ r.2.mem ((c.tc : Thread Cert.WindowRefIdeal.nD Cert.WindowRefIdeal.τ).loc Cert.WindowRefIdeal.main_arg3) = m' ((c.tc : Thread Cert.WindowRefIdeal.nD Cert.WindowRefIdeal.τ).loc Cert.WindowRefIdeal.main_arg3)
          ∧ r.2.mem ((c.tc : Thread Cert.WindowRefIdeal.nD Cert.WindowRefIdeal.τ).loc Cert.WindowRefIdeal.main_arg4) = m' ((c.tc : Thread Cert.WindowRefIdeal.nD Cert.WindowRefIdeal.τ).loc Cert.WindowRefIdeal.main_arg4)
          ∧ r.2.mem ((c.tc : Thread Cert.WindowRefIdeal.nD Cert.WindowRefIdeal.τ).loc Cert.WindowRefIdeal.main_arg5) = m' ((c.tc : Thread Cert.WindowRefIdeal.nD Cert.WindowRefIdeal.τ).loc Cert.WindowRefIdeal.main_arg5))

def preserves_SsdIn_SsdInIdeal : Prop :=
  True

def algebraic_SsdInIdeal_SsdInRefIdeal [hSsdInIdeal : Cert.SsdInIdeal.Facts] [hSsdInRefIdeal : Cert.SsdInRefIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInRefIdeal.nD Cert.SsdInRefIdeal.τ Cert.SsdInRefIdeal.sig) → Buf (Elt Ideal) ℓ) (g' : Dev Cert.SsdInRefIdeal.nD → PrngReg), Pre_SsdInIdeal m →
    (∀ c : Dev Cert.SsdInIdeal.nD,
      m' ((c.tc : Thread Cert.SsdInRefIdeal.nD Cert.SsdInRefIdeal.τ).loc Cert.SsdInRefIdeal.main_arg0) = m ((c.tc : Thread Cert.SsdInIdeal.nD Cert.SsdInIdeal.τ).loc Cert.SsdInIdeal.main_arg0)
      ∧ m' ((c.tc : Thread Cert.SsdInRefIdeal.nD Cert.SsdInRefIdeal.τ).loc Cert.SsdInRefIdeal.main_arg1) = m ((c.tc : Thread Cert.SsdInIdeal.nD Cert.SsdInIdeal.τ).loc Cert.SsdInIdeal.main_arg1)) →
    ∃ (v0 : (c : Dev Cert.SsdInIdeal.nD) → Buf (Elt Ideal) ((c.tc : Thread Cert.SsdInIdeal.nD Cert.SsdInIdeal.τ).loc Cert.SsdInIdeal.main_v1)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v1) = v0 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ θ_run (Cert.SsdInRefIdeal.defs (F := Ideal)) (onTc (τ := Cert.SsdInRefIdeal.τ) (Cert.SsdInRefIdeal.main (F := Ideal))) ⟨m', fun _ => 0, g'⟩ (fun r => ∀ c : Dev Cert.SsdInRefIdeal.nD,
          r.2.mem ((c.tc : Thread Cert.SsdInRefIdeal.nD Cert.SsdInRefIdeal.τ).loc Cert.SsdInRefIdeal.main_v3) = v0 c
          ∧ r.2.mem ((c.tc : Thread Cert.SsdInRefIdeal.nD Cert.SsdInRefIdeal.τ).loc Cert.SsdInRefIdeal.main_arg0) = m' ((c.tc : Thread Cert.SsdInRefIdeal.nD Cert.SsdInRefIdeal.τ).loc Cert.SsdInRefIdeal.main_arg0)
          ∧ r.2.mem ((c.tc : Thread Cert.SsdInRefIdeal.nD Cert.SsdInRefIdeal.τ).loc Cert.SsdInRefIdeal.main_arg1) = m' ((c.tc : Thread Cert.SsdInRefIdeal.nD Cert.SsdInRefIdeal.τ).loc Cert.SsdInRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v2) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_FnetOut_FnetOutIdeal : Prop :=
  True

def algebraic_FnetOutIdeal_FnetOutRefIdeal [hFnetOutIdeal : Cert.FnetOutIdeal.Facts] [hFnetOutRefIdeal : Cert.FnetOutRefIdeal.Facts] : Prop :=
  ∀ (m : (ℓ : Loc Cert.FnetOutIdeal.nD Cert.FnetOutIdeal.τ Cert.FnetOutIdeal.sig) → Buf (Elt Ideal) ℓ) (g : Dev Cert.FnetOutIdeal.nD → PrngReg)
    (m' : (ℓ : Loc Cert.FnetOutRefIdeal.nD Cert.FnetOutRefIdeal.τ Cert.FnetOutRefIdeal.sig) → Buf (Elt Ideal) ℓ) (g' : Dev Cert.FnetOutRefIdeal.nD → PrngReg), Pre_FnetOutIdeal m →
    (∀ c : Dev Cert.FnetOutIdeal.nD,
      m' ((c.tc : Thread Cert.FnetOutRefIdeal.nD Cert.FnetOutRefIdeal.τ).loc Cert.FnetOutRefIdeal.main_arg0) = m ((c.tc : Thread Cert.FnetOutIdeal.nD Cert.FnetOutIdeal.τ).loc Cert.FnetOutIdeal.main_arg0)
      ∧ m' ((c.tc : Thread Cert.FnetOutRefIdeal.nD Cert.FnetOutRefIdeal.τ).loc Cert.FnetOutRefIdeal.main_arg1) = m ((c.tc : Thread Cert.FnetOutIdeal.nD Cert.FnetOutIdeal.τ).loc Cert.FnetOutIdeal.main_arg1)
      ∧ m' ((c.tc : Thread Cert.FnetOutRefIdeal.nD Cert.FnetOutRefIdeal.τ).loc Cert.FnetOutRefIdeal.main_arg2) = m ((c.tc : Thread Cert.FnetOutIdeal.nD Cert.FnetOutIdeal.τ).loc Cert.FnetOutIdeal.main_arg2)
      ∧ m' ((c.tc : Thread Cert.FnetOutRefIdeal.nD Cert.FnetOutRefIdeal.τ).loc Cert.FnetOutRefIdeal.main_arg3) = m ((c.tc : Thread Cert.FnetOutIdeal.nD Cert.FnetOutIdeal.τ).loc Cert.FnetOutIdeal.main_arg3)
      ∧ m' ((c.tc : Thread Cert.FnetOutRefIdeal.nD Cert.FnetOutRefIdeal.τ).loc Cert.FnetOutRefIdeal.main_arg4) = m ((c.tc : Thread Cert.FnetOutIdeal.nD Cert.FnetOutIdeal.τ).loc Cert.FnetOutIdeal.main_arg4)) →
    ∃ (v0 : (c : Dev Cert.FnetOutIdeal.nD) → Buf (Elt Ideal) ((c.tc : Thread Cert.FnetOutIdeal.nD Cert.FnetOutIdeal.τ).loc Cert.FnetOutIdeal.main_v18)),
      θ_run (Cert.FnetOutIdeal.defs (F := Ideal)) (onTc (τ := Cert.FnetOutIdeal.τ) (Cert.FnetOutIdeal.main (F := Ideal))) ⟨m, fun _ => 0, g⟩ (fun r => ∀ c : Dev Cert.FnetOutIdeal.nD,
          r.2.mem ((c.tc : Thread Cert.FnetOutIdeal.nD Cert.FnetOutIdeal.τ).loc Cert.FnetOutIdeal.main_v18) = v0 c
          ∧ r.2.mem ((c.tc : Thread Cert.FnetOutIdeal.nD Cert.FnetOutIdeal.τ).loc Cert.FnetOutIdeal.main_arg0) = m ((c.tc : Thread Cert.FnetOutIdeal.nD Cert.FnetOutIdeal.τ).loc Cert.FnetOutIdeal.main_arg0)
          ∧ r.2.mem ((c.tc : Thread Cert.FnetOutIdeal.nD Cert.FnetOutIdeal.τ).loc Cert.FnetOutIdeal.main_arg1) = m ((c.tc : Thread Cert.FnetOutIdeal.nD Cert.FnetOutIdeal.τ).loc Cert.FnetOutIdeal.main_arg1)
          ∧ r.2.mem ((c.tc : Thread Cert.FnetOutIdeal.nD Cert.FnetOutIdeal.τ).loc Cert.FnetOutIdeal.main_arg2) = m ((c.tc : Thread Cert.FnetOutIdeal.nD Cert.FnetOutIdeal.τ).loc Cert.FnetOutIdeal.main_arg2)
          ∧ r.2.mem ((c.tc : Thread Cert.FnetOutIdeal.nD Cert.FnetOutIdeal.τ).loc Cert.FnetOutIdeal.main_arg3) = m ((c.tc : Thread Cert.FnetOutIdeal.nD Cert.FnetOutIdeal.τ).loc Cert.FnetOutIdeal.main_arg3)
          ∧ r.2.mem ((c.tc : Thread Cert.FnetOutIdeal.nD Cert.FnetOutIdeal.τ).loc Cert.FnetOutIdeal.main_arg4) = m ((c.tc : Thread Cert.FnetOutIdeal.nD Cert.FnetOutIdeal.τ).loc Cert.FnetOutIdeal.main_arg4))
      ∧ θ_run (Cert.FnetOutRefIdeal.defs (F := Ideal)) (onTc (τ := Cert.FnetOutRefIdeal.τ) (Cert.FnetOutRefIdeal.main (F := Ideal))) ⟨m', fun _ => 0, g'⟩ (fun r => ∀ c : Dev Cert.FnetOutRefIdeal.nD,
          r.2.mem ((c.tc : Thread Cert.FnetOutRefIdeal.nD Cert.FnetOutRefIdeal.τ).loc Cert.FnetOutRefIdeal.main_v28) = v0 c
          ∧ r.2.mem ((c.tc : Thread Cert.FnetOutRefIdeal.nD Cert.FnetOutRefIdeal.τ).loc Cert.FnetOutRefIdeal.main_arg0) = m' ((c.tc : Thread Cert.FnetOutRefIdeal.nD Cert.FnetOutRefIdeal.τ).loc Cert.FnetOutRefIdeal.main_arg0)
          ∧ r.2.mem ((c.tc : Thread Cert.FnetOutRefIdeal.nD Cert.FnetOutRefIdeal.τ).loc Cert.FnetOutRefIdeal.main_arg1) = m' ((c.tc : Thread Cert.FnetOutRefIdeal.nD Cert.FnetOutRefIdeal.τ).loc Cert.FnetOutRefIdeal.main_arg1)
          ∧ r.2.mem ((c.tc : Thread Cert.FnetOutRefIdeal.nD Cert.FnetOutRefIdeal.τ).loc Cert.FnetOutRefIdeal.main_arg2) = m' ((c.tc : Thread Cert.FnetOutRefIdeal.nD Cert.FnetOutRefIdeal.τ).loc Cert.FnetOutRefIdeal.main_arg2)
          ∧ r.2.mem ((c.tc : Thread Cert.FnetOutRefIdeal.nD Cert.FnetOutRefIdeal.τ).loc Cert.FnetOutRefIdeal.main_arg3) = m' ((c.tc : Thread Cert.FnetOutRefIdeal.nD Cert.FnetOutRefIdeal.τ).loc Cert.FnetOutRefIdeal.main_arg3)
          ∧ r.2.mem ((c.tc : Thread Cert.FnetOutRefIdeal.nD Cert.FnetOutRefIdeal.τ).loc Cert.FnetOutRefIdeal.main_arg4) = m' ((c.tc : Thread Cert.FnetOutRefIdeal.nD Cert.FnetOutRefIdeal.τ).loc Cert.FnetOutRefIdeal.main_arg4))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v15)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v15) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v22) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3))

def preserves_SsdOut_SsdOutIdeal : Prop :=
  True

def algebraic_SsdOutIdeal_SsdOutRefIdeal [hSsdOutIdeal : Cert.SsdOutIdeal.Facts] [hSsdOutRefIdeal : Cert.SsdOutRefIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutRefIdeal.nD Cert.SsdOutRefIdeal.τ Cert.SsdOutRefIdeal.sig) → Buf (Elt Ideal) ℓ) (g' : Dev Cert.SsdOutRefIdeal.nD → PrngReg), Pre_SsdOutIdeal m →
    (∀ c : Dev Cert.SsdOutIdeal.nD,
      m' ((c.tc : Thread Cert.SsdOutRefIdeal.nD Cert.SsdOutRefIdeal.τ).loc Cert.SsdOutRefIdeal.main_arg0) = m ((c.tc : Thread Cert.SsdOutIdeal.nD Cert.SsdOutIdeal.τ).loc Cert.SsdOutIdeal.main_arg0)
      ∧ m' ((c.tc : Thread Cert.SsdOutRefIdeal.nD Cert.SsdOutRefIdeal.τ).loc Cert.SsdOutRefIdeal.main_arg1) = m ((c.tc : Thread Cert.SsdOutIdeal.nD Cert.SsdOutIdeal.τ).loc Cert.SsdOutIdeal.main_arg1)
      ∧ m' ((c.tc : Thread Cert.SsdOutRefIdeal.nD Cert.SsdOutRefIdeal.τ).loc Cert.SsdOutRefIdeal.main_arg2) = m ((c.tc : Thread Cert.SsdOutIdeal.nD Cert.SsdOutIdeal.τ).loc Cert.SsdOutIdeal.main_arg2)
      ∧ m' ((c.tc : Thread Cert.SsdOutRefIdeal.nD Cert.SsdOutRefIdeal.τ).loc Cert.SsdOutRefIdeal.main_arg3) = m ((c.tc : Thread Cert.SsdOutIdeal.nD Cert.SsdOutIdeal.τ).loc Cert.SsdOutIdeal.main_arg3)) →
    ∃ (v0 : (c : Dev Cert.SsdOutIdeal.nD) → Buf (Elt Ideal) ((c.tc : Thread Cert.SsdOutIdeal.nD Cert.SsdOutIdeal.τ).loc Cert.SsdOutIdeal.main_v15)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v15) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
          ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3))
      ∧ θ_run (Cert.SsdOutRefIdeal.defs (F := Ideal)) (onTc (τ := Cert.SsdOutRefIdeal.τ) (Cert.SsdOutRefIdeal.main (F := Ideal))) ⟨m', fun _ => 0, g'⟩ (fun r => ∀ c : Dev Cert.SsdOutRefIdeal.nD,
          r.2.mem ((c.tc : Thread Cert.SsdOutRefIdeal.nD Cert.SsdOutRefIdeal.τ).loc Cert.SsdOutRefIdeal.main_v22) = v0 c
          ∧ r.2.mem ((c.tc : Thread Cert.SsdOutRefIdeal.nD Cert.SsdOutRefIdeal.τ).loc Cert.SsdOutRefIdeal.main_arg0) = m' ((c.tc : Thread Cert.SsdOutRefIdeal.nD Cert.SsdOutRefIdeal.τ).loc Cert.SsdOutRefIdeal.main_arg0)
          ∧ r.2.mem ((c.tc : Thread Cert.SsdOutRefIdeal.nD Cert.SsdOutRefIdeal.τ).loc Cert.SsdOutRefIdeal.main_arg1) = m' ((c.tc : Thread Cert.SsdOutRefIdeal.nD Cert.SsdOutRefIdeal.τ).loc Cert.SsdOutRefIdeal.main_arg1)
          ∧ r.2.mem ((c.tc : Thread Cert.SsdOutRefIdeal.nD Cert.SsdOutRefIdeal.τ).loc Cert.SsdOutRefIdeal.main_arg2) = m' ((c.tc : Thread Cert.SsdOutRefIdeal.nD Cert.SsdOutRefIdeal.τ).loc Cert.SsdOutRefIdeal.main_arg2)
          ∧ r.2.mem ((c.tc : Thread Cert.SsdOutRefIdeal.nD Cert.SsdOutRefIdeal.τ).loc Cert.SsdOutRefIdeal.main_arg3) = m' ((c.tc : Thread Cert.SsdOutRefIdeal.nD Cert.SsdOutRefIdeal.τ).loc Cert.SsdOutRefIdeal.main_arg3))

def preserves_MoeUp_MoeUpIdeal : Prop :=
  True

def algebraic_MoeUpIdeal_MoeUpRefIdeal [hMoeUpIdeal : Cert.MoeUpIdeal.Facts] [hMoeUpRefIdeal : Cert.MoeUpRefIdeal.Facts] [hPre_experts : Cert.Pre_experts.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpRefIdeal.nD Cert.MoeUpRefIdeal.τ Cert.MoeUpRefIdeal.sig) → Buf (Elt Ideal) ℓ) (g' : Dev Cert.MoeUpRefIdeal.nD → PrngReg), Pre_MoeUpIdeal m →
    (∀ c : Dev Cert.MoeUpIdeal.nD,
      m' ((c.tc : Thread Cert.MoeUpRefIdeal.nD Cert.MoeUpRefIdeal.τ).loc Cert.MoeUpRefIdeal.main_arg0) = m ((c.tc : Thread Cert.MoeUpIdeal.nD Cert.MoeUpIdeal.τ).loc Cert.MoeUpIdeal.main_arg0)
      ∧ m' ((c.tc : Thread Cert.MoeUpRefIdeal.nD Cert.MoeUpRefIdeal.τ).loc Cert.MoeUpRefIdeal.main_arg1) = m ((c.tc : Thread Cert.MoeUpIdeal.nD Cert.MoeUpIdeal.τ).loc Cert.MoeUpIdeal.main_arg1)
      ∧ m' ((c.tc : Thread Cert.MoeUpRefIdeal.nD Cert.MoeUpRefIdeal.τ).loc Cert.MoeUpRefIdeal.main_arg2) = m ((c.tc : Thread Cert.MoeUpIdeal.nD Cert.MoeUpIdeal.τ).loc Cert.MoeUpIdeal.main_arg2)
      ∧ m' ((c.tc : Thread Cert.MoeUpRefIdeal.nD Cert.MoeUpRefIdeal.τ).loc Cert.MoeUpRefIdeal.main_arg3) = m ((c.tc : Thread Cert.MoeUpIdeal.nD Cert.MoeUpIdeal.τ).loc Cert.MoeUpIdeal.main_arg3)
      ∧ m' ((c.tc : Thread Cert.MoeUpRefIdeal.nD Cert.MoeUpRefIdeal.τ).loc Cert.MoeUpRefIdeal.main_arg4) = m ((c.tc : Thread Cert.MoeUpIdeal.nD Cert.MoeUpIdeal.τ).loc Cert.MoeUpIdeal.main_arg4)) →
    ∃ (v0 : (c : Dev Cert.MoeUpIdeal.nD) → Buf (Elt Ideal) ((c.tc : Thread Cert.MoeUpIdeal.nD Cert.MoeUpIdeal.τ).loc Cert.MoeUpIdeal.main_v1)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v1) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ θ_run (Cert.MoeUpRefIdeal.defs (F := Ideal)) (onTc (τ := Cert.MoeUpRefIdeal.τ) (Cert.MoeUpRefIdeal.main (F := Ideal))) ⟨m', fun _ => 0, g'⟩ (fun r => ∀ c : Dev Cert.MoeUpRefIdeal.nD,
          r.2.mem ((c.tc : Thread Cert.MoeUpRefIdeal.nD Cert.MoeUpRefIdeal.τ).loc Cert.MoeUpRefIdeal.main_v48) = v0 c
          ∧ r.2.mem ((c.tc : Thread Cert.MoeUpRefIdeal.nD Cert.MoeUpRefIdeal.τ).loc Cert.MoeUpRefIdeal.main_arg0) = m' ((c.tc : Thread Cert.MoeUpRefIdeal.nD Cert.MoeUpRefIdeal.τ).loc Cert.MoeUpRefIdeal.main_arg0)
          ∧ r.2.mem ((c.tc : Thread Cert.MoeUpRefIdeal.nD Cert.MoeUpRefIdeal.τ).loc Cert.MoeUpRefIdeal.main_arg1) = m' ((c.tc : Thread Cert.MoeUpRefIdeal.nD Cert.MoeUpRefIdeal.τ).loc Cert.MoeUpRefIdeal.main_arg1)
          ∧ r.2.mem ((c.tc : Thread Cert.MoeUpRefIdeal.nD Cert.MoeUpRefIdeal.τ).loc Cert.MoeUpRefIdeal.main_arg2) = m' ((c.tc : Thread Cert.MoeUpRefIdeal.nD Cert.MoeUpRefIdeal.τ).loc Cert.MoeUpRefIdeal.main_arg2)
          ∧ r.2.mem ((c.tc : Thread Cert.MoeUpRefIdeal.nD Cert.MoeUpRefIdeal.τ).loc Cert.MoeUpRefIdeal.main_arg3) = m' ((c.tc : Thread Cert.MoeUpRefIdeal.nD Cert.MoeUpRefIdeal.τ).loc Cert.MoeUpRefIdeal.main_arg3)
          ∧ r.2.mem ((c.tc : Thread Cert.MoeUpRefIdeal.nD Cert.MoeUpRefIdeal.τ).loc Cert.MoeUpRefIdeal.main_arg4) = m' ((c.tc : Thread Cert.MoeUpRefIdeal.nD Cert.MoeUpRefIdeal.τ).loc Cert.MoeUpRefIdeal.main_arg4))

def preserves_MoeDown_MoeDownIdeal : Prop :=
  True

def algebraic_MoeDownIdeal_MoeDownRefIdeal [hMoeDownIdeal : Cert.MoeDownIdeal.Facts] [hMoeDownRefIdeal : Cert.MoeDownRefIdeal.Facts] [hPre_experts_down : Cert.Pre_experts_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)
      ∧ m' ((c.tc : Thread Cert.MoeDownRefIdeal.nD Cert.MoeDownRefIdeal.τ).loc Cert.MoeDownRefIdeal.main_arg4) = m ((c.tc : Thread Cert.MoeDownIdeal.nD Cert.MoeDownIdeal.τ).loc Cert.MoeDownIdeal.main_arg4)) →
    ∃ (v0 : (c : Dev Cert.MoeDownIdeal.nD) → Buf (Elt Ideal) ((c.tc : Thread Cert.MoeDownIdeal.nD Cert.MoeDownIdeal.τ).loc Cert.MoeDownIdeal.main_v1)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v1) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
          ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v31) = v0 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3)
          ∧ r.2.mem ((c.tc : Thread Cert.MoeDownRefIdeal.nD Cert.MoeDownRefIdeal.τ).loc Cert.MoeDownRefIdeal.main_arg4) = m' ((c.tc : Thread Cert.MoeDownRefIdeal.nD Cert.MoeDownRefIdeal.τ).loc Cert.MoeDownRefIdeal.main_arg4))

def Claim : Prop :=
  ∃ (hWindow : Cert.Window.Facts) (hWindowIdeal : Cert.WindowIdeal.Facts) (hWindowRefIdeal : Cert.WindowRefIdeal.Facts) (hSsdIn : Cert.SsdIn.Facts) (hSsdInIdeal : Cert.SsdInIdeal.Facts) (hSsdInRefIdeal : Cert.SsdInRefIdeal.Facts) (hQkv : Cert.Qkv.Facts) (hQkvIdeal : Cert.QkvIdeal.Facts) (hQkvRefIdeal : Cert.QkvRefIdeal.Facts) (hFnetOut : Cert.FnetOut.Facts) (hFnetOutIdeal : Cert.FnetOutIdeal.Facts) (hFnetOutRefIdeal : Cert.FnetOutRefIdeal.Facts) (hAttnOut : Cert.AttnOut.Facts) (hAttnOutIdeal : Cert.AttnOutIdeal.Facts) (hAttnOutRefIdeal : Cert.AttnOutRefIdeal.Facts) (hSsdOut : Cert.SsdOut.Facts) (hSsdOutIdeal : Cert.SsdOutIdeal.Facts) (hSsdOutRefIdeal : Cert.SsdOutRefIdeal.Facts) (hMoeUp : Cert.MoeUp.Facts) (hMoeUpIdeal : Cert.MoeUpIdeal.Facts) (hMoeUpRefIdeal : Cert.MoeUpRefIdeal.Facts) (hMoeDown : Cert.MoeDown.Facts) (hMoeDownIdeal : Cert.MoeDownIdeal.Facts) (hMoeDownRefIdeal : Cert.MoeDownRefIdeal.Facts) (hPre_finite : Cert.Pre_finite.Facts) (hPre_experts : Cert.Pre_experts.Facts) (hPre_experts_down : Cert.Pre_experts_down.Facts),
    quiescent_Window (hWindow := hWindow)
    ∧ quiescent_WindowIdeal (hWindowIdeal := hWindowIdeal)
    ∧ quiescent_WindowIdeal_pre_finite (hWindowIdeal := hWindowIdeal) (hPre_finite := hPre_finite)
    ∧ quiescent_WindowRefIdeal (hWindowRefIdeal := hWindowRefIdeal)
    ∧ quiescent_WindowRefIdeal_pre_finite (hWindowRefIdeal := hWindowRefIdeal) (hPre_finite := hPre_finite)
    ∧ quiescent_SsdIn (hSsdIn := hSsdIn)
    ∧ quiescent_SsdInIdeal (hSsdInIdeal := hSsdInIdeal)
    ∧ quiescent_SsdInRefIdeal (hSsdInRefIdeal := hSsdInRefIdeal)
    ∧ quiescent_Qkv (hQkv := hQkv)
    ∧ quiescent_QkvIdeal (hQkvIdeal := hQkvIdeal)
    ∧ quiescent_QkvRefIdeal (hQkvRefIdeal := hQkvRefIdeal)
    ∧ quiescent_FnetOut (hFnetOut := hFnetOut)
    ∧ quiescent_FnetOutIdeal (hFnetOutIdeal := hFnetOutIdeal)
    ∧ quiescent_FnetOutRefIdeal (hFnetOutRefIdeal := hFnetOutRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_SsdOut (hSsdOut := hSsdOut)
    ∧ quiescent_SsdOutIdeal (hSsdOutIdeal := hSsdOutIdeal)
    ∧ quiescent_SsdOutRefIdeal (hSsdOutRefIdeal := hSsdOutRefIdeal)
    ∧ quiescent_MoeUp (hMoeUp := hMoeUp) (hPre_experts := hPre_experts)
    ∧ quiescent_MoeUpIdeal (hMoeUpIdeal := hMoeUpIdeal) (hPre_experts := hPre_experts)
    ∧ quiescent_MoeUpRefIdeal (hMoeUpRefIdeal := hMoeUpRefIdeal)
    ∧ quiescent_MoeUpRefIdeal_pre_experts (hMoeUpRefIdeal := hMoeUpRefIdeal) (hPre_experts := hPre_experts)
    ∧ quiescent_MoeDown (hMoeDown := hMoeDown) (hPre_experts_down := hPre_experts_down)
    ∧ quiescent_MoeDownIdeal (hMoeDownIdeal := hMoeDownIdeal) (hPre_experts_down := hPre_experts_down)
    ∧ quiescent_MoeDownRefIdeal (hMoeDownRefIdeal := hMoeDownRefIdeal)
    ∧ quiescent_MoeDownRefIdeal_pre_experts_down (hMoeDownRefIdeal := hMoeDownRefIdeal) (hPre_experts_down := hPre_experts_down)
    ∧ preserves_Window_WindowIdeal
    ∧ algebraic_WindowIdeal_WindowRefIdeal_pre_finite (hWindowIdeal := hWindowIdeal) (hWindowRefIdeal := hWindowRefIdeal) (hPre_finite := hPre_finite)
    ∧ preserves_SsdIn_SsdInIdeal
    ∧ algebraic_SsdInIdeal_SsdInRefIdeal (hSsdInIdeal := hSsdInIdeal) (hSsdInRefIdeal := hSsdInRefIdeal)
    ∧ preserves_Qkv_QkvIdeal
    ∧ algebraic_QkvIdeal_QkvRefIdeal (hQkvIdeal := hQkvIdeal) (hQkvRefIdeal := hQkvRefIdeal)
    ∧ preserves_FnetOut_FnetOutIdeal
    ∧ algebraic_FnetOutIdeal_FnetOutRefIdeal (hFnetOutIdeal := hFnetOutIdeal) (hFnetOutRefIdeal := hFnetOutRefIdeal)
    ∧ preserves_AttnOut_AttnOutIdeal
    ∧ algebraic_AttnOutIdeal_AttnOutRefIdeal (hAttnOutIdeal := hAttnOutIdeal) (hAttnOutRefIdeal := hAttnOutRefIdeal)
    ∧ preserves_SsdOut_SsdOutIdeal
    ∧ algebraic_SsdOutIdeal_SsdOutRefIdeal (hSsdOutIdeal := hSsdOutIdeal) (hSsdOutRefIdeal := hSsdOutRefIdeal)
    ∧ preserves_MoeUp_MoeUpIdeal
    ∧ algebraic_MoeUpIdeal_MoeUpRefIdeal (hMoeUpIdeal := hMoeUpIdeal) (hMoeUpRefIdeal := hMoeUpRefIdeal) (hPre_experts := hPre_experts)
    ∧ preserves_MoeDown_MoeDownIdeal
    ∧ algebraic_MoeDownIdeal_MoeDownRefIdeal (hMoeDownIdeal := hMoeDownIdeal) (hMoeDownRefIdeal := hMoeDownRefIdeal) (hPre_experts_down := hPre_experts_down)
-- ==== Pre_experts.lean ====
abbrev S192 : Shape := ⟨1, ![192]⟩
abbrev S1 : Shape := ⟨1, ![1]⟩
abbrev S98304x4096 : Shape := ⟨2, ![98304, 4096]⟩
abbrev S4x32x4096x2048 : Shape := ⟨4, ![4, 32, 4096, 2048]⟩
abbrev S4x32x2048 : Shape := ⟨3, ![4, 32, 2048]⟩
abbrev S_ : Shape := ⟨0, ![]⟩

class Facts : Prop where
  bcast_S_S192 : S_.BroadcastsInDim S192 (![] : Fin 0 → Fin S192.rank)

variable [Facts]

def fn {F : FTy → Type} [FloatOps F] (main_arg0 : IVec S192 32) (main_arg1 : IVec S1 32) (main_arg2 : FVec F S98304x4096 .bf16) (main_arg3 : FVec F S4x32x4096x2048 .f32) (main_arg4 : FVec F S4x32x2048 .f32) : IVec S192 1 :=
  let main_c : IVec S_ 32 := constantI S_ 32 0#32
  let main_v0 : IVec S192 32 := broadcastInDim S192 ![] bcast_S_S192 main_c
  let main_v1 : IVec S192 1 := cmpi .sge main_arg0 main_v0
  let main_c_0 : IVec S_ 32 := constantI S_ 32 32#32
  let main_v2 : IVec S192 32 := broadcastInDim S192 ![] bcast_S_S192 main_c_0
  let main_v3 : IVec S192 1 := cmpi .slt main_arg0 main_v2
  let main_v4 : IVec S192 1 := andi main_v1 main_v3
  main_v4
-- ==== Pre_experts_down.lean ====
abbrev S192 : Shape := ⟨1, ![192]⟩
abbrev S1 : Shape := ⟨1, ![1]⟩
abbrev S98304x1024 : Shape := ⟨2, ![98304, 1024]⟩
abbrev S4x32x1024x4096 : Shape := ⟨4, ![4, 32, 1024, 4096]⟩
abbrev S4x32x4096 : Shape := ⟨3, ![4, 32, 4096]⟩
abbrev S_ : Shape := ⟨0, ![]⟩

class Facts : Prop where
  bcast_S_S192 : S_.BroadcastsInDim S192 (![] : Fin 0 → Fin S192.rank)

variable [Facts]

def fn {F : FTy → Type} [FloatOps F] (main_arg0 : IVec S192 32) (main_arg1 : IVec S1 32) (main_arg2 : FVec F S98304x1024 .bf16) (main_arg3 : FVec F S4x32x1024x4096 .f32) (main_arg4 : FVec F S4x32x4096 .f32) : IVec S192 1 :=
  let main_c : IVec S_ 32 := constantI S_ 32 0#32
  let main_v0 : IVec S192 32 := broadcastInDim S192 ![] bcast_S_S192 main_c
  let main_v1 : IVec S192 1 := cmpi .sge main_arg0 main_v0
  let main_c_0 : IVec S_ 32 := constantI S_ 32 32#32
  let main_v2 : IVec S192 32 := broadcastInDim S192 ![] bcast_S_S192 main_c_0
  let main_v3 : IVec S192 1 := cmpi .slt main_arg0 main_v2
  let main_v4 : IVec S192 1 := andi main_v1 main_v3
  main_v4
-- ==== Pre_finite.lean ====
abbrev S20480x4096 : Shape := ⟨2, ![20480, 4096]⟩
abbrev S20480x1024 : Shape := ⟨2, ![20480, 1024]⟩
abbrev S20480x6144 : Shape := ⟨2, ![20480, 6144]⟩
abbrev S8x1x512x8x128 : Shape := ⟨5, ![8, 1, 512, 8, 128]⟩
abbrev S1x32 : Shape := ⟨2, ![1, 32]⟩
abbrev S16384x4096 : Shape := ⟨2, ![16384, 4096]⟩
abbrev S_ : Shape := ⟨0, ![]⟩
abbrev S16384x1024 : Shape := ⟨2, ![16384, 1024]⟩

class Facts : Prop where
  slices_S20480x4096_S16384x4096_4096_0 : S20480x4096.Slices ![4096, 0] S16384x4096
  bitsLt_bf16_f32 : FTy.bits .bf16 < FTy.bits .f32
  bcast_S_S16384x4096 : S_.BroadcastsInDim S16384x4096 (![] : Fin 0 → Fin S16384x4096.rank)
  slices_S20480x1024_S16384x1024_4096_0 : S20480x1024.Slices ![4096, 0] S16384x1024
  bcast_S_S16384x1024 : S_.BroadcastsInDim S16384x1024 (![] : Fin 0 → Fin S16384x1024.rank)
  bcast_S_S8x1x512x8x128 : S_.BroadcastsInDim S8x1x512x8x128 (![] : Fin 0 → Fin S8x1x512x8x128.rank)
  bcast_S_S1x32 : S_.BroadcastsInDim S1x32 (![] : Fin 0 → Fin S1x32.rank)

variable [Facts]

def fn {F : FTy → Type} [FloatOps F] (main_arg0 : FVec F S20480x4096 .bf16) (main_arg1 : FVec F S20480x1024 .f32) (main_arg2 : FVec F S20480x6144 .f32) (main_arg3 : FVec F S8x1x512x8x128 .f32) (main_arg4 : FVec F S8x1x512x8x128 .f32) (main_arg5 : FVec F S1x32 .f32) : IVec S16384x4096 1 × IVec S16384x1024 1 × IVec S8x1x512x8x128 1 × IVec S1x32 1 :=
  let main_v0 : FVec F S16384x4096 .bf16 := (extractStridedSlice S16384x4096 ![4096, 0] · slices_S20480x4096_S16384x4096_4096_0) main_arg0
  let main_v1 : FVec F S16384x4096 .f32 := (extf .f32 · bitsLt_bf16_f32) main_v0
  let main_v2 : FVec F S16384x4096 .f32 := Host.absf main_v1
  let main_cst : FVec F S_ .f32 := constant S_ .f32 0x7F800000#32
  let main_v3 : FVec F S16384x4096 .f32 := broadcastInDim S16384x4096 ![] bcast_S_S16384x4096 main_cst
  let main_v4 : IVec S16384x4096 1 := cmpf .olt main_v2 main_v3
  let main_v5 : FVec F S16384x1024 .f32 := (extractStridedSlice S16384x1024 ![4096, 0] · slices_S20480x1024_S16384x1024_4096_0) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_v9 : FVec F S8x1x512x8x128 .f32 := Host.absf main_arg3
  let main_cst_1 : FVec F S_ .f32 := constant S_ .f32 0x7F800000#32
  let main_v10 : FVec F S8x1x512x8x128 .f32 := broadcastInDim S8x1x512x8x128 ![] bcast_S_S8x1x512x8x128 main_cst_1
  let main_v11 : IVec S8x1x512x8x128 1 := cmpf .olt main_v9 main_v10
  let main_v12 : FVec F S1x32 .f32 := Host.absf main_arg5
  let main_cst_2 : FVec F S_ .f32 := constant S_ .f32 0x7F800000#32
  let main_v13 : FVec F S1x32 .f32 := broadcastInDim S1x32 ![] bcast_S_S1x32 main_cst_2
  let main_v14 : IVec S1x32 1 := cmpf .olt main_v12 main_v13
  (main_v4, main_v8, main_v11, main_v14)
-- ==== Window.lean ====
abbrev S20480x4096 : Shape := ⟨2, ![20480, 4096]⟩
abbrev S20480x1024 : Shape := ⟨2, ![20480, 1024]⟩
abbrev S20480x6144 : Shape := ⟨2, ![20480, 6144]⟩
abbrev S8x1x512x8x128 : Shape := ⟨5, ![8, 1, 512, 8, 128]⟩
abbrev S1x32 : Shape := ⟨2, ![1, 32]⟩
abbrev S8x512x8x128 : Shape := ⟨4, ![8, 512, 8, 128]⟩
abbrev S8x512x1024 : Shape := ⟨3, ![8, 512, 1024]⟩
abbrev S32 : Shape := ⟨1, ![32]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S1x128x384 : Shape := ⟨3, ![1, 128, 384]⟩
abbrev S3x128x384 : Shape := ⟨3, ![3, 128, 384]⟩
abbrev S16384x4096 : Shape := ⟨2, ![16384, 4096]⟩
abbrev S128x512 : Shape := ⟨2, ![128, 512]⟩
abbrev S128x128 : Shape := ⟨2, ![128, 128]⟩
abbrev S1x512x128 : Shape := ⟨3, ![1, 512, 128]⟩
abbrev S512x128 : Shape := ⟨2, ![512, 128]⟩
abbrev S1 : Shape := ⟨1, ![1]⟩
abbrev S512x1 : Shape := ⟨2, ![512, 1]⟩
abbrev S512x512 : Shape := ⟨2, ![512, 512]⟩
abbrev S512 : Shape := ⟨1, ![512]⟩
abbrev S384x128 : Shape := ⟨2, ![384, 128]⟩
abbrev S512x384 : Shape := ⟨2, ![512, 384]⟩
abbrev S4x128x384 : Shape := ⟨3, ![4, 128, 384]⟩

abbrev nBuf : Space → Nat
  | .hbm => 107
  | .vmem => 22
  | .smem => 1
  | _ => 0

abbrev bufTy : (tb : Table) → Fin (tcTables nBuf tb) → BufTy
  | .hbm, ⟨0, _⟩ => ⟨S20480x4096, .bf16⟩
  | .hbm, ⟨1, _⟩ => ⟨S20480x1024, .f32⟩
  | .hbm, ⟨2, _⟩ => ⟨S20480x6144, .f32⟩
  | .hbm, ⟨3, _⟩ => ⟨S8x1x512x8x128, .f32⟩
  | .hbm, ⟨4, _⟩ => ⟨S8x1x512x8x128, .f32⟩
  | .hbm, ⟨5, _⟩ => ⟨S1x32, .f32⟩
  | .hbm, ⟨6, _⟩ => ⟨S8x512x8x128, .f32⟩
  | .hbm, ⟨7, _⟩ => ⟨S8x512x1024, .f32⟩
  | .hbm, ⟨8, _⟩ => ⟨S8x512x8x128, .f32⟩
  | .hbm, ⟨9, _⟩ => ⟨S8x512x1024, .f32⟩
  | .hbm, ⟨10, _⟩ => ⟨S32, .f32⟩
  | .hbm, ⟨11, _⟩ => ⟨S128, .i32⟩
  | .hbm, ⟨12, _⟩ => ⟨S128x1, .i32⟩
  | .hbm, ⟨13, _⟩ => ⟨S384, .i32⟩
  | .hbm, ⟨14, _⟩ => ⟨S1x384, .i32⟩
  | .hbm, ⟨15, _⟩ => ⟨S_, .i32⟩
  | .hbm, ⟨16, _⟩ => ⟨S1x384, .i32⟩
  | .hbm, ⟨17, _⟩ => ⟨S1x384, .i32⟩
  | .hbm, ⟨18, _⟩ => ⟨S_, .i32⟩
  | .hbm, ⟨19, _⟩ => ⟨S128x1, .i32⟩
  | .hbm, ⟨20, _⟩ => ⟨S128x1, .i32⟩
  | .hbm, ⟨21, _⟩ => ⟨S128x384, .i32⟩
  | .hbm, ⟨22, _⟩ => ⟨S128x384, .i32⟩
  | .hbm, ⟨23, _⟩ => ⟨S128x384, .i32⟩
  | .hbm, ⟨24, _⟩ => ⟨S128x384, .i32⟩
  | .hbm, ⟨25, _⟩ => ⟨S_, .i32⟩
  | .hbm, ⟨26, _⟩ => ⟨S128x384, .i32⟩
  | .hbm, ⟨27, _⟩ => ⟨S128x384, .i1⟩
  | .hbm, ⟨28, _⟩ => ⟨S_, .i32⟩
  | .hbm, ⟨29, _⟩ => ⟨S1x384, .i32⟩
  | .hbm, ⟨30, _⟩ => ⟨S1x384, .i1⟩
  | .hbm, ⟨31, _⟩ => ⟨S128x384, .i1⟩
  | .hbm, ⟨32, _⟩ => ⟨S128x384, .i1⟩
  | .hbm, ⟨33, _⟩ => ⟨S_, .i32⟩
  | .hbm, ⟨34, _⟩ => ⟨S1x384, .i32⟩
  | .hbm, ⟨35, _⟩ => ⟨S1x384, .i1⟩
  | .hbm, ⟨36, _⟩ => ⟨S128x384, .i1⟩
  | .hbm, ⟨37, _⟩ => ⟨S128x384, .i1⟩
  | .hbm, ⟨38, _⟩ => ⟨S_, .f32⟩
  | .hbm, ⟨39, _⟩ => ⟨S_, .f32⟩
  | .hbm, ⟨40, _⟩ => ⟨S128x384, .f32⟩
  | .hbm, ⟨41, _⟩ => ⟨S128x384, .f32⟩
  | .hbm, ⟨42, _⟩ => ⟨S128x384, .f32⟩
  | .hbm, ⟨43, _⟩ => ⟨S128x384, .f32⟩
  | .hbm, ⟨44, _⟩ => ⟨S_, .i32⟩
  | .hbm, ⟨45, _⟩ => ⟨S1x384, .i32⟩
  | .hbm, ⟨46, _⟩ => ⟨S1x384, .i32⟩
  | .hbm, ⟨47, _⟩ => ⟨S_, .i32⟩
  | .hbm, ⟨48, _⟩ => ⟨S128x1, .i32⟩
  | .hbm, ⟨49, _⟩ => ⟨S128x1, .i32⟩
  | .hbm, ⟨50, _⟩ => ⟨S128x384, .i32⟩
  | .hbm, ⟨51, _⟩ => ⟨S128x384, .i32⟩
  | .hbm, ⟨52, _⟩ => ⟨S128x384, .i32⟩
  | .hbm, ⟨53, _⟩ => ⟨S128x384, .i32⟩
  | .hbm, ⟨54, _⟩ => ⟨S_, .i32⟩
  | .hbm, ⟨55, _⟩ => ⟨S128x384, .i32⟩
  | .hbm, ⟨56, _⟩ => ⟨S128x384, .i1⟩
  | .hbm, ⟨57, _⟩ => ⟨S_, .i32⟩
  | .hbm, ⟨58, _⟩ => ⟨S1x384, .i32⟩
  | .hbm, ⟨59, _⟩ => ⟨S1x384, .i1⟩
  | .hbm, ⟨60, _⟩ => ⟨S128x384, .i1⟩
  | .hbm, ⟨61, _⟩ => ⟨S128x384, .i1⟩
  | .hbm, ⟨62, _⟩ => ⟨S_, .i32⟩
  | .hbm, ⟨63, _⟩ => ⟨S1x384, .i32⟩
  | .hbm, ⟨64, _⟩ => ⟨S1x384, .i1⟩
  | .hbm, ⟨65, _⟩ => ⟨S128x384, .i1⟩
  | .hbm, ⟨66, _⟩ => ⟨S128x384, .i1⟩
  | .hbm, ⟨67, _⟩ => ⟨S_, .f32⟩
  | .hbm, ⟨68, _⟩ => ⟨S_, .f32⟩
  | .hbm, ⟨69, _⟩ => ⟨S128x384, .f32⟩
  | .hbm, ⟨70, _⟩ => ⟨S128x384, .f32⟩
  | .hbm, ⟨71, _⟩ => ⟨S128x384, .f32⟩
  | .hbm, ⟨72, _⟩ => ⟨S128x384, .f32⟩
  | .hbm, ⟨73, _⟩ => ⟨S_, .i32⟩
  | .hbm, ⟨74, _⟩ => ⟨S1x384, .i32⟩
  | .hbm, ⟨75, _⟩ => ⟨S1x384, .i32⟩
  | .hbm, ⟨76, _⟩ => ⟨S_, .i32⟩
  | .hbm, ⟨77, _⟩ => ⟨S128x1, .i32⟩
  | .hbm, ⟨78, _⟩ => ⟨S128x1, .i32⟩
  | .hbm, ⟨79, _⟩ => ⟨S128x384, .i32⟩
  | .hbm, ⟨80, _⟩ => ⟨S128x384, .i32⟩
  | .hbm, ⟨81, _⟩ => ⟨S128x384, .i32⟩
  | .hbm, ⟨82, _⟩ => ⟨S128x384, .i32⟩
  | .hbm, ⟨83, _⟩ => ⟨S_, .i32⟩
  | .hbm, ⟨84, _⟩ => ⟨S128x384, .i32⟩
  | .hbm, ⟨85, _⟩ => ⟨S128x384, .i1⟩
  | .hbm, ⟨86, _⟩ => ⟨S_, .i32⟩
  | .hbm, ⟨87, _⟩ => ⟨S1x384, .i32⟩
  | .hbm, ⟨88, _⟩ => ⟨S1x384, .i1⟩
  | .hbm, ⟨89, _⟩ => ⟨S128x384, .i1⟩
  | .hbm, ⟨90, _⟩ => ⟨S128x384, .i1⟩
  | .hbm, ⟨91, _⟩ => ⟨S_, .i32⟩
  | .hbm, ⟨92, _⟩ => ⟨S1x384, .i32⟩
  | .hbm, ⟨93, _⟩ => ⟨S1x384, .i1⟩
  | .hbm, ⟨94, _⟩ => ⟨S128x384, .i1⟩
  | .hbm, ⟨95, _⟩ => ⟨S128x384, .i1⟩
  | .hbm, ⟨96, _⟩ => ⟨S_, .f32⟩
  | .hbm, ⟨97, _⟩ => ⟨S_, .f32⟩
  | .hbm, ⟨98, _⟩ => ⟨S128x384, .f32⟩
  | .hbm, ⟨99, _⟩ => ⟨S128x384, .f32⟩
  | .hbm, ⟨100, _⟩ => ⟨S128x384, .f32⟩
  | .hbm, ⟨101, _⟩ => ⟨S128x384, .f32⟩
  | .hbm, ⟨102, _⟩ => ⟨S1x128x384, .f32⟩
  | .hbm, ⟨103, _⟩ => ⟨S1x128x384, .f32⟩
  | .hbm, ⟨104, _⟩ => ⟨S1x128x384, .f32⟩
  | .hbm, ⟨105, _⟩ => ⟨S3x128x384, .f32⟩
  | .hbm, ⟨106, _⟩ => ⟨S16384x4096, .bf16⟩
  | .local _ .vmem, ⟨0, _⟩ => ⟨S128x512, .bf16⟩
  | .local _ .vmem, ⟨1, _⟩ => ⟨S128x512, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1x128x384, .f32⟩
  | .local _ .vmem, ⟨15, _⟩ => ⟨S1x128x384, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S128x512, .bf16⟩
  | .local _ .vmem, ⟨21, _⟩ => ⟨S128x512, .bf16⟩
  | .local _ .smem, ⟨0, _⟩ => ⟨S32, .f32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_cst_11 : Ref sig .tc := ⟨.hbm, 68, rfl⟩
abbrev main_call1_v0 : Ref sig .tc := ⟨.hbm, 69, rfl⟩
abbrev main_call1_v1 : Ref sig .tc := ⟨.hbm, 70, rfl⟩
abbrev main_v47 : Ref sig .tc := ⟨.hbm, 71, rfl⟩
abbrev main_v48 : Ref sig .tc := ⟨.hbm, 72, rfl⟩
abbrev main_c_12 : Ref sig .tc := ⟨.hbm, 73, rfl⟩
abbrev main_v49 : Ref sig .tc := ⟨.hbm, 74, rfl⟩
abbrev main_v50 : Ref sig .tc := ⟨.hbm, 75, rfl⟩
abbrev main_c_13 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_14 : Ref sig .tc := ⟨.hbm, 83, rfl⟩
abbrev main_v57 : Ref sig .tc := ⟨.hbm, 84, rfl⟩
abbrev main_v58 : Ref sig .tc := ⟨.hbm, 85, rfl⟩
abbrev main_c_15 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_16 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_17 : Ref sig .tc := ⟨.hbm, 96, rfl⟩
abbrev main_cst_18 : Ref sig .tc := ⟨.hbm, 97, rfl⟩
abbrev main_call2_v0 : Ref sig .tc := ⟨.hbm, 98, rfl⟩
abbrev main_call2_v1 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![8, 8, 16], ![false, false, false]⟩

def k0_off1 (i : grid0.Coords) (c0_i32 : BitVec 32) : Fin 1 → Nat :=
  let arg1 : BitVec 32 := BitVec.ofNat 32 (i 1).val
  let c4_i32 : BitVec 32 := 4#32
  let v5 : BitVec 32 := Scalar.muli arg1 c4_i32
  let v6 : BitVec 32 := Scalar.addi v5 c0_i32
  let v7 : Index := Scalar.indexCast v6
  ![v7.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c32_i32 : BitVec 32 := 32#32
  let v1 : BitVec 32 := Scalar.addi c32_i32 v0
  let v2 : BitVec 32 := Scalar.addi v1 arg2
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c32_i32 : BitVec 32 := 32#32
  let v1 : BitVec 32 := Scalar.addi c32_i32 v0
  let c_m1_i32 : BitVec 32 := 4294967295#32
  let v2 : BitVec 32 := Scalar.addi arg2 c_m1_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v1 v4
  let c0_i32_0 : BitVec 32 := 0#32
  let v6 : BitVec 32 := Scalar.addi c0_i32_0 arg1
  let c0_i32_1 : BitVec 32 := 0#32
  ![v5.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c32_i32 : BitVec 32 := 32#32
  let v1 : BitVec 32 := Scalar.addi c32_i32 v0
  let c0_i32 : BitVec 32 := 0#32
  let v2 : BitVec 32 := Scalar.addi arg2 c0_i32
  let c0_i32_0 : BitVec 32 := 0#32
  let c15_i32 : BitVec 32 := 15#32
  let v3 : BitVec 32 := Scalar.maxsi c0_i32_0 v2
  let v4 : BitVec 32 := Scalar.minsi c15_i32 v3
  let v5 : BitVec 32 := Scalar.addi v1 v4
  let c0_i32_1 : BitVec 32 := 0#32
  let v6 : BitVec 32 := Scalar.addi c0_i32_1 arg1
  let c0_i32_2 : BitVec 32 := 0#32
  ![v5.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c32_i32 : BitVec 32 := 32#32
  let v1 : BitVec 32 := Scalar.addi c32_i32 v0
  let c1_i32 : BitVec 32 := 1#32
  let v2 : BitVec 32 := Scalar.addi arg2 c1_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v1 v4
  let c0_i32_0 : BitVec 32 := 0#32
  let v6 : BitVec 32 := Scalar.addi c0_i32_0 arg1
  let c0_i32_1 : BitVec 32 := 0#32
  ![v5.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c32_i32 : BitVec 32 := 32#32
  let v1 : BitVec 32 := Scalar.addi c32_i32 v0
  let c_m1_i32 : BitVec 32 := 4294967295#32
  let v2 : BitVec 32 := Scalar.addi arg2 c_m1_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v1 v4
  let c40_i32 : BitVec 32 := 40#32
  let v6 : BitVec 32 := Scalar.addi c40_i32 arg1
  let c0_i32_0 : BitVec 32 := 0#32
  ![v5.toNat, v6.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c32_i32 : BitVec 32 := 32#32
  let v1 : BitVec 32 := Scalar.addi c32_i32 v0
  let c0_i32 : BitVec 32 := 0#32
  let v2 : BitVec 32 := Scalar.addi arg2 c0_i32
  let c0_i32_0 : BitVec 32 := 0#32
  let c15_i32 : BitVec 32 := 15#32
  let v3 : BitVec 32 := Scalar.maxsi c0_i32_0 v2
  let v4 : BitVec 32 := Scalar.minsi c15_i32 v3
  let v5 : BitVec 32 := Scalar.addi v1 v4
  let c40_i32 : BitVec 32 := 40#32
  let v6 : BitVec 32 := Scalar.addi c40_i32 arg1
  let c0_i32_1 : BitVec 32 := 0#32
  ![v5.toNat, v6.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c32_i32 : BitVec 32 := 32#32
  let v1 : BitVec 32 := Scalar.addi c32_i32 v0
  let c1_i32 : BitVec 32 := 1#32
  let v2 : BitVec 32 := Scalar.addi arg2 c1_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v1 v4
  let c40_i32 : BitVec 32 := 40#32
  let v6 : BitVec 32 := Scalar.addi c40_i32 arg1
  let c0_i32_0 : BitVec 32 := 0#32
  ![v5.toNat, v6.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c15_i32 : BitVec 32 := 15#32
  let v1 : BitVec 1 := Scalar.cmpi .eq arg2 c15_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, c0_i32_1.toNat, c0_i32_2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== WindowRefIdeal.lean ====
abbrev S20480x4096 : Shape := ⟨2, ![20480, 4096]⟩
abbrev S20480x1024 : Shape := ⟨2, ![20480, 1024]⟩
abbrev S20480x6144 : Shape := ⟨2, ![20480, 6144]⟩
abbrev S8x1x512x8x128 : Shape := ⟨5, ![8, 1, 512, 8, 128]⟩
abbrev S1x32 : Shape := ⟨2, ![1, 32]⟩
abbrev S16384x4096 : Shape := ⟨2, ![16384, 4096]⟩
abbrev S8x2048x8x4x128 : Shape := ⟨5, ![8, 2048, 8, 4, 128]⟩
abbrev S16384x1024 : Shape := ⟨2, ![16384, 1024]⟩
abbrev S8x2048x8x128 : Shape := ⟨4, ![8, 2048, 8, 128]⟩
abbrev S8x512x8x128 : Shape := ⟨4, ![8, 512, 8, 128]⟩
abbrev S32 : Shape := ⟨1, ![32]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x512 : Shape := ⟨2, ![2048, 512]⟩
abbrev S2048x2560 : Shape := ⟨2, ![2048, 2560]⟩
abbrev S8x2560x8x128 : Shape := ⟨4, ![8, 2560, 8, 128]⟩
abbrev S8x8x2560x2048x4 : Shape := ⟨5, ![8, 8, 2560, 2048, 4]⟩
abbrev S8x8x4x2048x2560 : Shape := ⟨5, ![8, 8, 4, 2048, 2560]⟩
abbrev S1x8x4x1x1 : Shape := ⟨5, ![1, 8, 4, 1, 1]⟩
abbrev S8x8x4x2048x1 : Shape := ⟨5, ![8, 8, 4, 2048, 1]⟩
abbrev S8x8x4x2048x2561 : Shape := ⟨5, ![8, 8, 4, 2048, 2561]⟩
abbrev S8x8x4x2048 : Shape := ⟨4, ![8, 8, 4, 2048]⟩
abbrev S8x8x128x4x2048 : Shape := ⟨5, ![8, 8, 128, 4, 2048]⟩

abbrev nBuf : Space → Nat
  | .hbm => 63
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S20480x1024, .f32⟩
  | .hbm, ⟨2, _⟩ => ⟨S20480x6144, .f32⟩
  | .hbm, ⟨3, _⟩ => ⟨S8x1x512x8x128, .f32⟩
  | .hbm, ⟨4, _⟩ => ⟨S8x1x512x8x128, .f32⟩
  | .hbm, ⟨5, _⟩ => ⟨S1x32, .f32⟩
  | .hbm, ⟨6, _⟩ => ⟨S16384x4096, .bf16⟩
  | .hbm, ⟨7, _⟩ => ⟨S16384x4096, .f32⟩
  | .hbm, ⟨8, _⟩ => ⟨S8x2048x8x4x128, .f32⟩
  | .hbm, ⟨9, _⟩ => ⟨S16384x1024, .f32⟩
  | .hbm, ⟨10, _⟩ => ⟨S8x2048x8x128, .f32⟩
  | .hbm, ⟨11, _⟩ => ⟨S16384x1024, .f32⟩
  | .hbm, ⟨12, _⟩ => ⟨S8x2048x8x128, .f32⟩
  | .hbm, ⟨13, _⟩ => ⟨S8x512x8x128, .f32⟩
  | .hbm, ⟨14, _⟩ => ⟨S8x512x8x128, .f32⟩
  | .hbm, ⟨15, _⟩ => ⟨S32, .f32⟩
  | .hbm, ⟨16, _⟩ => ⟨S2048, .i32⟩
  | .hbm, ⟨17, _⟩ => ⟨S2048x1, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i1⟩
  | .hbm, ⟨26, _⟩ => ⟨S_, .i1⟩
  | .hbm, ⟨27, _⟩ => ⟨S2048x512, .i1⟩
  | .hbm, ⟨28, _⟩ => ⟨S2048x2560, .i1⟩
  | .hbm, ⟨29, _⟩ => ⟨S8x2560x8x128, .f32⟩
  | .hbm, ⟨30, _⟩ => ⟨S8x2560x8x128, .f32⟩
  | .hbm, ⟨31, _⟩ => ⟨S8x8x2560x2048x4, .f32⟩
  | .hbm, ⟨32, _⟩ => ⟨S8x8x4x2048x2560, .f32⟩
  | .hbm, ⟨33, _⟩ => ⟨S_, .f32⟩
  | .hbm, ⟨34, _⟩ => ⟨S8x8x4x2048x2560, .f32⟩
  | .hbm, ⟨35, _⟩ => ⟨S8x8x4x2048x2560, .f32⟩
  | .hbm, ⟨36, _⟩ => ⟨S_, .f32⟩
  | .hbm, ⟨37, _⟩ => ⟨S_, .f32⟩
  | .hbm, ⟨38, _⟩ => ⟨S8x8x4x2048x2560, .i1⟩
  | .hbm, ⟨39, _⟩ => ⟨S8x8x4x2048x2560, .f32⟩
  | .hbm, ⟨40, _⟩ => ⟨S8x8x4x2048x2560, .f32⟩
  | .hbm, ⟨41, _⟩ => ⟨S1x8x4x1x1, .f32⟩
  | .hbm, ⟨42, _⟩ => ⟨S8x8x4x2048x1, .f32⟩
  | .hbm, ⟨43, _⟩ => ⟨S8x8x4x2048x2561, .f32⟩
  | .hbm, ⟨44, _⟩ => ⟨S_, .f32⟩
  | .hbm, ⟨45, _⟩ => ⟨S8x8x4x2048, .f32⟩
  | .hbm, ⟨46, _⟩ => ⟨S_, .f32⟩
  | .hbm, ⟨47, _⟩ => ⟨S8x8x4x2048, .f32⟩
  | .hbm, ⟨48, _⟩ => ⟨S8x8x4x2048, .f32⟩
  | .hbm, ⟨49, _⟩ => ⟨S8x8x4x2048x1, .f32⟩
  | .hbm, ⟨50, _⟩ => ⟨S8x8x4x2048x2561, .f32⟩
  | .hbm, ⟨51, _⟩ => ⟨S8x8x4x2048x2561, .f32⟩
  | .hbm, ⟨52, _⟩ => ⟨S8x8x4x2048x2561, .f32⟩
  | .hbm, ⟨53, _⟩ => ⟨S_, .f32⟩
  | .hbm, ⟨54, _⟩ => ⟨S8x8x4x2048, .f32⟩
  | .hbm, ⟨55, _⟩ => ⟨S8x8x4x2048x1, .f32⟩
  | .hbm, ⟨56, _⟩ => ⟨S8x8x4x2048x2561, .f32⟩
  | .hbm, ⟨57, _⟩ => ⟨S8x8x4x2048x2561, .f32⟩
  | .hbm, ⟨58, _⟩ => ⟨S8x8x4x2048x2560, .f32⟩
  | .hbm, ⟨59, _⟩ => ⟨S8x8x128x4x2048, .f32⟩
  | .hbm, ⟨60, _⟩ => ⟨S8x2048x8x4x128, .f32⟩
  | .hbm, ⟨61, _⟩ => ⟨S16384x4096, .f32⟩
  | .hbm, ⟨62, _⟩ => ⟨S16384x4096, .bf16⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== SsdIn.lean ====
abbrev S20480x4096 : Shape := ⟨2, ![20480, 4096]⟩
abbrev S1x4096x18688 : Shape := ⟨3, ![1, 4096, 18688]⟩
abbrev S20480x18432 : Shape := ⟨2, ![20480, 18432]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S20480x4096, .bf16⟩
  | .hbm, ⟨1, _⟩ => ⟨S1x4096x18688, .f32⟩
  | .hbm, ⟨2, _⟩ => ⟨S1x4096x18688, .bf16⟩
  | .hbm, ⟨3, _⟩ => ⟨S20480x18432, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 18, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdInRefIdeal.lean ====
abbrev S20480x4096 : Shape := ⟨2, ![20480, 4096]⟩
abbrev S1x4096x18688 : Shape := ⟨3, ![1, 4096, 18688]⟩
abbrev S4096x18688 : Shape := ⟨2, ![4096, 18688]⟩
abbrev S20480x18688 : Shape := ⟨2, ![20480, 18688]⟩
abbrev S20480x18432 : Shape := ⟨2, ![20480, 18432]⟩

abbrev nBuf : Space → Nat
  | .hbm => 6
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S1x4096x18688, .f32⟩
  | .hbm, ⟨2, _⟩ => ⟨S20480x4096, .f32⟩
  | .hbm, ⟨3, _⟩ => ⟨S4096x18688, .f32⟩
  | .hbm, ⟨4, _⟩ => ⟨S20480x18688, .f32⟩
  | .hbm, ⟨5, _⟩ => ⟨S20480x18432, .f32⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Qkv.lean ====
abbrev S20480x4096 : Shape := ⟨2, ![20480, 4096]⟩
abbrev S1x4096x6144 : Shape := ⟨3, ![1, 4096, 6144]⟩
abbrev S20480x6144 : Shape := ⟨2, ![20480, 6144]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S20480x4096, .bf16⟩
  | .hbm, ⟨1, _⟩ => ⟨S1x4096x6144, .f32⟩
  | .hbm, ⟨2, _⟩ => ⟨S1x4096x6144, .bf16⟩
  | .hbm, ⟨3, _⟩ => ⟨S20480x6144, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 6, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S20480x4096 : Shape := ⟨2, ![20480, 4096]⟩
abbrev S1x4096x6144 : Shape := ⟨3, ![1, 4096, 6144]⟩
abbrev S4096x6144 : Shape := ⟨2, ![4096, 6144]⟩
abbrev S20480x6144 : Shape := ⟨2, ![20480, 6144]⟩

abbrev nBuf : Space → Nat
  | .hbm => 5
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S1x4096x6144, .f32⟩
  | .hbm, ⟨2, _⟩ => ⟨S20480x4096, .f32⟩
  | .hbm, ⟨3, _⟩ => ⟨S4096x6144, .f32⟩
  | .hbm, ⟨4, _⟩ => ⟨S20480x6144, .f32⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FnetOut.lean ====
abbrev S20480x4096 : Shape := ⟨2, ![20480, 4096]⟩
abbrev S2x4096x4096 : Shape := ⟨3, ![2, 4096, 4096]⟩
abbrev S2x4096 : Shape := ⟨2, ![2, 4096]⟩
abbrev S16x24576 : Shape := ⟨2, ![16, 24576]⟩
abbrev S1x4096 : Shape := ⟨2, ![1, 4096]⟩
abbrev S4096 : Shape := ⟨1, ![4096]⟩
abbrev S_ : Shape := ⟨0, ![]⟩
abbrev S16 : Shape := ⟨1, ![16]⟩
abbrev S64 : Shape := ⟨1, ![64]⟩
abbrev S80 : Shape := ⟨1, ![80]⟩
abbrev S80x1 : Shape := ⟨2, ![80, 1]⟩
abbrev S80x24576 : Shape := ⟨2, ![80, 24576]⟩
abbrev S80x1x24576 : Shape := ⟨3, ![80, 1, 24576]⟩
abbrev S1024x1024 : Shape := ⟨2, ![1024, 1024]⟩
abbrev S1x1024x1024 : Shape := ⟨3, ![1, 1024, 1024]⟩
abbrev S1x1024 : Shape := ⟨2, ![1, 1024]⟩
abbrev S4x1x1024 : Shape := ⟨3, ![4, 1, 1024]⟩
abbrev S4x256x1024 : Shape := ⟨3, ![4, 256, 1024]⟩

abbrev nBuf : Space → Nat
  | .hbm => 45
  | .vmem => 13
  | .smem => 0
  | _ => 0

abbrev bufTy : (tb : Table) → Fin (tcTables nBuf tb) → BufTy
  | .hbm, ⟨0, _⟩ => ⟨S20480x4096, .bf16⟩
  | .hbm, ⟨1, _⟩ => ⟨S2x4096x4096, .f32⟩
  | .hbm, ⟨2, _⟩ => ⟨S2x4096, .f32⟩
  | .hbm, ⟨3, _⟩ => ⟨S20480x4096, .f32⟩
  | .hbm, ⟨4, _⟩ => ⟨S16x24576, .f32⟩
  | .hbm, ⟨5, _⟩ => ⟨S2x4096x4096, .bf16⟩
  | .hbm, ⟨6, _⟩ => ⟨S1x4096, .f32⟩
  | .hbm, ⟨7, _⟩ => ⟨S4096, .f32⟩
  | .hbm, ⟨8, _⟩ => ⟨S_, .i32⟩
  | .hbm, ⟨9, _⟩ => ⟨S16, .i32⟩
  | .hbm, ⟨10, _⟩ => ⟨S64, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S64, .i1⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S80, .i32⟩
  | .hbm, ⟨33, _⟩ => ⟨S_, .i32⟩
  | .hbm, ⟨34, _⟩ => ⟨S80, .i32⟩
  | .hbm, ⟨35, _⟩ => ⟨S80, .i1⟩
  | .hbm, ⟨36, _⟩ => ⟨S_, .i32⟩
  | .hbm, ⟨37, _⟩ => ⟨S80, .i32⟩
  | .hbm, ⟨38, _⟩ => ⟨S80, .i32⟩
  | .hbm, ⟨39, _⟩ => ⟨S80, .i32⟩
  | .hbm, ⟨40, _⟩ => ⟨S80x1, .i32⟩
  | .hbm, ⟨41, _⟩ => ⟨S80x24576, .f32⟩
  | .hbm, ⟨42, _⟩ => ⟨S80x1x24576, .f32⟩
  | .hbm, ⟨43, _⟩ => ⟨S1x4096, .f32⟩
  | .hbm, ⟨44, _⟩ => ⟨S20480x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S4x1x1024, .f32⟩
  | .local _ .vmem, ⟨9, _⟩ => ⟨S4x1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v5 : Ref sig .tc := ⟨.hbm, 28, rfl⟩
abbrev main_c_1 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_c_3 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![20, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FnetOutRefIdeal.lean ====
abbrev S20480x4096 : Shape := ⟨2, ![20480, 4096]⟩
abbrev S2x4096x4096 : Shape := ⟨3, ![2, 4096, 4096]⟩
abbrev S2x4096 : Shape := ⟨2, ![2, 4096]⟩
abbrev S16x24576 : Shape := ⟨2, ![16, 24576]⟩
abbrev S1x4096x4096 : Shape := ⟨3, ![1, 4096, 4096]⟩
abbrev S4096x4096 : Shape := ⟨2, ![4096, 4096]⟩
abbrev S1x4096 : Shape := ⟨2, ![1, 4096]⟩
abbrev S4096 : Shape := ⟨1, ![4096]⟩
abbrev S16x4096 : Shape := ⟨2, ![16, 4096]⟩
abbrev S16384x4096 : Shape := ⟨2, ![16384, 4096]⟩
abbrev S8x2048x4096 : Shape := ⟨3, ![8, 2048, 4096]⟩
abbrev S8x4096 : Shape := ⟨2, ![8, 4096]⟩
abbrev S8x1x4096 : Shape := ⟨3, ![8, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S2x4096x4096, .f32⟩
  | .hbm, ⟨2, _⟩ => ⟨S2x4096, .f32⟩
  | .hbm, ⟨3, _⟩ => ⟨S20480x4096, .f32⟩
  | .hbm, ⟨4, _⟩ => ⟨S16x24576, .f32⟩
  | .hbm, ⟨5, _⟩ => ⟨S20480x4096, .f32⟩
  | .hbm, ⟨6, _⟩ => ⟨S1x4096x4096, .f32⟩
  | .hbm, ⟨7, _⟩ => ⟨S4096x4096, .f32⟩
  | .hbm, ⟨8, _⟩ => ⟨S20480x4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S20480x4096, .f32⟩
  | .hbm, ⟨13, _⟩ => ⟨S20480x4096, .f32⟩
  | .hbm, ⟨14, _⟩ => ⟨S16x4096, .f32⟩
  | .hbm, ⟨15, _⟩ => ⟨S4096x4096, .f32⟩
  | .hbm, ⟨16, _⟩ => ⟨S1x4096, .f32⟩
  | .hbm, ⟨17, _⟩ => ⟨S4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S16384x4096, .f32⟩
  | .hbm, ⟨24, _⟩ => ⟨S8x2048x4096, .f32⟩
  | .hbm, ⟨25, _⟩ => ⟨S8x4096, .f32⟩
  | .hbm, ⟨26, _⟩ => ⟨S8x1x4096, .f32⟩
  | .hbm, ⟨27, _⟩ => ⟨S16384x4096, .f32⟩
  | .hbm, ⟨28, _⟩ => ⟨S8x2048x4096, .f32⟩
  | .hbm, ⟨29, _⟩ => ⟨S8x2048x4096, .f32⟩
  | .hbm, ⟨30, _⟩ => ⟨S8x2048x4096, .f32⟩
  | .hbm, ⟨31, _⟩ => ⟨S8x2048x4096, .f32⟩
  | .hbm, ⟨32, _⟩ => ⟨S16384x4096, .f32⟩
  | .hbm, ⟨33, _⟩ => ⟨S20480x4096, .f32⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== AttnOut.lean ====
abbrev S20480x4096 : Shape := ⟨2, ![20480, 4096]⟩
abbrev S1x4096x4096 : Shape := ⟨3, ![1, 4096, 4096]⟩
abbrev S16x24576 : Shape := ⟨2, ![16, 24576]⟩
abbrev S_ : Shape := ⟨0, ![]⟩
abbrev S16 : Shape := ⟨1, ![16]⟩
abbrev S64 : Shape := ⟨1, ![64]⟩
abbrev S80 : Shape := ⟨1, ![80]⟩
abbrev S80x1 : Shape := ⟨2, ![80, 1]⟩
abbrev S80x24576 : Shape := ⟨2, ![80, 24576]⟩
abbrev S80x1x24576 : Shape := ⟨3, ![80, 1, 24576]⟩
abbrev S1024x1024 : Shape := ⟨2, ![1024, 1024]⟩
abbrev S1x1024x1024 : Shape := ⟨3, ![1, 1024, 1024]⟩
abbrev S4x1x1024 : Shape := ⟨3, ![4, 1, 1024]⟩
abbrev S4x256x1024 : Shape := ⟨3, ![4, 256, 1024]⟩

abbrev nBuf : Space → Nat
  | .hbm => 41
  | .vmem => 11
  | .smem => 0
  | _ => 0

abbrev bufTy : (tb : Table) → Fin (tcTables nBuf tb) → BufTy
  | .hbm, ⟨0, _⟩ => ⟨S20480x4096, .bf16⟩
  | .hbm, ⟨1, _⟩ => ⟨S1x4096x4096, .f32⟩
  | .hbm, ⟨2, _⟩ => ⟨S20480x4096, .f32⟩
  | .hbm, ⟨3, _⟩ => ⟨S16x24576, .f32⟩
  | .hbm, ⟨4, _⟩ => ⟨S1x4096x4096, .bf16⟩
  | .hbm, ⟨5, _⟩ => ⟨S_, .i32⟩
  | .hbm, ⟨6, _⟩ => ⟨S16, .i32⟩
  | .hbm, ⟨7, _⟩ => ⟨S64, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S64, .i1⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S80, .i32⟩
  | .hbm, ⟨30, _⟩ => ⟨S_, .i32⟩
  | .hbm, ⟨31, _⟩ => ⟨S80, .i32⟩
  | .hbm, ⟨32, _⟩ => ⟨S80, .i1⟩
  | .hbm, ⟨33, _⟩ => ⟨S_, .i32⟩
  | .hbm, ⟨34, _⟩ => ⟨S80, .i32⟩
  | .hbm, ⟨35, _⟩ => ⟨S80, .i32⟩
  | .hbm, ⟨36, _⟩ => ⟨S80, .i32⟩
  | .hbm, ⟨37, _⟩ => ⟨S80x1, .i32⟩
  | .hbm, ⟨38, _⟩ => ⟨S80x24576, .f32⟩
  | .hbm, ⟨39, _⟩ => ⟨S80x1x24576, .f32⟩
  | .hbm, ⟨40, _⟩ => ⟨S20480x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S4x1x1024, .f32⟩
  | .local _ .vmem, ⟨7, _⟩ => ⟨S4x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_c_1 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_2 : Ref sig .tc := ⟨.hbm, 30, rfl⟩
abbrev main_v7 : Ref sig .tc := ⟨.hbm, 31, rfl⟩
abbrev main_v8 : Ref sig .tc := ⟨.hbm, 32, rfl⟩
abbrev main_c_3 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![20, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AttnOutRefIdeal.lean ====
abbrev S20480x4096 : Shape := ⟨2, ![20480, 4096]⟩
abbrev S1x4096x4096 : Shape := ⟨3, ![1, 4096, 4096]⟩
abbrev S16x24576 : Shape := ⟨2, ![16, 24576]⟩
abbrev S4096x4096 : Shape := ⟨2, ![4096, 4096]⟩
abbrev S16x4096 : Shape := ⟨2, ![16, 4096]⟩
abbrev S1x4096 : Shape := ⟨2, ![1, 4096]⟩
abbrev S4096 : Shape := ⟨1, ![4096]⟩
abbrev S16384x4096 : Shape := ⟨2, ![16384, 4096]⟩
abbrev S8x2048x4096 : Shape := ⟨3, ![8, 2048, 4096]⟩
abbrev S8x4096 : Shape := ⟨2, ![8, 4096]⟩
abbrev S8x1x4096 : Shape := ⟨3, ![8, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S1x4096x4096, .f32⟩
  | .hbm, ⟨2, _⟩ => ⟨S20480x4096, .f32⟩
  | .hbm, ⟨3, _⟩ => ⟨S16x24576, .f32⟩
  | .hbm, ⟨4, _⟩ => ⟨S20480x4096, .f32⟩
  | .hbm, ⟨5, _⟩ => ⟨S4096x4096, .f32⟩
  | .hbm, ⟨6, _⟩ => ⟨S20480x4096, .f32⟩
  | .hbm, ⟨7, _⟩ => ⟨S16x4096, .f32⟩
  | .hbm, ⟨8, _⟩ => ⟨S4096x4096, .f32⟩
  | .hbm, ⟨9, _⟩ => ⟨S1x4096, .f32⟩
  | .hbm, ⟨10, _⟩ => ⟨S4096, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S16384x4096, .f32⟩
  | .hbm, ⟨17, _⟩ => ⟨S8x2048x4096, .f32⟩
  | .hbm, ⟨18, _⟩ => ⟨S8x4096, .f32⟩
  | .hbm, ⟨19, _⟩ => ⟨S8x1x4096, .f32⟩
  | .hbm, ⟨20, _⟩ => ⟨S16384x4096, .f32⟩
  | .hbm, ⟨21, _⟩ => ⟨S8x2048x4096, .f32⟩
  | .hbm, ⟨22, _⟩ => ⟨S8x2048x4096, .f32⟩
  | .hbm, ⟨23, _⟩ => ⟨S8x2048x4096, .f32⟩
  | .hbm, ⟨24, _⟩ => ⟨S8x2048x4096, .f32⟩
  | .hbm, ⟨25, _⟩ => ⟨S16384x4096, .f32⟩
  | .hbm, ⟨26, _⟩ => ⟨S20480x4096, .f32⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== SsdOut.lean ====
abbrev S20480x8192 : Shape := ⟨2, ![20480, 8192]⟩
abbrev S1x8192x4096 : Shape := ⟨3, ![1, 8192, 4096]⟩
abbrev S20480x4096 : Shape := ⟨2, ![20480, 4096]⟩
abbrev S16x24576 : Shape := ⟨2, ![16, 24576]⟩
abbrev S_ : Shape := ⟨0, ![]⟩
abbrev S16 : Shape := ⟨1, ![16]⟩
abbrev S64 : Shape := ⟨1, ![64]⟩
abbrev S80 : Shape := ⟨1, ![80]⟩
abbrev S80x1 : Shape := ⟨2, ![80, 1]⟩
abbrev S80x24576 : Shape := ⟨2, ![80, 24576]⟩
abbrev S80x1x24576 : Shape := ⟨3, ![80, 1, 24576]⟩
abbrev S1024x1024 : Shape := ⟨2, ![1024, 1024]⟩
abbrev S1x1024x1024 : Shape := ⟨3, ![1, 1024, 1024]⟩
abbrev S4x1x1024 : Shape := ⟨3, ![4, 1, 1024]⟩
abbrev S4x256x1024 : Shape := ⟨3, ![4, 256, 1024]⟩

abbrev nBuf : Space → Nat
  | .hbm => 41
  | .vmem => 11
  | .smem => 0
  | _ => 0

abbrev bufTy : (tb : Table) → Fin (tcTables nBuf tb) → BufTy
  | .hbm, ⟨0, _⟩ => ⟨S20480x8192, .bf16⟩
  | .hbm, ⟨1, _⟩ => ⟨S1x8192x4096, .f32⟩
  | .hbm, ⟨2, _⟩ => ⟨S20480x4096, .f32⟩
  | .hbm, ⟨3, _⟩ => ⟨S16x24576, .f32⟩
  | .hbm, ⟨4, _⟩ => ⟨S1x8192x4096, .bf16⟩
  | .hbm, ⟨5, _⟩ => ⟨S_, .i32⟩
  | .hbm, ⟨6, _⟩ => ⟨S16, .i32⟩
  | .hbm, ⟨7, _⟩ => ⟨S64, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S64, .i1⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S80, .i32⟩
  | .hbm, ⟨30, _⟩ => ⟨S_, .i32⟩
  | .hbm, ⟨31, _⟩ => ⟨S80, .i32⟩
  | .hbm, ⟨32, _⟩ => ⟨S80, .i1⟩
  | .hbm, ⟨33, _⟩ => ⟨S_, .i32⟩
  | .hbm, ⟨34, _⟩ => ⟨S80, .i32⟩
  | .hbm, ⟨35, _⟩ => ⟨S80, .i32⟩
  | .hbm, ⟨36, _⟩ => ⟨S80, .i32⟩
  | .hbm, ⟨37, _⟩ => ⟨S80x1, .i32⟩
  | .hbm, ⟨38, _⟩ => ⟨S80x24576, .f32⟩
  | .hbm, ⟨39, _⟩ => ⟨S80x1x24576, .f32⟩
  | .hbm, ⟨40, _⟩ => ⟨S20480x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S4x1x1024, .f32⟩
  | .local _ .vmem, ⟨7, _⟩ => ⟨S4x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S20480x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_c_1 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_2 : Ref sig .tc := ⟨.hbm, 30, rfl⟩
abbrev main_v7 : Ref sig .tc := ⟨.hbm, 31, rfl⟩
abbrev main_v8 : Ref sig .tc := ⟨.hbm, 32, rfl⟩
abbrev main_c_3 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![20, 4, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== SsdOutRefIdeal.lean ====
abbrev S20480x8192 : Shape := ⟨2, ![20480, 8192]⟩
abbrev S1x8192x4096 : Shape := ⟨3, ![1, 8192, 4096]⟩
abbrev S20480x4096 : Shape := ⟨2, ![20480, 4096]⟩
abbrev S16x24576 : Shape := ⟨2, ![16, 24576]⟩
abbrev S8192x4096 : Shape := ⟨2, ![8192, 4096]⟩
abbrev S16x4096 : Shape := ⟨2, ![16, 4096]⟩
abbrev S4096x4096 : Shape := ⟨2, ![4096, 4096]⟩
abbrev S1x4096 : Shape := ⟨2, ![1, 4096]⟩
abbrev S4096 : Shape := ⟨1, ![4096]⟩
abbrev S16384x4096 : Shape := ⟨2, ![16384, 4096]⟩
abbrev S8x2048x4096 : Shape := ⟨3, ![8, 2048, 4096]⟩
abbrev S8x4096 : Shape := ⟨2, ![8, 4096]⟩
abbrev S8x1x4096 : Shape := ⟨3, ![8, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S20480x8192, .bf16⟩
  | .hbm, ⟨1, _⟩ => ⟨S1x8192x4096, .f32⟩
  | .hbm, ⟨2, _⟩ => ⟨S20480x4096, .f32⟩
  | .hbm, ⟨3, _⟩ => ⟨S16x24576, .f32⟩
  | .hbm, ⟨4, _⟩ => ⟨S20480x8192, .f32⟩
  | .hbm, ⟨5, _⟩ => ⟨S8192x4096, .f32⟩
  | .hbm, ⟨6, _⟩ => ⟨S20480x4096, .f32⟩
  | .hbm, ⟨7, _⟩ => ⟨S16x4096, .f32⟩
  | .hbm, ⟨8, _⟩ => ⟨S4096x4096, .f32⟩
  | .hbm, ⟨9, _⟩ => ⟨S1x4096, .f32⟩
  | .hbm, ⟨10, _⟩ => ⟨S4096, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S16384x4096, .f32⟩
  | .hbm, ⟨17, _⟩ => ⟨S8x2048x4096, .f32⟩
  | .hbm, ⟨18, _⟩ => ⟨S8x4096, .f32⟩
  | .hbm, ⟨19, _⟩ => ⟨S8x1x4096, .f32⟩
  | .hbm, ⟨20, _⟩ => ⟨S16384x4096, .f32⟩
  | .hbm, ⟨21, _⟩ => ⟨S8x2048x4096, .f32⟩
  | .hbm, ⟨22, _⟩ => ⟨S8x2048x4096, .f32⟩
  | .hbm, ⟨23, _⟩ => ⟨S8x2048x4096, .f32⟩
  | .hbm, ⟨24, _⟩ => ⟨S8x2048x4096, .f32⟩
  | .hbm, ⟨25, _⟩ => ⟨S16384x4096, .f32⟩
  | .hbm, ⟨26, _⟩ => ⟨S20480x4096, .f32⟩
  | _, _ => ⟨S20480x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== MoeUp.lean ====
abbrev S192 : Shape := ⟨1, ![192]⟩
abbrev S1 : Shape := ⟨1, ![1]⟩
abbrev S98304x4096 : Shape := ⟨2, ![98304, 4096]⟩
abbrev S4x32x4096x2048 : Shape := ⟨4, ![4, 32, 4096, 2048]⟩
abbrev S4x32x2048 : Shape := ⟨3, ![4, 32, 2048]⟩
abbrev S4x32x1x2048 : Shape := ⟨4, ![4, 32, 1, 2048]⟩
abbrev S98304x1024 : Shape := ⟨2, ![98304, 1024]⟩
abbrev S512x4096 : Shape := ⟨2, ![512, 4096]⟩
abbrev S1x1x4096x512 : Shape := ⟨4, ![1, 1, 4096, 512]⟩
abbrev S1x1x1x512 : Shape := ⟨4, ![1, 1, 1, 512]⟩
abbrev S512x512 : Shape := ⟨2, ![512, 512]⟩
abbrev S4096x512 : Shape := ⟨2, ![4096, 512]⟩
abbrev S512x2048 : Shape := ⟨2, ![512, 2048]⟩
abbrev S2048x512 : Shape := ⟨2, ![2048, 512]⟩
abbrev S1x512 : Shape := ⟨2, ![1, 512]⟩

abbrev nBuf : Space → Nat
  | .hbm => 5
  | .vmem => 14
  | .smem => 2
  | _ => 0

abbrev bufTy : (tb : Table) → Fin (tcTables nBuf tb) → BufTy
  | .hbm, ⟨0, _⟩ => ⟨S98304x4096, .bf16⟩
  | .hbm, ⟨1, _⟩ => ⟨S4x32x4096x2048, .f32⟩
  | .hbm, ⟨2, _⟩ => ⟨S4x32x2048, .f32⟩
  | .hbm, ⟨3, _⟩ => ⟨S4x32x1x2048, .f32⟩
  | .hbm, ⟨4, _⟩ => ⟨S98304x1024, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x1x512, .f32⟩
  | .local _ .vmem, ⟨10, _⟩ => ⟨S512x512, .bf16⟩
  | .local _ .vmem, ⟨11, _⟩ => ⟨S512x512, .bf16⟩
  | .local _ .vmem, ⟨12, _⟩ => ⟨S4096x512, .bf16⟩
  | .local _ .vmem, ⟨13, _⟩ => ⟨S4096x512, .bf16⟩
  | .local _ .smem, ⟨0, _⟩ => ⟨S192, .i32⟩
  | .local _ .smem, ⟨1, _⟩ => ⟨S1, .i32⟩
  | _, _ => ⟨S98304x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 192], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v9 : Index := Scalar.indexCast arg1
  ![v9.toNat]
def k0_off3 (i : grid0.Coords) : Fin 1 → Nat :=
  let arg1 : BitVec 32 := BitVec.ofNat 32 (i 1).val
  let c1_i32 : BitVec 32 := 1#32
  let v11 : BitVec 32 := Scalar.subi arg1 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S192) ![v0.toNat] S1.size (k0_off1_inb i)) numel1_S1
  let c0_i32 : BitVec 32 := 0#32
  let v2 : BitVec 32 := Scalar.addi c0_i32 arg0
  let c0_i32_0 : BitVec 32 := 0#32
  let c0_i32_1 : BitVec 32 := 0#32
  let c0_i32_2 : BitVec 32 := 0#32
  ![c0_i32_0.toNat, v1.toNat, c0_i32_1.toNat, v2.toNat]

def cc0_transform_2 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S192) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_3 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S192) ![v0.toNat] S1.size (k0_off1_inb i)) numel1_S1
  let c0_i32 : BitVec 32 := 0#32
  let v2 : BitVec 32 := Scalar.addi c0_i32 arg0
  let c0_i32_0 : BitVec 32 := 0#32
  let c0_i32_1 : BitVec 32 := 0#32
  let c0_i32_2 : BitVec 32 := 0#32
  ![c0_i32_0.toNat, v1.toNat, c0_i32_1.toNat, v2.toNat]

def cc0_transform_4 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S192) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MoeUpRefIdeal.lean ====
abbrev S192 : Shape := ⟨1, ![192]⟩
abbrev S1 : Shape := ⟨1, ![1]⟩
abbrev S98304x4096 : Shape := ⟨2, ![98304, 4096]⟩
abbrev S4x32x4096x2048 : Shape := ⟨4, ![4, 32, 4096, 2048]⟩
abbrev S4x32x2048 : Shape := ⟨3, ![4, 32, 2048]⟩
abbrev S192x512x4096 : Shape := ⟨3, ![192, 512, 4096]⟩
abbrev S1x32x4096x2048 : Shape := ⟨4, ![1, 32, 4096, 2048]⟩
abbrev S32x4096x2048 : Shape := ⟨3, ![32, 4096, 2048]⟩
abbrev S_ : Shape := ⟨0, ![]⟩
abbrev S192x1 : Shape := ⟨2, ![192, 1]⟩
abbrev S192x4096x2048 : Shape := ⟨3, ![192, 4096, 2048]⟩
abbrev S192x512x2048 : Shape := ⟨3, ![192, 512, 2048]⟩
abbrev S1x32x2048 : Shape := ⟨3, ![1, 32, 2048]⟩
abbrev S32x2048 : Shape := ⟨2, ![32, 2048]⟩
abbrev S192x2048 : Shape := ⟨2, ![192, 2048]⟩
abbrev S192x1x2048 : Shape := ⟨3, ![192, 1, 2048]⟩
abbrev S192x512x1024 : Shape := ⟨3, ![192, 512, 1024]⟩
abbrev S192x1x1 : Shape := ⟨3, ![192, 1, 1]⟩
abbrev S98304x1024 : Shape := ⟨2, ![98304, 1024]⟩

abbrev nBuf : Space → Nat
  | .hbm => 74
  | .vmem => 0
  | .smem => 0
  | _ => 0

abbrev bufTy : (tb : Table) → Fin (tcTables nBuf tb) → BufTy
  | .hbm, ⟨0, _⟩ => ⟨S192, .i32⟩
  | .hbm, ⟨1, _⟩ => ⟨S1, .i32⟩
  | .hbm, ⟨2, _⟩ => ⟨S98304x4096, .bf16⟩
  | .hbm, ⟨3, _⟩ => ⟨S4x32x4096x2048, .f32⟩
  | .hbm, ⟨4, _⟩ => ⟨S4x32x2048, .f32⟩
  | .hbm, ⟨5, _⟩ => ⟨S98304x4096, .f32⟩
  | .hbm, ⟨6, _⟩ => ⟨S192x512x4096, .f32⟩
  | .hbm, ⟨7, _⟩ => ⟨S1x32x4096x2048, .f32⟩
  | .hbm, ⟨8, _⟩ => ⟨S32x4096x2048, .f32⟩
  | .hbm, ⟨9, _⟩ => ⟨S_, .i32⟩
  | .hbm, ⟨10, _⟩ => ⟨S192, .i32⟩
  | .hbm, ⟨11, _⟩ => ⟨S192, .i1⟩
  | .hbm, ⟨12, _⟩ => ⟨S_, .i32⟩
  | .hbm, ⟨13, _⟩ => ⟨S192, .i32⟩
  | .hbm, ⟨14, _⟩ => ⟨S192, .i32⟩
  | .hbm, ⟨15, _⟩ => ⟨S192, .i32⟩
  | .hbm, ⟨16, _⟩ => ⟨S192x1, .i32⟩
  | .hbm, ⟨17, _⟩ => ⟨S192x4096x2048, .f32⟩
  | .hbm, ⟨18, _⟩ => ⟨S192x512x2048, .f32⟩
  | .hbm, ⟨19, _⟩ => ⟨S1x32x2048, .f32⟩
  | .hbm, ⟨20, _⟩ => ⟨S32x2048, .f32⟩
  | .hbm, ⟨21, _⟩ => ⟨S_, .i32⟩
  | .hbm, ⟨22, _⟩ => ⟨S192, .i32⟩
  | .hbm, ⟨23, _⟩ => ⟨S192, .i1⟩
  | .hbm, ⟨24, _⟩ => ⟨S_, .i32⟩
  | .hbm, ⟨25, _⟩ => ⟨S192, .i32⟩
  | .hbm, ⟨26, _⟩ => ⟨S192, .i32⟩
  | .hbm, ⟨27, _⟩ => ⟨S192, .i32⟩
  | .hbm, ⟨28, _⟩ => ⟨S192x1, .i32⟩
  | .hbm, ⟨29, _⟩ => ⟨S192x2048, .f32⟩
  | .hbm, ⟨30, _⟩ => ⟨S192x1x2048, .f32⟩
  | .hbm, ⟨31, _⟩ => ⟨S192x512x2048, .f32⟩
  | .hbm, ⟨32, _⟩ => ⟨S192x512x2048, .f32⟩
  | .hbm, ⟨33, _⟩ => ⟨S192x512x1024, .f32⟩
  | .hbm, ⟨34, _⟩ => ⟨S192x512x1024, .f32⟩
  | .hbm, ⟨35, _⟩ => ⟨S_, .f32⟩
  | .hbm, ⟨36, _⟩ => ⟨S192x512x1024, .f32⟩
  | .hbm, ⟨37, _⟩ => ⟨S192x512x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S192x512x1024, .f32⟩
  | .hbm, ⟨42, _⟩ => ⟨S192x512x1024, .f32⟩
  | .hbm, ⟨43, _⟩ => ⟨S_, .f32⟩
  | .hbm, ⟨44, _⟩ => ⟨S192x512x1024, .f32⟩
  | .hbm, ⟨45, _⟩ => ⟨S192x512x1024, .f32⟩
  | .hbm, ⟨46, _⟩ => ⟨S_, .f32⟩
  | .hbm, ⟨47, _⟩ => ⟨S192x512x1024, .f32⟩
  | .hbm, ⟨48, _⟩ => ⟨S192x512x1024, .f32⟩
  | .hbm, ⟨49, _⟩ => ⟨S_, .f32⟩
  | .hbm, ⟨50, _⟩ => ⟨S192x512x1024, .f32⟩
  | .hbm, ⟨51, _⟩ => ⟨S192x512x1024, .f32⟩
  | .hbm, ⟨52, _⟩ => ⟨S192x512x1024, .f32⟩
  | .hbm, ⟨53, _⟩ => ⟨S192x512x1024, .f32⟩
  | .hbm, ⟨54, _⟩ => ⟨S_, .f32⟩
  | .hbm, ⟨55, _⟩ => ⟨S192x512x1024, .f32⟩
  | .hbm, ⟨56, _⟩ => ⟨S192x512x1024, .f32⟩
  | .hbm, ⟨57, _⟩ => ⟨S_, .f32⟩
  | .hbm, ⟨58, _⟩ => ⟨S192x512x1024, .f32⟩
  | .hbm, ⟨59, _⟩ => ⟨S192x512x1024, .f32⟩
  | .hbm, ⟨60, _⟩ => ⟨S192x512x1024, .f32⟩
  | .hbm, ⟨61, _⟩ => ⟨S192x512x1024, .f32⟩
  | .hbm, ⟨62, _⟩ => ⟨S192, .i32⟩
  | .hbm, ⟨63, _⟩ => ⟨S_, .i32⟩
  | .hbm, ⟨64, _⟩ => ⟨S192, .i32⟩
  | .hbm, ⟨65, _⟩ => ⟨S192, .i1⟩
  | .hbm, ⟨66, _⟩ => ⟨S192x1x1, .i1⟩
  | .hbm, ⟨67, _⟩ => ⟨S_, .f32⟩
  | .hbm, ⟨68, _⟩ => ⟨S_, .f32⟩
  | .hbm, ⟨69, _⟩ => ⟨S192x512x1024, .i1⟩
  | .hbm, ⟨70, _⟩ => ⟨S192x512x1024, .f32⟩
  | .hbm, ⟨71, _⟩ => ⟨S192x512x1024, .f32⟩
  | .hbm, ⟨72, _⟩ => ⟨S98304x1024, .f32⟩
  | .hbm, ⟨73, _⟩ => ⟨S98304x1024, .bf16⟩
  | _, _ => ⟨S192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== MoeDown.lean ====
abbrev S192 : Shape := ⟨1, ![192]⟩
abbrev S1 : Shape := ⟨1, ![1]⟩
abbrev S98304x1024 : Shape := ⟨2, ![98304, 1024]⟩
abbrev S4x32x1024x4096 : Shape := ⟨4, ![4, 32, 1024, 4096]⟩
abbrev S4x32x4096 : Shape := ⟨3, ![4, 32, 4096]⟩
abbrev S4x32x1x4096 : Shape := ⟨4, ![4, 32, 1, 4096]⟩
abbrev S98304x4096 : Shape := ⟨2, ![98304, 4096]⟩
abbrev S512x1024 : Shape := ⟨2, ![512, 1024]⟩
abbrev S1x1x1024x2048 : Shape := ⟨4, ![1, 1, 1024, 2048]⟩
abbrev S1x1x1x2048 : Shape := ⟨4, ![1, 1, 1, 2048]⟩
abbrev S512x2048 : Shape := ⟨2, ![512, 2048]⟩
abbrev S1024x2048 : Shape := ⟨2, ![1024, 2048]⟩
abbrev S1x2048 : Shape := ⟨2, ![1, 2048]⟩

abbrev nBuf : Space → Nat
  | .hbm => 5
  | .vmem => 9
  | .smem => 2
  | _ => 0

abbrev bufTy : (tb : Table) → Fin (tcTables nBuf tb) → BufTy
  | .hbm, ⟨0, _⟩ => ⟨S98304x1024, .bf16⟩
  | .hbm, ⟨1, _⟩ => ⟨S4x32x1024x4096, .f32⟩
  | .hbm, ⟨2, _⟩ => ⟨S4x32x4096, .f32⟩
  | .hbm, ⟨3, _⟩ => ⟨S4x32x1x4096, .f32⟩
  | .hbm, ⟨4, _⟩ => ⟨S98304x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S512x2048, .bf16⟩
  | .local _ .vmem, ⟨7, _⟩ => ⟨S512x2048, .bf16⟩
  | .local _ .vmem, ⟨8, _⟩ => ⟨S1024x2048, .bf16⟩
  | .local _ .smem, ⟨0, _⟩ => ⟨S192, .i32⟩
  | .local _ .smem, ⟨1, _⟩ => ⟨S1, .i32⟩
  | _, _ => ⟨S98304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 192], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v9 : Index := Scalar.indexCast arg1
  ![v9.toNat]
def k0_off3 (i : grid0.Coords) : Fin 1 → Nat :=
  let arg1 : BitVec 32 := BitVec.ofNat 32 (i 1).val
  let c1_i32 : BitVec 32 := 1#32
  let v11 : BitVec 32 := Scalar.subi arg1 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeDownRefIdeal.lean ====
abbrev S192 : Shape := ⟨1, ![192]⟩
abbrev S1 : Shape := ⟨1, ![1]⟩
abbrev S98304x1024 : Shape := ⟨2, ![98304, 1024]⟩
abbrev S4x32x1024x4096 : Shape := ⟨4, ![4, 32, 1024, 4096]⟩
abbrev S4x32x4096 : Shape := ⟨3, ![4, 32, 4096]⟩
abbrev S192x512x1024 : Shape := ⟨3, ![192, 512, 1024]⟩
abbrev S1x32x1024x4096 : Shape := ⟨4, ![1, 32, 1024, 4096]⟩
abbrev S32x1024x4096 : Shape := ⟨3, ![32, 1024, 4096]⟩
abbrev S_ : Shape := ⟨0, ![]⟩
abbrev S192x1 : Shape := ⟨2, ![192, 1]⟩
abbrev S192x1024x4096 : Shape := ⟨3, ![192, 1024, 4096]⟩
abbrev S192x512x4096 : Shape := ⟨3, ![192, 512, 4096]⟩
abbrev S1x32x4096 : Shape := ⟨3, ![1, 32, 4096]⟩
abbrev S32x4096 : Shape := ⟨2, ![32, 4096]⟩
abbrev S192x4096 : Shape := ⟨2, ![192, 4096]⟩
abbrev S192x1x4096 : Shape := ⟨3, ![192, 1, 4096]⟩
abbrev S192x1x1 : Shape := ⟨3, ![192, 1, 1]⟩
abbrev S98304x4096 : Shape := ⟨2, ![98304, 4096]⟩

abbrev nBuf : Space → Nat
  | .hbm => 45
  | .vmem => 0
  | .smem => 0
  | _ => 0

abbrev bufTy : (tb : Table) → Fin (tcTables nBuf tb) → BufTy
  | .hbm, ⟨0, _⟩ => ⟨S192, .i32⟩
  | .hbm, ⟨1, _⟩ => ⟨S1, .i32⟩
  | .hbm, ⟨2, _⟩ => ⟨S98304x1024, .bf16⟩
  | .hbm, ⟨3, _⟩ => ⟨S4x32x1024x4096, .f32⟩
  | .hbm, ⟨4, _⟩ => ⟨S4x32x4096, .f32⟩
  | .hbm, ⟨5, _⟩ => ⟨S98304x1024, .f32⟩
  | .hbm, ⟨6, _⟩ => ⟨S192x512x1024, .f32⟩
  | .hbm, ⟨7, _⟩ => ⟨S1x32x1024x4096, .f32⟩
  | .hbm, ⟨8, _⟩ => ⟨S32x1024x4096, .f32⟩
  | .hbm, ⟨9, _⟩ => ⟨S_, .i32⟩
  | .hbm, ⟨10, _⟩ => ⟨S192, .i32⟩
  | .hbm, ⟨11, _⟩ => ⟨S192, .i1⟩
  | .hbm, ⟨12, _⟩ => ⟨S_, .i32⟩
  | .hbm, ⟨13, _⟩ => ⟨S192, .i32⟩
  | .hbm, ⟨14, _⟩ => ⟨S192, .i32⟩
  | .hbm, ⟨15, _⟩ => ⟨S192, .i32⟩
  | .hbm, ⟨16, _⟩ => ⟨S192x1, .i32⟩
  | .hbm, ⟨17, _⟩ => ⟨S192x1024x4096, .f32⟩
  | .hbm, ⟨18, _⟩ => ⟨S192x512x4096, .f32⟩
  | .hbm, ⟨19, _⟩ => ⟨S1x32x4096, .f32⟩
  | .hbm, ⟨20, _⟩ => ⟨S32x4096, .f32⟩
  | .hbm, ⟨21, _⟩ => ⟨S_, .i32⟩
  | .hbm, ⟨22, _⟩ => ⟨S192, .i32⟩
  | .hbm, ⟨23, _⟩ => ⟨S192, .i1⟩
  | .hbm, ⟨24, _⟩ => ⟨S_, .i32⟩
  | .hbm, ⟨25, _⟩ => ⟨S192, .i32⟩
  | .hbm, ⟨26, _⟩ => ⟨S192, .i32⟩
  | .hbm, ⟨27, _⟩ => ⟨S192, .i32⟩
  | .hbm, ⟨28, _⟩ => ⟨S192x1, .i32⟩
  | .hbm, ⟨29, _⟩ => ⟨S192x4096, .f32⟩
  | .hbm, ⟨30, _⟩ => ⟨S192x1x4096, .f32⟩
  | .hbm, ⟨31, _⟩ => ⟨S192x512x4096, .f32⟩
  | .hbm, ⟨32, _⟩ => ⟨S192x512x4096, .f32⟩
  | .hbm, ⟨33, _⟩ => ⟨S192, .i32⟩
  | .hbm, ⟨34, _⟩ => ⟨S_, .i32⟩
  | .hbm, ⟨35, _⟩ => ⟨S192, .i32⟩
  | .hbm, ⟨36, _⟩ => ⟨S192, .i1⟩
  | .hbm, ⟨37, _⟩ => ⟨S192x1x1, .i1⟩
  | .hbm, ⟨38, _⟩ => ⟨S_, .f32⟩
  | .hbm, ⟨39, _⟩ => ⟨S_, .f32⟩
  | .hbm, ⟨40, _⟩ => ⟨S192x512x4096, .i1⟩
  | .hbm, ⟨41, _⟩ => ⟨S192x512x4096, .f32⟩
  | .hbm, ⟨42, _⟩ => ⟨S192x512x4096, .f32⟩
  | .hbm, ⟨43, _⟩ => ⟨S98304x4096, .f32⟩
  | .hbm, ⟨44, _⟩ => ⟨S98304x4096, .bf16⟩
  | _, _ => ⟨S192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.DownKit.lean ====
/- The experts' down projection: the tables, the windows' blocks and the memrefs that the body's runs are stated over. -/
module

public import proofs.«01_k».proof.Proof.Gen.MoeDownIdeal.Launch
public import proofs.«01_k».proof.Proof.Gen.MoeDownIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MoeDownIdeal.Down

open Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_down (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-! ## The tables -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S192 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_MoeDownIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).2 main_arg4 (by decide : main_arg4 ∈ Pipeline.restRefs sig spec0)).trans (V_main_arg4 m c)⟩) h

/-! ## The conditions of the body -/

/-- The number of used blocks, as the body reads it. -/
abbrev nuAt {c : Dev nD} (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))
/-- The expert of the point's block, as the body reads it. -/
abbrev beAt {c : Dev nD} (i : grid0.Coords) (xt0 : TbBuf0 (F := F) c tbM0_0) : BitVec 32 :=
  tbM0_0.view.readAt (Elt F) (Rect.unit (s := S192) (k0_off2 i) S1.size (k0_off2_inb i)).toLoadRect xt0 (Shape.Idx.first (numel1_S1.symm ▸ Nat.one_pos))
/-- The expert of the block before it, as the body reads it. -/
abbrev bePrevAt {c : Dev nD} (i : grid0.Coords) (xt0 : TbBuf0 (F := F) c tbM0_0) : BitVec 32 :=
  tbM0_0.view.readAt (Elt F) (Rect.unit (s := S192) (k0_off3 i) S1.size (k0_off3_inb i)).toLoadRect xt0 (Shape.Idx.first (numel1_S1.symm ▸ Nat.one_pos))

/-- The weights are loaded anew: at the first block, and where the expert is another than the block before's. -/
abbrev fresh (i : grid0.Coords) (v10 : BitVec 32) (v14 : BitVec 32) : Prop := (Scalar.cmpi .ne (Scalar.extui (Scalar.ori (Scalar.cmpi .eq (BitVec.ofNat 32 (i 1).val) 0#32) (Scalar.cmpi .ne v10 v14))) 0#32) = 1#1

/-! ## The memrefs -/

/-- One staging buffer of output window 3, through which its contents are stated (`View.read_writes_of_cover`: the
    choice does not matter). -/
abbrev VO0_3 : View sig .tc .vmem S512x2048 .bf16 := (Memref.whole cc0_stg3_0 : Memref sig .tc .vmem S512x2048 .bf16).view
/-- Each window's current staging memref at point `t`, spelled as the pipeline passes it (`bodyAt0`), and its wholeness. -/
abbrev ms0_0 (hO : Ok m) (t : Fin (cfgM m hO).N) : Memref sig .tc .vmem S512x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x2048 .bf16 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S1024x2048 .bf16 := Memref.whole cc0_scratch0
/-- The scratch `arg8` the kernel carries between points, as a view: what it holds is stated through it. -/
abbrev VS0_0 : View sig .tc .vmem S1024x2048 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

end Cert.MoeDownIdeal.Down

end
-- ==== Proof.DownIdx.lean ====
/- The experts' down projection: the words its body and its windows read, the windows' indices, the conditions in closed form. -/
module

public import proofs.«01_k».proof.Proof.DownKit
public import Idealize.ShloMosaic.Lib.Pipeline.ValueKit
public import Idealize.ShloMosaic.Lib.Pointwise

@[expose] public section

set_option maxRecDepth 16384

noncomputable section

namespace Cert.MoeDownIdeal.Down

open Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words and the windows' indices -/

/-- The expert of block `k`. -/
def word (k : Fin 192) : BitVec 32 := (tbl m 0 : S192.Idx → BitVec 32) (ix1 k)

theorem offs : ∀ t : Fin grid0.N, k0_off1 (grid0.coords t) = ![t.val % 192] ∧ k0_off2 (grid0.coords t) = ![t.val % 192]
    ∧ k0_off3 (grid0.coords t) = ![t.val % 192 - 1] ∧ (grid0.coords t 0).val = t.val / 192 ∧ (grid0.coords t 1).val = t.val % 192 := by
  decide +kernel

theorem lt192 (n : ℕ) : n % 192 < 192 := Nat.mod_lt _ (by decide)

theorem be_eq (c : Dev nD) (t : Fin grid0.N) : beAt (F := F) (c := c) (grid0.coords t) (tbl m 0) = word m ⟨t.val % 192, lt192 _⟩ := by
  refine congrArg (tbl m 0 : S192.Idx → BitVec 32) (funext fun (a : Fin 1) => Fin.ext ?_)
  obtain rfl : a = 0 := Subsingleton.elim a 0
  show k0_off2 (grid0.coords t) 0 + 1 * 0 = t.val % 192
  rw [(offs t).2.1]; rfl

theorem bePrev_eq (c : Dev nD) (t : Fin grid0.N) : bePrevAt (F := F) (c := c) (grid0.coords t) (tbl m 0) = word m ⟨t.val % 192 - 1, Nat.lt_of_le_of_lt (Nat.sub_le _ _) (lt192 _)⟩ := by
  refine congrArg (tbl m 0 : S192.Idx → BitVec 32) (funext fun (a : Fin 1) => Fin.ext ?_)
  obtain rfl : a = 0 := Subsingleton.elim a 0
  show k0_off3 (grid0.coords t) 0 + 1 * 0 = t.val % 192 - 1
  rw [(offs t).2.2.1]; rfl

theorem at_eq (t : Fin grid0.N) : (tbl m).at 0 (Rect.unit (s := S192) (k0_off1 (grid0.coords t)) S1.size (k0_off1_inb (grid0.coords t))) numel1_S1 = word m ⟨t.val % 192, lt192 _⟩ := by
  refine congrArg (tbl m 0 : S192.Idx → BitVec 32) (funext fun (a : Fin 1) => Fin.ext ?_)
  obtain rfl : a = 0 := Subsingleton.elim a 0
  show k0_off1 (grid0.coords t) 0 + 1 * 0 = t.val % 192
  rw [(offs t).1]; rfl

theorem col : ∀ t : Fin grid0.N, (BitVec.ofNat 32 (grid0.coords t 0).val).toNat = t.val / 192 ∧ (BitVec.ofNat 32 (grid0.coords t 1).val).toNat = t.val % 192 := by
  decide +kernel

/-- The windows' block indices. -/
theorem ix_val (t : Fin grid0.N) : cc0_transform_0 (grid0.coords t) = ![t.val % 192, 0]
    ∧ cc0_transform_1 k0_off1_inb numel1_S1 (tbl m) (grid0.coords t) = ![0, (word m ⟨t.val % 192, lt192 _⟩).toNat, 0, t.val / 192]
    ∧ cc0_transform_2 k0_off1_inb numel1_S1 (tbl m) (grid0.coords t) = ![0, (word m ⟨t.val % 192, lt192 _⟩).toNat, 0, t.val / 192]
    ∧ cc0_transform_3 (grid0.coords t) = ![t.val % 192, t.val / 192] := by
  obtain ⟨e0, e3⟩ := col t
  refine ⟨?_, ?_, ?_, ?_⟩
  · show ![(BitVec.ofNat 32 (grid0.coords t 1).val).toNat, 0] = _
    rw [e3]
  · show ![0, ((tbl m).at 0 (Rect.unit (s := S192) (k0_off1 (grid0.coords t)) S1.size (k0_off1_inb (grid0.coords t))) numel1_S1 : BitVec 32).toNat, 0, (BitVec.ofNat 32 (grid0.coords t 0).val).toNat] = _
    rw [at_eq, e0]
  · show ![0, ((tbl m).at 0 (Rect.unit (s := S192) (k0_off1 (grid0.coords t)) S1.size (k0_off1_inb (grid0.coords t))) numel1_S1 : BitVec 32).toNat, 0, (BitVec.ofNat 32 (grid0.coords t 0).val).toNat] = _
    rw [at_eq, e0]
  · show ![(BitVec.ofNat 32 (grid0.coords t 1).val).toNat, (BitVec.ofNat 32 (grid0.coords t 0).val).toNat] = _
    rw [e0, e3]

/-- The windows' blocks of the weights at two points of the same indices. -/
theorem iblk1_congr (hO : Ok m) (c : Dev nD) (t s : Fin (cfgM m hO).N)
    (h : cc0_transform_1 k0_off1_inb numel1_S1 (tbl m) (grid0.coords t) = cc0_transform_1 k0_off1_inb numel1_S1 (tbl m) (grid0.coords s)) :
    (iblk m hO c 1 t : S1x1x1024x2048.Idx → Elt F .f32) = iblk m hO c 1 s := by
  funext y
  refine congrArg (V m c main_arg3) (funext fun a => Fin.ext ?_)
  show cc0_transform_1 k0_off1_inb numel1_S1 (tbl m) (grid0.coords t) a * _ + 1 * _ = cc0_transform_1 k0_off1_inb numel1_S1 (tbl m) (grid0.coords s) a * _ + 1 * _
  rw [h]

/-! ## The conditions -/

theorem ofBool_ne (p : Bool) : (Scalar.cmpi .ne (Scalar.extui (BitVec.ofBool p) : BitVec 32) 0#32 = 1#1) ↔ p = true := by
  cases p <;> decide

/-- The two conditions exclude each other. -/
theorem used_iff (i : grid0.Coords) (v : BitVec 32) : k0_cond3 i v = 1#1 ↔ ¬k0_cond1 i v = 1#1 := by
  show (Scalar.cmpi .ne (Scalar.extui (BitVec.ofBool (BitVec.sle v (BitVec.ofNat 32 (i 1).val))) : BitVec 32) 0#32 = 1#1)
    ↔ ¬(Scalar.cmpi .ne (Scalar.extui (BitVec.ofBool (BitVec.slt (BitVec.ofNat 32 (i 1).val) v)) : BitVec 32) 0#32 = 1#1)
  rw [ofBool_ne, ofBool_ne]
  simp only [BitVec.sle, BitVec.slt, decide_eq_true_eq]
  omega

/-- A block is used when it comes before the count. -/
theorem used_slt (i : grid0.Coords) (v : BitVec 32) : k0_cond1 i v = 1#1 ↔ (BitVec.ofNat 32 (i 1).val).toInt < v.toInt := by
  show (Scalar.cmpi .ne (Scalar.extui (BitVec.ofBool (BitVec.slt (BitVec.ofNat 32 (i 1).val) v)) : BitVec 32) 0#32 = 1#1) ↔ _
  rw [ofBool_ne]
  simp only [BitVec.slt, decide_eq_true_eq]

theorem fresh_iff (i : grid0.Coords) (v w : BitVec 32) : fresh i v w ↔ (i 1).val = 0 ∨ v ≠ w := by
  have hi : (i 1).val < 192 := (i 1).isLt
  show (Scalar.cmpi .ne (Scalar.extui (Scalar.ori (BitVec.ofBool (BitVec.ofNat 32 (i 1).val == 0#32)) (BitVec.ofBool (v != w))) : BitVec 32) 0#32 = 1#1) ↔ _
  have e : ∀ p q : Bool, (Scalar.cmpi .ne (Scalar.extui (Scalar.ori (BitVec.ofBool p) (BitVec.ofBool q)) : BitVec 32) 0#32 = 1#1) ↔ (p = true ∨ q = true) := by decide
  rw [e, beq_iff_eq, bne_iff_ne]
  refine or_congr ⟨fun h => ?_, fun h => by rw [h]⟩ Iff.rfl
  have := congrArg BitVec.toNat h
  rw [BitVec.toNat_ofNat, BitVec.toNat_ofNat] at this
  omega

end Cert.MoeDownIdeal.Down

end
-- ==== Proof.DownOk.lean ====
/- The experts' down projection: the tables' side condition, from the bound on the experts. -/
module

public import proofs.«01_k».proof.Proof.DownIdx
public import proofs.«01_k».proof.Proof.Gen.Pre_experts_down

@[expose] public section

set_option maxRecDepth 16384

noncomputable section

namespace Cert.MoeDownIdeal.Down

open Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A word of the experts' table, as the windows read it. -/
theorem at_lt (h : ∀ y : S192.Idx, ((tbl m 0 : S192.Idx → BitVec 32) y).toNat < 32) (i : grid0.Coords) :
    ((tbl m).at 0 (Rect.unit (s := S192) (k0_off1 i) S1.size (k0_off1_inb i)) numel1_S1 : BitVec 32).toNat < 32 := h _

theorem lo : ∀ n : Fin 2, (BitVec.ofNat 32 n.val).toNat = n.val := by decide

/-- The tables' side condition, where every expert is one of the 32. -/
theorem ok_of_lt (h : ∀ y : S192.Idx, ((tbl m 0 : S192.Idx → BitVec 32) y).toNat < 32) : Ok m := by
  refine ⟨fun i => ⟨fun a => ?_, .inl rfl⟩, fun i => ⟨fun a => ?_, .inl rfl⟩⟩
  · have hw := at_lt m h i
    have hi : (i 0).val < 2 := (i 0).isLt
    have hc := lo ⟨(i 0).val, hi⟩
    show (![0, ((tbl m).at 0 (Rect.unit (s := S192) (k0_off1 i) S1.size (k0_off1_inb i)) numel1_S1 : BitVec 32).toNat, 0, (BitVec.ofNat 32 (i 0).val).toNat] a + 1) * (![1, 1, 1024, 2048] a) ≤ ![4, 32, 1024, 4096] a
    rw [hc]
    generalize ((tbl m).at 0 (Rect.unit (s := S192) (k0_off1 i) S1.size (k0_off1_inb i)) numel1_S1 : BitVec 32).toNat = w at hw ⊢
    generalize (i 0).val = n at hi ⊢
    fin_cases a
    · show (0 + 1) * 1 ≤ 4; omega
    · show (w + 1) * 1 ≤ 32; omega
    · show (0 + 1) * 1024 ≤ 1024; omega
    · show (n + 1) * 2048 ≤ 4096; omega
  · have hw := at_lt m h i
    have hi : (i 0).val < 2 := (i 0).isLt
    have hc := lo ⟨(i 0).val, hi⟩
    show (![0, ((tbl m).at 0 (Rect.unit (s := S192) (k0_off1 i) S1.size (k0_off1_inb i)) numel1_S1 : BitVec 32).toNat, 0, (BitVec.ofNat 32 (i 0).val).toNat] a + 1) * (![1, 1, 1, 2048] a) ≤ ![4, 32, 1, 4096] a
    rw [hc]
    generalize ((tbl m).at 0 (Rect.unit (s := S192) (k0_off1 i) S1.size (k0_off1_inb i)) numel1_S1 : BitVec 32).toNat = w at hw ⊢
    generalize (i 0).val = n at hi ⊢
    fin_cases a
    · show (0 + 1) * 1 ≤ 4; omega
    · show (w + 1) * 1 ≤ 32; omega
    · show (0 + 1) * 1 ≤ 1; omega
    · show (n + 1) * 2048 ≤ 4096; omega

theorem tbl_eq : (tbl m 0 : S192.Idx → BitVec 32) = m (((0 : Dev nD) : Thread nD τ).loc main_arg0) := V_main_arg0 m 0
theorem tbl1_eq : (tbl m 1 : S1.Idx → BitVec 32) = m (((0 : Dev nD) : Thread nD τ).loc main_arg1) := V_main_arg1 m 0

/-- Words that `experts` accepts name one of the 32. -/
theorem lt_of_experts {E : Cert.Pre_experts_down.S192.Idx → BitVec 32} {n : Cert.Pre_experts_down.S1.Idx → BitVec 32} {x : FVec F Cert.Pre_experts_down.S98304x1024 .bf16}
    {w : FVec F Cert.Pre_experts_down.S4x32x1024x4096 .f32} {b : FVec F Cert.Pre_experts_down.S4x32x4096 .f32}
    (h : Cert.Pre_experts_down.fn (F := F) E n x w b = fun _ => 1#1) (y : Cert.Pre_experts_down.S192.Idx) : (E y).toNat < 32 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_experts_down.fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

end Cert.MoeDownIdeal.Down

end
-- ==== Proof.DownRun.lean ====
/- The runs of the experts' down projection's body: at a used block with a new expert, at a used block with the expert of the block
before, and at an unused block. -/
module

public import proofs.«01_k».proof.Proof.DownKit

@[expose] public section

set_option maxRecDepth 16384

noncomputable section

namespace Cert.MoeDownIdeal.Down

open Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a used block whose expert is new: what it stores into the result's buffer and into the weight buffer. -/
noncomputable def runA (c : Dev nD) (i : grid0.Coords) (arg4 : Memref sig .tc .vmem S512x1024 .bf16) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S512x2048 .bf16) (harg7 : arg7.IsWhole) (arg8 : Memref sig .tc .vmem S1024x2048 .bf16) (harg8 : arg8.IsWhole)
  (x0 : Vec F S512x1024 .bf16) (x1 : Vec F S1x1x1024x2048 .f32) (x2 : Vec F S1x1x1x2048 .f32) (xt0 : TbBuf0 (F := F) c tbM0_0) (xt1 : TbBuf0 (F := F) c tbM0_1) (hu : k0_cond1 i (nuAt xt1) = 1#1) (hn : ¬k0_cond3 i (nuAt xt1) = 1#1) (hc : fresh i (beAt i xt0) (bePrevAt i xt0)) :
    Σ' (L3 : List (View.Piece (Elt F) S512x2048 .bf16)), { LS0 : List (View.Piece (Elt F) S1024x2048 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f LS0) ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg4 harg4 arg5 harg5 arg6 harg6 arg7 harg7 arg8 harg8) K } := by
  refine ⟨?_, ?_, fun E K => ?run⟩
  case run =>
    simp only [cc0_moe_down_eq_skeleton]; unfold cc0_moe_down_skel
    unfold owns
    iintro ⟨⟨%f0, %hf0, H0⟩, ⟨%f1, %hf1, H1⟩, ⟨%f2, %hf2, H2⟩, ⟨%d3, %f3, -, H3⟩, ⟨%ds0, %fs0, -, HS0⟩, HT0, HT1, Hk⟩
    obtain rfl := harg4.eq_unread hf0; obtain rfl := harg5.eq_unread hf1; obtain rfl := harg6.eq_unread hf2
    sl_exec (disch := first | sl_exact hu | sl_exact hn | sl_exact hc)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HT0]; · iexact HT0
    iexact HT1

set_option maxHeartbeats 1000000 in
/-- The body at a used block whose expert is the one of the block before: the weight buffer stays as it is. -/
noncomputable def runB (c : Dev nD) (i : grid0.Coords) (arg4 : Memref sig .tc .vmem S512x1024 .bf16) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S512x2048 .bf16) (harg7 : arg7.IsWhole) (arg8 : Memref sig .tc .vmem S1024x2048 .bf16) (harg8 : arg8.IsWhole)
  (x0 : Vec F S512x1024 .bf16) (x1 : Vec F S1x1x1024x2048 .f32) (x2 : Vec F S1x1x1x2048 .f32) (xt0 : TbBuf0 (F := F) c tbM0_0) (xt1 : TbBuf0 (F := F) c tbM0_1) (xs0 : Vec F S1024x2048 .bf16) (hu : k0_cond1 i (nuAt xt1) = 1#1) (hn : ¬k0_cond3 i (nuAt xt1) = 1#1) (hc : ¬fresh i (beAt i xt0) (bePrevAt i xt0)) :
    { L3 : List (View.Piece (Elt F) S512x2048 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs0 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ owns (c : Thread nD τ) arg8 fullShare xs0 ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg4 harg4 arg5 harg5 arg6 harg6 arg7 harg7 arg8 harg8) K } := by
  refine ⟨?_, fun E K => ?run⟩
  case run =>
    simp only [cc0_moe_down_eq_skeleton]; unfold cc0_moe_down_skel
    unfold owns
    iintro ⟨⟨%f0, %hf0, H0⟩, ⟨%f1, %hf1, H1⟩, ⟨%f2, %hf2, H2⟩, ⟨%d3, %f3, -, H3⟩, ⟨%fs0, %hs0, HS0⟩, HT0, HT1, Hk⟩
    obtain rfl := harg4.eq_unread hf0; obtain rfl := harg5.eq_unread hf1; obtain rfl := harg6.eq_unread hf2
    obtain rfl := harg8.eq_unread hs0
    sl_exec (disch := first | sl_exact hu | sl_exact hn | sl_exact hc)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]
    · iexists _; isplitr; · ipureintro; exact harg8.read_unread _
      iexact HS0
    isplitl [HT0]; · iexact HT0
    iexact HT1

set_option maxHeartbeats 1000000 in
/-- The body at an unused block: the weight buffer stays as it is. -/
noncomputable def runC (c : Dev nD) (i : grid0.Coords) (arg4 : Memref sig .tc .vmem S512x1024 .bf16) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S512x2048 .bf16) (harg7 : arg7.IsWhole) (arg8 : Memref sig .tc .vmem S1024x2048 .bf16) (harg8 : arg8.IsWhole)
  (x0 : Vec F S512x1024 .bf16) (x1 : Vec F S1x1x1024x2048 .f32) (x2 : Vec F S1x1x1x2048 .f32) (xt0 : TbBuf0 (F := F) c tbM0_0) (xt1 : TbBuf0 (F := F) c tbM0_1) (xs0 : Vec F S1024x2048 .bf16) (hu : ¬k0_cond1 i (nuAt xt1) = 1#1) (hn : k0_cond3 i (nuAt xt1) = 1#1) :
    { L3 : List (View.Piece (Elt F) S512x2048 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs0 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ owns (c : Thread nD τ) arg8 fullShare xs0 ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg4 harg4 arg5 harg5 arg6 harg6 arg7 harg7 arg8 harg8) K } := by
  refine ⟨?_, fun E K => ?run⟩
  case run =>
    simp only [cc0_moe_down_eq_skeleton]; unfold cc0_moe_down_skel
    unfold owns
    iintro ⟨⟨%f0, %hf0, H0⟩, ⟨%f1, %hf1, H1⟩, ⟨%f2, %hf2, H2⟩, ⟨%d3, %f3, -, H3⟩, ⟨%fs0, %hs0, HS0⟩, HT0, HT1, Hk⟩
    obtain rfl := harg4.eq_unread hf0; obtain rfl := harg5.eq_unread hf1; obtain rfl := harg6.eq_unread hf2
    obtain rfl := harg8.eq_unread hs0
    sl_exec (disch := first | sl_exact hu | sl_exact hn)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]
    · iexists _; isplitr; · ipureintro; exact harg8.read_unread _
      iexact HS0
    isplitl [HT0]; · iexact HT0
    iexact HT1

end Cert.MoeDownIdeal.Down

end
-- ==== Proof.DownOut.lean ====
/- What the runs of the experts' down projection leave in the result's buffer and in the weight buffer. -/
module

public import proofs.«01_k».proof.Proof.DownRun
public import Idealize.ShloMosaic.Lib.Pipeline.ValueKit
public import Idealize.ShloMosaic.Lib.WritesUnit

@[expose] public section

set_option maxRecDepth 16384

noncomputable section

namespace Cert.MoeDownIdeal.Down

open Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a run leaves -/

/-- A block of the result: a block of rows times the weight buffer, plus the bias block. -/
def downBlk (x0 : Vec F S512x1024 .bf16) (x2 : Vec F S1x1x1x2048 .f32) (W : Vec F S1024x2048 .bf16) : FVec F S512x2048 .bf16 :=
  k0_pay2 x0 W x2

set_option maxHeartbeats 1000000 in
/-- The result's block after a run at a new expert: from the expert's weight block, rounded. -/
theorem readA3 (c : Dev nD) (i : grid0.Coords) (arg4 : Memref sig .tc .vmem S512x1024 .bf16) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S512x2048 .bf16) (harg7 : arg7.IsWhole) (arg8 : Memref sig .tc .vmem S1024x2048 .bf16) (harg8 : arg8.IsWhole)
  (x0 : Vec F S512x1024 .bf16) (x1 : Vec F S1x1x1024x2048 .f32) (x2 : Vec F S1x1x1x2048 .f32) (xt0 : TbBuf0 (F := F) c tbM0_0) (xt1 : TbBuf0 (F := F) c tbM0_1) (hu : k0_cond1 i (nuAt xt1) = 1#1) (hn : ¬k0_cond3 i (nuAt xt1) = 1#1) (hc : fresh i (beAt i xt0) (bePrevAt i xt0)) (f : arg7.view.ty.Contents (Elt F)) :
    arg7.view.read (Elt F) (arg7.view.writes (Elt F) f (runA c i arg4 harg4 arg5 harg5 arg6 harg6 arg7 harg7 arg8 harg8 x0 x1 x2 xt0 xt1 hu hn hc).1) = downBlk x0 x2 (k0_pay1 x1) := by
  rw [View.read_writes_of_cover arg7.view f VO0_3 VO0_3.junk _ (fun y => View.cover_of_tiledL (runA c i arg4 harg4 arg5 harg5 arg6 harg6 arg7 harg7 arg8 harg8 x0 x1 x2 xt0 xt1 hu hn hc).1 S512x2048.size (by sl_kernel_rfl) y)]

  unfold runA
  frame_out
  try rfl

set_option maxHeartbeats 1000000 in
/-- The weight buffer after a run at a new expert. -/
theorem readA8 (c : Dev nD) (i : grid0.Coords) (arg4 : Memref sig .tc .vmem S512x1024 .bf16) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S512x2048 .bf16) (harg7 : arg7.IsWhole) (arg8 : Memref sig .tc .vmem S1024x2048 .bf16) (harg8 : arg8.IsWhole)
  (x0 : Vec F S512x1024 .bf16) (x1 : Vec F S1x1x1024x2048 .f32) (x2 : Vec F S1x1x1x2048 .f32) (xt0 : TbBuf0 (F := F) c tbM0_0) (xt1 : TbBuf0 (F := F) c tbM0_1) (hu : k0_cond1 i (nuAt xt1) = 1#1) (hn : ¬k0_cond3 i (nuAt xt1) = 1#1) (hc : fresh i (beAt i xt0) (bePrevAt i xt0)) (f : arg8.view.ty.Contents (Elt F)) :
    arg8.view.read (Elt F) (arg8.view.writes (Elt F) f (runA c i arg4 harg4 arg5 harg5 arg6 harg6 arg7 harg7 arg8 harg8 x0 x1 x2 xt0 xt1 hu hn hc).2.1) = k0_pay1 x1 := by
  rw [View.read_writes_of_cover arg8.view f VS0_0 VS0_0.junk _ (fun y => View.cover_of_tiledL (runA c i arg4 harg4 arg5 harg5 arg6 harg6 arg7 harg7 arg8 harg8 x0 x1 x2 xt0 xt1 hu hn hc).2.1 S1024x2048.size (by sl_kernel_rfl) y)]

  unfold runA
  frame_out
  try rfl

set_option maxHeartbeats 1000000 in
/-- The result's block after a run that keeps the weight buffer. -/
theorem readB3 (c : Dev nD) (i : grid0.Coords) (arg4 : Memref sig .tc .vmem S512x1024 .bf16) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S512x2048 .bf16) (harg7 : arg7.IsWhole) (arg8 : Memref sig .tc .vmem S1024x2048 .bf16) (harg8 : arg8.IsWhole)
  (x0 : Vec F S512x1024 .bf16) (x1 : Vec F S1x1x1024x2048 .f32) (x2 : Vec F S1x1x1x2048 .f32) (xt0 : TbBuf0 (F := F) c tbM0_0) (xt1 : TbBuf0 (F := F) c tbM0_1) (xs0 : Vec F S1024x2048 .bf16) (hu : k0_cond1 i (nuAt xt1) = 1#1) (hn : ¬k0_cond3 i (nuAt xt1) = 1#1) (hc : ¬fresh i (beAt i xt0) (bePrevAt i xt0)) (f : arg7.view.ty.Contents (Elt F)) :
    arg7.view.read (Elt F) (arg7.view.writes (Elt F) f (runB c i arg4 harg4 arg5 harg5 arg6 harg6 arg7 harg7 arg8 harg8 x0 x1 x2 xt0 xt1 xs0 hu hn hc).1) = downBlk x0 x2 xs0 := by
  rw [View.read_writes_of_cover arg7.view f VO0_3 VO0_3.junk _ (fun y => View.cover_of_tiledL (runB c i arg4 harg4 arg5 harg5 arg6 harg6 arg7 harg7 arg8 harg8 x0 x1 x2 xt0 xt1 xs0 hu hn hc).1 S512x2048.size (by sl_kernel_rfl) y)]

  unfold runB
  frame_out
  try rfl

set_option maxHeartbeats 1000000 in
/-- The result's block after a run at an unused block: zeros. -/
theorem readC3 (c : Dev nD) (i : grid0.Coords) (arg4 : Memref sig .tc .vmem S512x1024 .bf16) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S512x2048 .bf16) (harg7 : arg7.IsWhole) (arg8 : Memref sig .tc .vmem S1024x2048 .bf16) (harg8 : arg8.IsWhole)
  (x0 : Vec F S512x1024 .bf16) (x1 : Vec F S1x1x1024x2048 .f32) (x2 : Vec F S1x1x1x2048 .f32) (xt0 : TbBuf0 (F := F) c tbM0_0) (xt1 : TbBuf0 (F := F) c tbM0_1) (xs0 : Vec F S1024x2048 .bf16) (hu : ¬k0_cond1 i (nuAt xt1) = 1#1) (hn : k0_cond3 i (nuAt xt1) = 1#1) (f : arg7.view.ty.Contents (Elt F)) :
    arg7.view.read (Elt F) (arg7.view.writes (Elt F) f (runC c i arg4 harg4 arg5 harg5 arg6 harg6 arg7 harg7 arg8 harg8 x0 x1 x2 xt0 xt1 xs0 hu hn).1) = k0_pay3 := by
  rw [View.read_writes_of_cover arg7.view f VO0_3 VO0_3.junk _ (fun y => View.cover_of_tiledL (runC c i arg4 harg4 arg5 harg5 arg6 harg6 arg7 harg7 arg8 harg8 x0 x1 x2 xt0 xt1 xs0 hu hn).1 S512x2048.size (by sl_kernel_rfl) y)]

  unfold runC
  frame_out
  try rfl

end Cert.MoeDownIdeal.Down

end
-- ==== Proof.DownData.lean ====
/- The experts' down projection: what its buffers hold point by point, the body at every point, the run and the frame. -/
module

public import proofs.«01_k».proof.Proof.DownOut
public import proofs.«01_k».proof.Proof.DownIdx

@[expose] public section

set_option maxRecDepth 16384

noncomputable section

namespace Cert.MoeDownIdeal.Down

open Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of point `t` is used. -/
abbrev used (c : Dev nD) (t : Fin grid0.N) : Prop := k0_cond1 (grid0.coords t) (nuAt (F := F) (c := c) (tbl m 1)) = 1#1

/-- The weights of point `t`, rounded. -/
def wOf (hO : Ok m) (c : Dev nD) (t : Fin (cfgM m hO).N) : Vec F S1024x2048 .bf16 := k0_pay1 (iblk m hO c 1 t)

/-- What the result's buffer holds after point `t`. -/
@[irreducible] def outAt (hO : Ok m) (c : Dev nD) (t : Fin (cfgM m hO).N) : Vec F S512x2048 .bf16 :=
  if used m c t then downBlk (iblk m hO c 0 t) (iblk m hO c 2 t) (wOf m hO c t) else k0_pay3

theorem outAt_used (hO : Ok m) (c : Dev nD) (t : Fin (cfgM m hO).N) (h : used m c t) :
    outAt m hO c t = downBlk (iblk m hO c 0 t) (iblk m hO c 2 t) (wOf m hO c t) := by
  unfold outAt; exact if_pos h
theorem outAt_unused (hO : Ok m) (c : Dev nD) (t : Fin (cfgM m hO).N) (h : ¬used m c t) : outAt m hO c t = k0_pay3 := by
  unfold outAt; exact if_neg h

/-- Where the weights are not loaded anew, the point is not a column's first, and the point before has the same weights and is used as well. -/
theorem keep (hO : Ok m) (c : Dev nD) (t : Fin (cfgM m hO).N) (hu : used m c t)
    (hf : ¬fresh (grid0.coords t) (beAt (F := F) (c := c) (grid0.coords t) (tbl m 0)) (bePrevAt (F := F) (c := c) (grid0.coords t) (tbl m 0))) :
    t.val ≠ 0 ∧ used m c ⟨t.val - 1, Nat.lt_of_le_of_lt (Nat.sub_le _ _) t.isLt⟩
      ∧ wOf m hO c ⟨t.val - 1, Nat.lt_of_le_of_lt (Nat.sub_le _ _) t.isLt⟩ = wOf m hO c t := by
  have ht : t.val < 384 := lt_of_lt_of_eq t.isLt (show (cfgM m hO).N = 384 from N_0)
  have hs := Nat.lt_of_le_of_lt (Nat.sub_le t.val 1) t.isLt
  rw [fresh_iff, (offs t).2.2.2.2, be_eq, bePrev_eq, not_or, not_not] at hf
  obtain ⟨h0, hw⟩ := hf
  have hz : t.val ≠ 0 := fun h => h0 (by rw [h])
  have e : (t.val - 1) % 192 = t.val % 192 - 1 := by omega
  have ed : (t.val - 1) / 192 = t.val / 192 := by omega
  have hww : word m ⟨(t.val - 1) % 192, lt192 _⟩ = word m ⟨t.val % 192, lt192 _⟩ := by
    rw [hw]; congr 1; exact Fin.ext e
  refine ⟨hz, ?_, ?_⟩
  · have h1 := (used_slt _ _).mp hu
    refine (used_slt _ _).mpr (lt_of_le_of_lt ?_ h1)
    rw [(offs t).2.2.2.2, (offs ⟨t.val - 1, hs⟩).2.2.2.2]
    simp only [BitVec.toInt, BitVec.toNat_ofNat]
    have hl := lt192 t.val
    have hl' := lt192 (t.val - 1)
    rw [Nat.mod_eq_of_lt (by omega : t.val % 192 < 2 ^ 32), Nat.mod_eq_of_lt (by omega : (t.val - 1) % 192 < 2 ^ 32)]
    rw [if_pos (by omega), if_pos (by omega)]
    omega
  · refine congrArg k0_pay1 (iblk1_congr m hO c _ _ ?_)
    rw [(ix_val m t).2.1, (ix_val m ⟨t.val - 1, hs⟩).2.1]
    show ![0, (word m ⟨(t.val - 1) % 192, lt192 _⟩).toNat, 0, (t.val - 1) / 192] = _
    rw [hww, ed]

/-! ## The invariant -/

/-- Before the first point the weight buffer holds anything; after a used point they hold that point's weights. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(∃ d0 : Vec F S1024x2048 .bf16, ⌜used m c ⟨n, hn⟩ → d0 = wOf m hO c ⟨n, hn⟩⌝ ∗ owns (c : Thread nD τ) scM0_0 fullShare d0 ∗ (∃ r, prngReg c r) ∗ tbPt0 c tbM0_0 (tbl m 0) ∗ tbPt0 c tbM0_1 (tbl m 1))

theorem PhiS_succ (hO : Ok m) (c : Dev nD) (n : ℕ) (hn : n < (cfgM m hO).N) :
    PhiS m hO c (n + 1) hn = iprop(∃ d0 : Vec F S1024x2048 .bf16, ⌜used m c ⟨n, hn⟩ → d0 = wOf m hO c ⟨n, hn⟩⌝ ∗ owns (c : Thread nD τ) scM0_0 fullShare d0 ∗ (∃ r, prngReg c r) ∗ tbPt0 c tbM0_0 (tbl m 0) ∗ tbPt0 c tbM0_1 (tbl m 1)) := rfl

theorem PhiS_pos (hO : Ok m) (c : Dev nD) (t : Fin (cfgM m hO).N) (hz : t.val ≠ 0) :
    PhiS m hO c t.val (Nat.le_of_lt t.isLt) = iprop(∃ d0 : Vec F S1024x2048 .bf16, ⌜used m c ⟨t.val - 1, Nat.lt_of_le_of_lt (Nat.sub_le _ _) t.isLt⟩ → d0 = wOf m hO c ⟨t.val - 1, Nat.lt_of_le_of_lt (Nat.sub_le _ _) t.isLt⟩⌝ ∗ owns (c : Thread nD τ) scM0_0 fullShare d0 ∗ (∃ r, prngReg c r) ∗ tbPt0 c tbM0_0 (tbl m 0) ∗ tbPt0 c tbM0_1 (tbl m 1)) := by
  obtain ⟨n, hn⟩ := t
  cases n with
  | zero => exact absurd rfl hz
  | succ n => rfl

theorem PhiS_posN (hO : Ok m) (c : Dev nD) (n : ℕ) (h : n ≤ (cfgM m hO).N) (hz : n ≠ 0) (hn : n - 1 < (cfgM m hO).N) :
    PhiS m hO c n h = iprop(∃ d0 : Vec F S1024x2048 .bf16, ⌜used m c ⟨n - 1, hn⟩ → d0 = wOf m hO c ⟨n - 1, hn⟩⌝ ∗ owns (c : Thread nD τ) scM0_0 fullShare d0 ∗ (∃ r, prngReg c r) ∗ tbPt0 c tbM0_0 (tbl m 0) ∗ tbPt0 c tbM0_1 (tbl m 1)) := by
  cases n with
  | zero => exact absurd rfl hz
  | succ n => rfl

/-- The weight buffer at anything. -/
def anyHeld (c : Dev nD) : sProp 𝕄 :=
  iprop(∃ d0 : Vec F S1024x2048 .bf16, owns (c : Thread nD τ) scM0_0 fullShare d0 ∗ (∃ r, prngReg c r) ∗ tbPt0 c tbM0_0 (tbl m 0) ∗ tbPt0 c tbM0_1 (tbl m 1))

theorem PhiS_any (hO : Ok m) (c : Dev nD) (t : Fin (cfgM m hO).N) : PhiS m hO c t.val (Nat.le_of_lt t.isLt) ⊢ anyHeld m c := by
  unfold anyHeld
  by_cases hz : t.val = 0
  · rw [show PhiS m hO c t.val (Nat.le_of_lt t.isLt) = iprop(Pipeline.ΦA spec0 c ∗ Pipeline.ΦT pre0 (tbl m) c) from by
      obtain ⟨n, hn⟩ := t; subst hz; rfl, PhiT0_eq, PhiA0_eq]
    iintro ⟨⟨⟨%d0, HS0⟩, Hg⟩, HT0, HT1⟩
    iexists d0
    isplitl [HS0]; · iexact HS0
    isplitl [Hg]; · iexact Hg
    isplitl [HT0]; · iexact HT0
    iexact HT1
  · rw [PhiS_pos m hO c t hz]
    iintro ⟨%d0, -, HS0, Hg, HT0, HT1⟩
    iexists d0
    isplitl [HS0]; · iexact HS0
    isplitl [Hg]; · iexact Hg
    isplitl [HT0]; · iexact HT0
    iexact HT1

/-- The weight buffer at the weights of point `t`. -/
def itsHeld (hO : Ok m) (c : Dev nD) (t : Fin (cfgM m hO).N) : sProp 𝕄 :=
  iprop(owns (c : Thread nD τ) scM0_0 fullShare (wOf m hO c t) ∗ (∃ r, prngReg c r) ∗ tbPt0 c tbM0_0 (tbl m 0) ∗ tbPt0 c tbM0_1 (tbl m 1))

theorem PhiS_its (hO : Ok m) (c : Dev nD) (t : Fin (cfgM m hO).N) (hu : used m c t)
    (hf : ¬fresh (grid0.coords t) (beAt (F := F) (c := c) (grid0.coords t) (tbl m 0)) (bePrevAt (F := F) (c := c) (grid0.coords t) (tbl m 0))) :
    PhiS m hO c t.val (Nat.le_of_lt t.isLt) ⊢ itsHeld m hO c t := by
  obtain ⟨hz, hu', h1⟩ := keep m hO c t hu hf
  unfold itsHeld
  rw [PhiS_pos m hO c t hz]
  iintro ⟨%d0, %hd, HS0, Hg, HT0, HT1⟩
  rw [← h1, ← hd hu']
  isplitl [HS0]; · iexact HS0
  isplitl [Hg]; · iexact Hg
  isplitl [HT0]; · iexact HT0
  iexact HT1

/-! ## The pipeline's proof data -/

/-- The arrays as the region finds them; after a point each input's buffer at its block and the result's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

set_option maxHeartbeats 4000000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl,
    after0_0, after0_1, after0_2, after0_3]
  rw [show (dats m hO 0 c).Φ t.succ = PhiS m hO c (t.val + 1) t.isLt from rfl, PhiS_succ, PhiS_castSucc m hO c t]
  by_cases hu : used m c t
  · have hn : ¬k0_cond3 (grid0.coords t) (nuAt (F := F) (c := c) (tbl m 1)) = 1#1 := fun h => (used_iff _ _).mp h hu
    by_cases hf : fresh (grid0.coords t) (beAt (F := F) (c := c) (grid0.coords t) (tbl m 0)) (bePrevAt (F := F) (c := c) (grid0.coords t) (tbl m 0))
    · have hΦ := PhiS_any m hO c t
      unfold anyHeld at hΦ
      iintro ⟨HΦ, Ho, ⟨%d0, H0⟩, ⟨%d1, H1⟩, ⟨%d2, H2⟩, ⟨%d3, H3⟩⟩
      ihave ⟨%s0, HS0, Hg, HT0, HT1⟩ := hΦ $$ HΦ
      iapply (runA c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO c 0 t) (iblk m hO c 1 t) (iblk m hO c 2 t) (tbl m 0) (tbl m 1) hu hn hf).2.2 Set.univ _
      isplitl [H0]; · iexact H0
      isplitl [H1]; · iexact H1
      isplitl [H2]; · iexact H2
      isplitl [H3]; · iexists _; iexact H3
      isplitl [HS0]; · iexists _; iexact HS0
      isplitl [HT0]; · iexact HT0
      isplitl [HT1]; · iexact HT1
      iintro ⟨H0, H1, H2, ⟨%e3, H3⟩, ⟨%es0, HS0⟩, HT0, HT1⟩
      isplitl [HS0 Hg HT0 HT1]
      · iexists _
        isplitr; · ipureintro; exact fun _ => rfl
        isplitl [HS0]
        · unfold owns; iexists _; isplitr
          swap; · iexact HS0
          ipureintro; exact readA8 c _ _ _ _ _ _ _ _ _ _ _ _ _ _ _ _ hu hn hf _
        isplitl [Hg]; · iexact Hg
        isplitl [HT0]; · iexact HT0
        iexact HT1
      isplitl [Ho]; · iexact Ho
      isplitl [H0]; · iexact H0
      isplitl [H1]; · iexact H1
      isplitl [H2]; · iexact H2
      unfold owns; iexists _; isplitr
      swap; · iexact H3
      ipureintro; exact (readA3 c _ _ _ _ _ _ _ _ _ _ _ _ _ _ _ _ hu hn hf _).trans (outAt_used m hO c t hu).symm

    · have hΦ := PhiS_its m hO c t hu hf
      unfold itsHeld at hΦ
      iintro ⟨HΦ, Ho, ⟨%d0, H0⟩, ⟨%d1, H1⟩, ⟨%d2, H2⟩, ⟨%d3, H3⟩⟩
      ihave ⟨HS0, Hg, HT0, HT1⟩ := hΦ $$ HΦ
      iapply (runB c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO c 0 t) (iblk m hO c 1 t) (iblk m hO c 2 t) (tbl m 0) (tbl m 1) _ hu hn hf).2 Set.univ _
      isplitl [H0]; · iexact H0
      isplitl [H1]; · iexact H1
      isplitl [H2]; · iexact H2
      isplitl [H3]; · iexists _; iexact H3
      isplitl [HS0]; · iexact HS0
      isplitl [HT0]; · iexact HT0
      isplitl [HT1]; · iexact HT1
      iintro ⟨H0, H1, H2, ⟨%e3, H3⟩, HS0, HT0, HT1⟩
      isplitl [HS0 Hg HT0 HT1]
      · iexists _
        isplitr; · ipureintro; exact fun _ => rfl
        isplitl [HS0]; · iexact HS0
        isplitl [Hg]; · iexact Hg
        isplitl [HT0]; · iexact HT0
        iexact HT1
      isplitl [Ho]; · iexact Ho
      isplitl [H0]; · iexact H0
      isplitl [H1]; · iexact H1
      isplitl [H2]; · iexact H2
      unfold owns; iexists _; isplitr
      swap; · iexact H3
      ipureintro; exact (readB3 c _ _ _ _ _ _ _ _ _ _ _ _ _ _ _ _ _ hu hn hf _).trans (outAt_used m hO c t hu).symm

  · have hn : k0_cond3 (grid0.coords t) (nuAt (F := F) (c := c) (tbl m 1)) = 1#1 := (used_iff _ _).mpr hu
    have hΦ := PhiS_any m hO c t
    unfold anyHeld at hΦ
    iintro ⟨HΦ, Ho, ⟨%d0, H0⟩, ⟨%d1, H1⟩, ⟨%d2, H2⟩, ⟨%d3, H3⟩⟩
    ihave ⟨%s0, HS0, Hg, HT0, HT1⟩ := hΦ $$ HΦ
    iapply (runC c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO c 0 t) (iblk m hO c 1 t) (iblk m hO c 2 t) (tbl m 0) (tbl m 1) _ hu hn).2 Set.univ _
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    iintro ⟨H0, H1, H2, ⟨%e3, H3⟩, HS0, HT0, HT1⟩
    isplitl [HS0 Hg HT0 HT1]
    · iexists s0
      isplitr; · ipureintro; exact fun h => absurd h hu
      isplitl [HS0]; · iexact HS0
      isplitl [Hg]; · iexact Hg
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact (readC3 c _ _ _ _ _ _ _ _ _ _ _ _ _ _ _ _ _ hu hn _).trans (outAt_unused m hO c t hu).symm

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem idleB (i : grid0.Coords) (v : BitVec 32) : (!(k0_cond1 i v == 1#1) && !(k0_cond3 i v == 1#1)) = false := by
  by_cases h : k0_cond1 i v = 1#1
  · rw [beq_iff_eq.mpr h]; rfl
  · rw [beq_iff_eq.mpr ((used_iff i v).mpr h), Bool.and_eq_false_iff]; exact .inr rfl

theorem idle0_3 (pf : pre0.Contents (Elt F)) (i : grid0.Coords) : idle0 pf 3 i = false := idleB i _

/-- No point leaves the result's buffer alone. -/
theorem idle3 (hO : Ok m) (i : grid0.Coords) : (cfgM m hO).idle 3 i = false := by
  have e : (cfgM m hO).idle = idle0 (tbl m) := rfl
  rw [e, idle0_3]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  rw [idle3 m hO]
  exact .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = iprop(Pipeline.ΦA spec0 c ∗ Pipeline.ΦT pre0 (tbl m) c) from rfl]
  try exact Idealize.SL.BI.Entails.refl _

/-- After the last point the buffers' contents are forgotten. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val (Nat.le_of_lt_succ (Fin.last (cfgM m hO).N).isLt) from rfl,
    PhiS_posN m hO c _ _ (by rw [Fin.val_last]; have : (cfgM m hO).N = 384 := N_0; omega) (by rw [Fin.val_last]; have : (cfgM m hO).N = 384 := N_0; omega), PhiA0_eq]
  iintro ⟨%d0, -, HS0, Hg, -, -⟩
  isplitl [HS0]
  · iexists _; iexact HS0
  iexact Hg

/-! ## The run and the frame -/

set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch0.to₀ defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame: every argument array is unchanged and every counter is zero at the end. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.MoeDownIdeal.Down

end
-- ==== Proof.DownSpec.lean ====
/- The experts' down projection: what the result's entries are, as sums over the extended reals. -/
module

public import proofs.«01_k».proof.Proof.Gen.MoeDownIdeal
public import Idealize.ShloMosaic.Lib.Pipeline.ValueKit
public import Idealize.ShloMosaic.PureOps.Ideal

@[expose] public section

set_option maxRecDepth 16384

noncomputable section

open Idealize.ShloMosaic Idealize.ShloMosaic.TcCoe Idealize.SL.Sem

namespace Cert.MoeDownIdeal.Spec

open Cert.MoeDownIdeal Cert.MoeDownIdeal.Gen

/-- One entry of a row times an expert's weights, plus the expert's bias. -/
def lin (x : S98304x1024.Idx → EReal) (w : S4x32x1024x4096.Idx → EReal) (b : S4x32x4096.Idx → EReal) (e : Fin 32) (r : Fin 98304) (q : Fin 4096) : EReal :=
  (∑ k : Fin 1024, x (ix2 r k) * w (ix4 0 e k q)) + b (ix3 0 e q)

/-- The expert a table's word names. -/
def ex (E : S192.Idx → BitVec 32) (k : Fin 192) : Fin 32 := ⟨(E (ix1 k)).toNat % 32, Nat.mod_lt _ (by decide)⟩

/-- One entry of the result: the row times the weights of its block's expert, plus that expert's bias, and zero in a block at or after the count. -/
def ent (E : S192.Idx → BitVec 32) (n : S1.Idx → BitVec 32) (x : S98304x1024.Idx → EReal) (w : S4x32x1024x4096.Idx → EReal) (b : S4x32x4096.Idx → EReal)
    (k : Fin 192) (a : Fin 512) (q : Fin 4096) : EReal :=
  if (BitVec.ofNat 32 k.val).toInt < (n (ix1 0)).toInt then
    lin x w b (ex E k) ⟨k.val * 512 + a.val, by omega⟩ q
  else 0

/-- The result array. -/
def out (E : S192.Idx → BitVec 32) (n : S1.Idx → BitVec 32) (x : S98304x1024.Idx → EReal) (w : S4x32x1024x4096.Idx → EReal) (b : S4x32x4096.Idx → EReal) :
    S98304x4096.Idx → EReal :=
  fun i => ent E n x w b ⟨(i 0).val / 512, by have : (i 0).val < 98304 := (i 0).isLt; omega⟩ ⟨(i 0).val % 512, Nat.mod_lt _ (by decide)⟩ ⟨(i 1).val, (i 1).isLt⟩

end Cert.MoeDownIdeal.Spec

end
-- ==== Proof.DownVal.lean ====
/- The experts' down projection: the kernel's result array. -/
module

public import proofs.«01_k».proof.Proof.DownSpec
public import proofs.«01_k».proof.Proof.DownData
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MoeDownIdeal.Val

open Cert.MoeDownIdeal Cert.MoeDownIdeal.Gen Cert.MoeDownIdeal.Down Cert.MoeDownIdeal.Spec

/-! ## The payloads at an entry -/

theorem pay1_at (W : Vec Ideal S1x1x1024x2048 .f32) (k : Fin 1024) (b : Fin 2048) : k0_pay1 (F := Ideal) W (ix2 k b) = W (ix4 0 0 k b) := by
  pointwise [k0_pay1]

theorem pay2_at (X : Vec Ideal S512x1024 .bf16) (V : Vec Ideal S1024x2048 .bf16) (B : Vec Ideal S1x1x1x2048 .f32) (a : Fin 512) (b : Fin 2048) :
    k0_pay2 (F := Ideal) X V B (ix2 a b) = (∑ k : Fin 1024, X (ix2 a k) * V (ix2 k b)) + B (ix4 0 0 0 b) := by
  pointwise [k0_pay2]

theorem pay3_at (y : S512x2048.Idx) : k0_pay3 (F := Ideal) y = 0 := by
  pointwise [k0_pay3]

/-- One entry of a used block. -/
theorem downBlk_at (x : Vec Ideal S512x1024 .bf16) (B : Vec Ideal S1x1x1x2048 .f32) (W : Vec Ideal S1x1x1024x2048 .f32) (a : Fin 512) (b : Fin 2048) :
    downBlk (F := Ideal) x B (k0_pay1 W) (ix2 a b) = (∑ k : Fin 1024, x (ix2 a k) * W (ix4 0 0 k b)) + B (ix4 0 0 0 b) := by
  unfold downBlk
  rw [pay2_at]
  exact congrArg (· + B (ix4 0 0 0 b)) (Finset.sum_congr rfl fun k _ => congrArg (x (ix2 a k) * ·) (pay1_at W k b))

/-! ## The windows' blocks -/

variable (m : (ℓ : Loc nD τ sig) → Buf (Elt Ideal) ℓ) (hO : Ok m) (c : Dev nD)

theorem dev_eq (c : Dev nD) : c = 0 := Subsingleton.elim c 0

/-- The biases with an axis of one put in. -/
theorem V_b : V m c main_v0 = shapeCast S4x32x1x4096 (m ((c : Thread nD τ).loc main_arg4) : S4x32x4096.Idx → EReal) shapeCasts_S4x32x4096_S4x32x1x4096 := by
  unfold V
  simp only [hostOps0, List.flatten_cons, List.flatten_nil, List.append_nil, List.cons_append, List.nil_append]
  after_results_simp
  rfl

theorem b_at (b : S4x32x4096.Idx → EReal) (l : Fin 4) (e : Fin 32) (q : Fin 4096) :
    shapeCast S4x32x1x4096 b shapeCasts_S4x32x4096_S4x32x1x4096 (ix4 l e 0 q) = b (ix3 l e q) := by
  pointwise

variable (t : Fin (cfgM m hO).N)

theorem lt384 : t.val < 384 := t.isLt

theorem x_read (a : Fin 512) (k : Fin 1024) :
    (iblk m hO c 0 t : S512x1024.Idx → EReal) (ix2 a k) = (m ((c : Thread nD τ).loc main_arg2) : S98304x1024.Idx → EReal)
      (ix2 ⟨t.val % 192 * 512 + a.val, by omega⟩ k) := by
  refine Eq.trans (b := (V m c main_arg2 : S98304x1024.Idx → EReal) (ix2 ⟨t.val % 192 * 512 + a.val, by omega⟩ k)) ?_ (congrFun (V_main_arg2 m c) _)
  refine congrArg (V m c main_arg2) (funext fun i => Fin.ext ?_)
  have e := (ix_val m t).1
  match i with
  | ⟨0, _⟩ => show cc0_transform_0 (grid0.coords t) 0 * 512 + 1 * a.val = t.val % 192 * 512 + a.val; rw [e]; show t.val % 192 * 512 + 1 * a.val = _; omega
  | ⟨1, _⟩ => show cc0_transform_0 (grid0.coords t) 1 * 1024 + 1 * k.val = k.val; rw [e]; show 0 * 1024 + 1 * k.val = _; omega

theorem w_read (k : Fin 1024) (b : Fin 2048) (e : Fin 32) (he : (word m ⟨t.val % 192, lt192 _⟩).toNat = e.val) :
    (iblk m hO c 1 t : S1x1x1024x2048.Idx → EReal) (ix4 0 0 k b) = (m ((c : Thread nD τ).loc main_arg3) : S4x32x1024x4096.Idx → EReal)
      (ix4 0 e k ⟨t.val / 192 * 2048 + b.val, by have := lt384 m hO t; omega⟩) := by
  refine Eq.trans (b := (V m c main_arg3 : S4x32x1024x4096.Idx → EReal) (ix4 0 e k ⟨t.val / 192 * 2048 + b.val, by have := lt384 m hO t; omega⟩)) ?_ (congrFun (V_main_arg3 m c) _)
  refine congrArg (V m c main_arg3) (funext fun i => Fin.ext ?_)
  have h := (ix_val m t).2.1
  rw [he] at h
  match i with
  | ⟨0, _⟩ => show cc0_transform_1 k0_off1_inb numel1_S1 (tbl m) (grid0.coords t) 0 * 1 + 1 * 0 = 0; rw [h]; rfl
  | ⟨1, _⟩ => show cc0_transform_1 k0_off1_inb numel1_S1 (tbl m) (grid0.coords t) 1 * 1 + 1 * 0 = e.val; rw [h]; show e.val * 1 + 1 * 0 = _; omega
  | ⟨2, _⟩ => show cc0_transform_1 k0_off1_inb numel1_S1 (tbl m) (grid0.coords t) 2 * 1024 + 1 * k.val = k.val; rw [h]; show 0 * 1024 + 1 * k.val = _; omega
  | ⟨3, _⟩ => show cc0_transform_1 k0_off1_inb numel1_S1 (tbl m) (grid0.coords t) 3 * 2048 + 1 * b.val = t.val / 192 * 2048 + b.val; rw [h]; show t.val / 192 * 2048 + 1 * b.val = _; omega

theorem b_read (b : Fin 2048) (e : Fin 32) (he : (word m ⟨t.val % 192, lt192 _⟩).toNat = e.val) :
    (iblk m hO c 2 t : S1x1x1x2048.Idx → EReal) (ix4 0 0 0 b) = (m ((c : Thread nD τ).loc main_arg4) : S4x32x4096.Idx → EReal)
      (ix3 0 e ⟨t.val / 192 * 2048 + b.val, by have := lt384 m hO t; omega⟩) := by
  refine Eq.trans (b := (V m c main_v0 : S4x32x1x4096.Idx → EReal) (ix4 0 e 0 ⟨t.val / 192 * 2048 + b.val, by have := lt384 m hO t; omega⟩)) ?_ ((congrFun (V_b m c) _).trans (b_at _ _ _ _))
  refine congrArg (V m c main_v0) (funext fun i => Fin.ext ?_)
  have h := (ix_val m t).2.2.1
  rw [he] at h
  match i with
  | ⟨0, _⟩ => show cc0_transform_2 k0_off1_inb numel1_S1 (tbl m) (grid0.coords t) 0 * 1 + 1 * 0 = 0; rw [h]; rfl
  | ⟨1, _⟩ => show cc0_transform_2 k0_off1_inb numel1_S1 (tbl m) (grid0.coords t) 1 * 1 + 1 * 0 = e.val; rw [h]; show e.val * 1 + 1 * 0 = _; omega
  | ⟨2, _⟩ => show cc0_transform_2 k0_off1_inb numel1_S1 (tbl m) (grid0.coords t) 2 * 1 + 1 * 0 = 0; rw [h]; rfl
  | ⟨3, _⟩ => show cc0_transform_2 k0_off1_inb numel1_S1 (tbl m) (grid0.coords t) 3 * 2048 + 1 * b.val = t.val / 192 * 2048 + b.val; rw [h]; show t.val / 192 * 2048 + 1 * b.val = _; omega

/-! ## The result array -/

theorem used_cond : used m c t ↔ (BitVec.ofNat 32 (t.val % 192)).toInt < ((tbl m 1 : S1.Idx → BitVec 32) (ix1 0)).toInt := by
  unfold used
  rw [used_slt, (offs t).2.2.2.2]
  have e : nuAt (F := Ideal) (c := c) (tbl m 1) = (tbl m 1 : S1.Idx → BitVec 32) (ix1 0) :=
    congrArg (tbl m 1 : S1.Idx → BitVec 32) (funext fun (a : Fin 1) => Fin.ext (by obtain rfl : a = 0 := Subsingleton.elim a 0; rfl))
  rw [e]

/-- The block a point leaves, entry by entry. -/
theorem outAt_at (hlt : ∀ k, (word m k).toNat < 32) (a : Fin 512) (b : Fin 2048) :
    (outAt m hO c t : S512x2048.Idx → EReal) (ix2 a b)
      = ent (tbl m 0) (tbl m 1) (m ((c : Thread nD τ).loc main_arg2)) (m ((c : Thread nD τ).loc main_arg3)) (m ((c : Thread nD τ).loc main_arg4))
          ⟨t.val % 192, lt192 _⟩ a ⟨t.val / 192 * 2048 + b.val, by have := lt384 m hO t; omega⟩ := by
  have he : (word m ⟨t.val % 192, lt192 _⟩).toNat = (ex (tbl m 0) ⟨t.val % 192, lt192 _⟩).val := (Nat.mod_eq_of_lt (hlt _)).symm
  unfold ent
  by_cases hu : used m c t
  · rw [outAt_used m hO c t hu, if_pos ((used_cond m hO c t).mp hu)]
    unfold wOf
    refine (downBlk_at _ _ _ a b).trans ?_
    unfold lin
    refine congrArg₂ (· + ·) (Finset.sum_congr rfl fun k _ => ?_) (b_read m hO c t b _ he)
    exact congrArg₂ (· * ·) (x_read m hO c t a k) (w_read m hO c t k b _ he)
  · rw [outAt_unused m hO c t hu, if_neg (fun h => hu ((used_cond m hO c t).mpr h))]
    exact pay3_at _

/-- Where an entry of the result's block at a point lies in the array. -/
theorem emb3 (a : Fin 512) (b : Fin 2048) :
    ((((cfgM m hO).win 3).blk t).view.emb (ix2 a b : S512x2048.Idx) : S98304x4096.Idx)
      = ix2 ⟨t.val % 192 * 512 + a.val, by omega⟩ ⟨t.val / 192 * 2048 + b.val, by have := lt384 m hO t; omega⟩ := by
  refine funext fun i => Fin.ext ?_
  have e := (ix_val m t).2.2.2
  match i with
  | ⟨0, _⟩ => show cc0_transform_3 (grid0.coords t) 0 * 512 + 1 * a.val = t.val % 192 * 512 + a.val; rw [e]; show t.val % 192 * 512 + 1 * a.val = _; omega
  | ⟨1, _⟩ => show cc0_transform_3 (grid0.coords t) 1 * 2048 + 1 * b.val = t.val / 192 * 2048 + b.val; rw [e]; show t.val / 192 * 2048 + 1 * b.val = _; omega

theorem flushes : ∀ t : Fin grid0.N, Pipeline.Window.flushOf grid0 true cc0_transform_3 t = true := by decide +kernel

theorem flush3 : ((cfgM m hO).win 3).flush t = true := flushes t

/-- The result at an entry of a block, by the block's number and the place in it. -/
theorem out_at (E : S192.Idx → BitVec 32) (n : S1.Idx → BitVec 32) (x : S98304x1024.Idx → EReal) (w : S4x32x1024x4096.Idx → EReal) (b : S4x32x4096.Idx → EReal)
    (k : Fin 192) (a : Fin 512) (q : Fin 4096) : out E n x w b (ix2 ⟨k.val * 512 + a.val, by omega⟩ q) = ent E n x w b k a q := by
  unfold out
  have e0 : (⟨(k.val * 512 + a.val) / 512, by omega⟩ : Fin 192) = k := Fin.ext (by show (k.val * 512 + a.val) / 512 = k.val; omega)
  have e1 : (⟨(k.val * 512 + a.val) % 512, by omega⟩ : Fin 512) = a := Fin.ext (by show (k.val * 512 + a.val) % 512 = a.val; omega)
  show ent E n x w b ⟨(k.val * 512 + a.val) / 512, _⟩ ⟨(k.val * 512 + a.val) % 512, _⟩ q = _
  rw [e0, e1]

/-- Every entry of the array lies in some point's block. -/
theorem cover (i : S98304x4096.Idx) : ∃ t : Fin (cfgM m hO).N, ((cfgM m hO).win 3).flush t = true ∧ i ∈ (((cfgM m hO).win 3).blk t).view.set := by
  have h0 : (i 0).val < 98304 := (i 0).isLt
  have h1 : (i 1).val < 4096 := (i 1).isLt
  have hN : (i 1).val / 2048 * 192 + (i 0).val / 512 < 384 := by omega
  refine ⟨⟨(i 1).val / 2048 * 192 + (i 0).val / 512, hN⟩, flush3 m hO _, ?_⟩
  have h := (((cfgM m hO).win 3).blk ⟨(i 1).val / 2048 * 192 + (i 0).val / 512, hN⟩).view.emb_mem_set
    (ix2 ⟨(i 0).val % 512, Nat.mod_lt _ (by decide)⟩ ⟨(i 1).val % 2048, Nat.mod_lt _ (by decide)⟩ : S512x2048.Idx)
  refine Eq.mp (congrArg (· ∈ _) ((emb3 m hO ⟨(i 1).val / 2048 * 192 + (i 0).val / 512, hN⟩ _ _).trans ?_)) h
  refine funext fun a => Fin.ext ?_
  match a with
  | ⟨0, _⟩ => show ((i 1).val / 2048 * 192 + (i 0).val / 512) % 192 * 512 + (i 0).val % 512 = (i 0).val; omega
  | ⟨1, _⟩ => show ((i 1).val / 2048 * 192 + (i 0).val / 512) / 192 * 2048 + (i 1).val % 2048 = (i 1).val; omega

/-- A block's entry by its row and column. -/
theorem pair (y : S512x2048.Idx) : ∃ (a : Fin 512) (b : Fin 2048), y = ix2 a b :=
  ⟨y 0, y 1, funext fun a => match a with
    | ⟨0, _⟩ => rfl
    | ⟨1, _⟩ => rfl⟩

/-- The kernel's result array. -/
theorem final (hlt : ∀ k, (word m k).toNat < 32) : (dats m hO 0 c).arrAt 3 (cfgM m hO).N
    = out (tbl m 0) (tbl m 1) (m ((c : Thread nD τ).loc main_arg2)) (m ((c : Thread nD τ).loc main_arg3)) (m ((c : Thread nD τ).loc main_arg4)) := by
  refine (dats m hO 0 c).arrAt_eq_of_emb 3 _ (fun t hf y => ?_) (fun i => ?_)
  · obtain ⟨a, b, rfl⟩ : ∃ (a : Fin 512) (b : Fin 2048), y = (ix2 a b : S512x2048.Idx) := pair y
    have ht : t.val < 384 := lt384 m hO t
    have hb := b.isLt
    refine Eq.trans (b := (outAt m hO c t : S512x2048.Idx → EReal) (ix2 a b)) (congrFun (after0_3 m hO c t) (ix2 a b : S512x2048.Idx)) ?_
    refine (outAt_at m hO c t hlt a b).trans ?_
    refine Eq.trans (out_at _ _ _ _ _ ⟨t.val % 192, lt192 _⟩ a ⟨t.val / 192 * 2048 + b.val, by omega⟩).symm ?_
    exact congrArg (out _ _ _ _ _) (emb3 m hO t a b).symm
  · exact cover m hO i

include hO in
/-- The run: the result array as above, the arguments unchanged. -/
theorem run (ρ : Dev nD → PrngReg) (hlt : ∀ k, (word m k).toNat < 32) :
    θ_run defs (onTc (τ := τ) (main (F := Ideal))) ⟨m, fun _ => 0, ρ⟩ (fun r => ∀ c : Dev nD,
      r.2.mem ((c.tc : Thread nD τ).loc main_v1) = out (tbl m 0) (tbl m 1) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 3).trans (final m hO c hlt),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats m hO 0 c).arrAt_in 0 rfl _).trans ((A_eq m hO c 0).trans (V_main_arg2 m c))),
      ((h c).1 1).trans (((dats m hO 0 c).arrAt_in 1 rfl _).trans ((A_eq m hO c 1).trans (V_main_arg3 m c))),
      ((h c).2 main_arg4 (by decide : main_arg4 ∈ Pipeline.restRefs sig spec0)).trans (V_main_arg4 m c)⟩) (run_main m ρ hO)

end Cert.MoeDownIdeal.Val

end
-- ==== Proof.DownRef.lean ====
/- The experts' down projection: the reference's result array. -/
module

public import proofs.«01_k».proof.Proof.DownSpec
public import proofs.«01_k».proof.Proof.Gen.MoeDownRefIdeal
public import proofs.«01_k».proof.Proof.Gen.MoeDownRefIdeal.Run
public import proofs.«01_k».proof.Proof.Gen.MoeDownRefIdeal.Read
public import Idealize.ShloMosaic.Lib.Routing.Ops
public import Idealize.ShloMosaic.Lib.Pipeline.ValueKit
public import Idealize.ShloMosaic.Lib.IdealHost
public import Idealize.ShloMosaic.Lib.Pointwise

@[expose] public section

set_option maxRecDepth 16384

noncomputable section

open Idealize.ShloMosaic Idealize.ShloMosaic.TcCoe Idealize.SL.Sem

namespace Cert.MoeDownRefIdeal.Ref

open Cert.MoeDownRefIdeal Cert.MoeDownRefIdeal.Gen Cert.MoeDownRefIdeal.Read
open Cert.MoeDownIdeal.Spec (lin ex ent out)

/-- The weights' gather: block `p` takes the matrix its word names. -/
theorem gather_w (x : S32x1024x4096.Idx → EReal) (idx : S192x1.Idx → BitVec 32) (p : Fin 192) (k : Fin 1024) (q : Fin 4096) (e : Fin 32)
    (he : idx (ix2 p (0 : Fin 1)) = BitVec.ofNat 32 e.val) :
    Host.gather gather_S32x1024x4096_S192x1_S192x1024x4096_12_0_n_n_0_1_110244096 x idx (ix3 p k q) = x (ix3 e k q) := by
  unfold Host.gather
  generalize hd : gather_S32x1024x4096_S192x1_S192x1024x4096_12_0_n_n_0_1_110244096 = d
  have hob : ∀ a, a ∉ d.operandBatchingDims := by subst hd; exact fun a => List.not_mem_nil
  refine congrArg x (funext fun a => Fin.ext ?_)
  match a with
  | ⟨0, _⟩ =>
    show d.start (ix3 p k q) idx 0 + d.batchCoord (ix3 p k q) 0 + d.offCoord (ix3 p k q) 0 = e.val
    have hk : (0 : Fin 3) ∉ d.sKept := fun h => ((d.mem_sKept 0).1 h).1 (by subst hd; exact List.mem_singleton.2 rfl)
    have hm : (0 : Fin 3) ∈ d.startIndexMap := by subst hd; exact List.mem_singleton.2 rfl
    rw [d.batchCoord_eq_zero _ _ (hob 0), d.offCoord_eq_zero _ _ hk, Nat.add_zero]
    unfold GatherDims.start
    rw [dif_pos hm]
    have hsi : d.siIdx (ix3 p k q) ⟨d.startIndexMap.idxOf 0, List.idxOf_lt_length_iff.2 hm⟩ = ix2 p (0 : Fin 1) := by
      subst hd
      refine funext fun b => Fin.ext ?_
      match b with
      | ⟨0, _⟩ => rfl
      | ⟨1, _⟩ => rfl
    have hsl : d.sliceSizes 0 = 1 := by subst hd; rfl
    have hbl := e.isLt
    rw [hsi, he, hsl, StableHlo.Predicate.toInt_ofNat_small _ (by omega)]
    show min ((e.val : Int)).toNat (32 - 1) = e.val
    omega
  | ⟨1, _⟩ =>
    show d.start (ix3 p k q) idx 1 + d.batchCoord (ix3 p k q) 1 + d.offCoord (ix3 p k q) 1 = k.val
    have hm : (1 : Fin 3) ∉ d.startIndexMap := by subst hd; decide
    rw [d.batchCoord_eq_zero _ _ (hob 1), Nat.add_zero]
    unfold GatherDims.start
    rw [dif_neg hm, Nat.zero_add]
    subst hd
    rfl
  | ⟨2, _⟩ =>
    show d.start (ix3 p k q) idx 2 + d.batchCoord (ix3 p k q) 2 + d.offCoord (ix3 p k q) 2 = q.val
    have hm : (2 : Fin 3) ∉ d.startIndexMap := by subst hd; decide
    rw [d.batchCoord_eq_zero _ _ (hob 2), Nat.add_zero]
    unfold GatherDims.start
    rw [dif_neg hm, Nat.zero_add]
    subst hd
    rfl

variable (E : S192.Idx → BitVec 32) (n : S1.Idx → BitVec 32) (x : S98304x1024.Idx → EReal) (w : S4x32x1024x4096.Idx → EReal) (b : S4x32x4096.Idx → EReal)

/-- A word in range is not negative, and the gather's index is the word. -/
theorem word_at (h : ∀ y, (E y).toNat < 32) (p : Fin 192) (v z : BitVec 32) (hv : v = 32#32) (hz : z = 0#32) :
    Scalar.select (IntOp.cmpi .slt (E (ix1 p)) z) (IntOp.addi (E (ix1 p)) v) (E (ix1 p)) = BitVec.ofNat 32 (ex E p).val := by
  have hp := h (ix1 p)
  have e : ¬IntOp.cmpi .slt (E (ix1 p)) z = 1#1 := by
    subst hz
    have ofBool_eq_one (p : Bool) : (BitVec.ofBool p = 1#1) ↔ p = true := by cases p <;> decide
    show ¬BitVec.ofBool (BitVec.slt (E (ix1 p)) 0#32) = 1#1
    rw [ofBool_eq_one]
    simp only [BitVec.slt, decide_eq_true_eq, BitVec.toInt, BitVec.toNat_ofNat]
    omega
  refine (if_neg e).trans ?_
  unfold ex
  refine BitVec.eq_of_toNat_eq ?_
  rw [BitVec.toNat_ofNat]
  show (E (ix1 p)).toNat = (E (ix1 p)).toNat % 32 % 2 ^ 32
  omega

theorem idx_w (h : ∀ y, (E y).toNat < 32) (p : Fin 192) : val_main_v9 (F := Ideal) E (ix2 p (0 : Fin 1)) = BitVec.ofNat 32 (ex E p).val := by
  rw [val_main_v9_apply, val_main_v8_apply, val_main_v5_apply, val_main_v7_apply]
  rw [show idx_main_v9 (ix2 p (0 : Fin 1)) = ix1 p from funext fun a => Fin.ext (by obtain rfl : a = 0 := Subsingleton.elim a 0; rfl)]
  exact word_at E h p _ _ (by rw [val_main_v6_apply, val_main_c_0_apply]) (by rw [val_main_v4_apply, val_main_c_apply])

theorem idx_b (h : ∀ y, (E y).toNat < 32) (p : Fin 192) : val_main_v19 (F := Ideal) E (ix2 p (0 : Fin 1)) = BitVec.ofNat 32 (ex E p).val := by
  rw [val_main_v19_apply, val_main_v18_apply, val_main_v15_apply, val_main_v17_apply]
  rw [show idx_main_v19 (ix2 p (0 : Fin 1)) = ix1 p from funext fun a => Fin.ext (by obtain rfl : a = 0 := Subsingleton.elim a 0; rfl)]
  exact word_at E h p _ _ (by rw [val_main_v16_apply, val_main_c_2_apply]) (by rw [val_main_v14_apply, val_main_c_1_apply])

/-- The gathered weights. -/
theorem wts_at (h : ∀ y, (E y).toNat < 32) (p : Fin 192) (k : Fin 1024) (q : Fin 4096) :
    val_main_v10 (F := Ideal) E w (ix3 p k q) = w (ix4 0 (ex E p) k q) := by
  unfold val_main_v10
  refine (gather_w _ _ p k q (ex E p) (idx_w E h p)).trans ?_
  rw [val_main_v3_apply, val_main_v2_apply]
  have hk := k.isLt
  have hq := q.isLt
  have he := (ex E p).isLt
  refine congrArg w (funext fun a => Fin.ext ?_)
  match a with
  | ⟨0, _⟩ => rfl
  | ⟨1, _⟩ => show (((ex E p).val * 1024 + k.val) * 4096 + q.val) / 4194304 % 32 = (ex E p).val; omega
  | ⟨2, _⟩ => show (((ex E p).val * 1024 + k.val) * 4096 + q.val) / 4096 % 1024 = k.val; omega
  | ⟨3, _⟩ => show (((ex E p).val * 1024 + k.val) * 4096 + q.val) % 4096 = q.val; omega

/-- The gathered biases. -/
theorem bias_at (h : ∀ y, (E y).toNat < 32) (p : Fin 192) (q : Fin 4096) :
    val_main_v20 (F := Ideal) E b (ix2 p q) = b (ix3 0 (ex E p) q) := by
  unfold val_main_v20
  refine (Routing.gather_row _ rfl rfl rfl rfl rfl _ _ p q (ex E p) (idx_b E h p) (by decide)).trans ?_
  rw [val_main_v13_apply, val_main_v12_apply]
  have hq := q.isLt
  have he := (ex E p).isLt
  refine congrArg b (funext fun a => Fin.ext ?_)
  match a with
  | ⟨0, _⟩ => rfl
  | ⟨1, _⟩ => show ((ex E p).val * 4096 + q.val) / 4096 % 32 = (ex E p).val; omega
  | ⟨2, _⟩ => show ((ex E p).val * 4096 + q.val) % 4096 = q.val; omega

/-- The projection. -/
theorem lin_at (h : ∀ y, (E y).toNat < 32) (p : Fin 192) (a : Fin 512) (q : Fin 4096) :
    val_main_v23 (F := Ideal) E x w b (ix3 p a q) = lin x w b (ex E p) ⟨p.val * 512 + a.val, by omega⟩ q := by
  have hp := p.isLt
  have ha := a.isLt
  rw [val_main_v23_apply, val_main_v11_apply, val_main_v22_apply, val_main_v21_apply]
  unfold lin
  refine congrArg₂ (· + ·) (Finset.sum_congr rfl fun k _ => congrArg₂ (· * ·) ?_ ?_) ?_
  · have hk := k.isLt
    rw [val_main_v1_apply, val_main_v0_apply]
    refine congrArg x (funext fun i => Fin.ext ?_)
    match i with
    | ⟨0, _⟩ => show ((p.val * 512 + a.val) * 1024 + k.val) / 1024 = p.val * 512 + a.val; omega
    | ⟨1, _⟩ => show ((p.val * 512 + a.val) * 1024 + k.val) % 1024 = k.val; omega
  · refine Eq.trans (congrArg (val_main_v10 (F := Ideal) E w) (funext fun i => Fin.ext ?_)) (wts_at E w h p k q)
    match i with
    | ⟨0, _⟩ => rfl
    | ⟨1, _⟩ => rfl
    | ⟨2, _⟩ => rfl
  · refine Eq.trans (congrArg (val_main_v20 (F := Ideal) E b) (funext fun i => Fin.ext ?_)) (bias_at E b h p q)
    match i with
    | ⟨0, _⟩ => rfl
    | ⟨1, _⟩ => rfl

/-- The count, as every block reads it. -/
theorem n_at (p : Fin 192) : val_main_v26 (F := Ideal) n (ix1 p) = n (ix1 0) := by
  rw [val_main_v26_apply]
  unfold val_main_v25
  exact congrArg n (funext fun a => Fin.ext (by obtain rfl : a = 0 := Subsingleton.elim a 0; exact congrArg Fin.val (Subsingleton.elim (α := Fin 1) _ _)))

/-- The masked block. -/
theorem mask_at (h : ∀ y, (E y).toNat < 32) (p : Fin 192) (a : Fin 512) (q : Fin 4096) :
    val_main_v29 (F := Ideal) E n x w b (ix3 p a q) = ent E n x w b p a q := by
  have ec : val_main_call0_v1 (F := Ideal) n (ix3 p a q) = BitVec.ofBool (BitVec.slt (BitVec.ofNat 32 p.val) (n (ix1 0))) := by
    rw [val_main_call0_v1_apply, val_main_v28_apply]
    refine Eq.trans (congrArg (val_main_v27 (F := Ideal) n) (a₂ := ix1 p) (funext fun i => Fin.ext (by obtain rfl : i = 0 := Subsingleton.elim i 0; rfl))) ?_
    rw [val_main_v27_apply, n_at]
    rfl
  have ez : val_main_call0_v2 (F := Ideal) (ix3 p a q) = 0 := by
    rw [val_main_call0_v2_apply, val_main_call0_v0_apply, val_main_cst_apply]
    exact Ideal.ofBits_zero_f32
  rw [val_main_v29_apply, ec, ez, lin_at E x w b h]
  unfold ent
  have ofBool_eq_one (p : Bool) : (BitVec.ofBool p = 1#1) ↔ p = true := by cases p <;> decide
  have es : BitVec.ofBool (BitVec.slt (BitVec.ofNat 32 p.val) (n (ix1 0))) = 1#1 ↔ (BitVec.ofNat 32 p.val).toInt < (n (ix1 0)).toInt := by
    rw [ofBool_eq_one]
    simp only [BitVec.slt, decide_eq_true_eq]
  unfold Scalar.select
  by_cases hc : (BitVec.ofNat 32 p.val).toInt < (n (ix1 0)).toInt
  · exact (if_pos (es.mpr hc)).trans (if_pos hc).symm
  · exact (if_neg (fun e => hc (es.mp e))).trans (if_neg hc).symm

/-- The reference's result. -/
theorem out_eq (h : ∀ y, (E y).toNat < 32) : val_main_v31 (F := Ideal) E n x w b = out E n x w b := by
  funext i
  have h0 : (i 0).val < 98304 := (i 0).isLt
  have h1 : (i 1).val < 4096 := (i 1).isLt
  rw [val_main_v31_apply, val_main_v30_apply]
  refine Eq.trans (congrArg (val_main_v29 (F := Ideal) E n x w b)
    (a₂ := ix3 ⟨(i 0).val / 512, by omega⟩ ⟨(i 0).val % 512, Nat.mod_lt _ (by decide)⟩ ⟨(i 1).val, (i 1).isLt⟩) (funext fun a => Fin.ext ?_)) (mask_at E n x w b h _ _ _)
  match a with
  | ⟨0, _⟩ => show ((i 0).val * 4096 + (i 1).val) / 2097152 = (i 0).val / 512; omega
  | ⟨1, _⟩ => show ((i 0).val * 4096 + (i 1).val) / 4096 % 512 = (i 0).val % 512; omega
  | ⟨2, _⟩ => show ((i 0).val * 4096 + (i 1).val) % 4096 = (i 1).val; omega

end Cert.MoeDownRefIdeal.Ref

end
-- ==== Proof.MoeKit.lean ====
/- The experts' gate and up projections: the tables, the windows' blocks and the memrefs that the body's runs are stated over. -/
module

public import proofs.«01_k».proof.Proof.Gen.MoeUpIdeal.Launch
public import proofs.«01_k».proof.Proof.Gen.MoeUpIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MoeUpIdeal.Up

open Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_up (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-! ## The tables -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S192 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_MoeUpIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 2).trans (((dats 0 c).arrAt_in 2 rfl _).trans ((hA c 2).trans (V_main_arg3 m c))),
      ((h c).2 main_arg4 (by decide : main_arg4 ∈ Pipeline.restRefs sig spec0)).trans (V_main_arg4 m c)⟩) h

/-! ## The conditions of the body -/

/-- The number of used blocks, as the body reads it. -/
abbrev nuAt {c : Dev nD} (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))
/-- The expert of the point's block, as the body reads it. -/
abbrev beAt {c : Dev nD} (i : grid0.Coords) (xt0 : TbBuf0 (F := F) c tbM0_0) : BitVec 32 :=
  tbM0_0.view.readAt (Elt F) (Rect.unit (s := S192) (k0_off2 i) S1.size (k0_off2_inb i)).toLoadRect xt0 (Shape.Idx.first (numel1_S1.symm ▸ Nat.one_pos))
/-- The expert of the block before it, as the body reads it. -/
abbrev bePrevAt {c : Dev nD} (i : grid0.Coords) (xt0 : TbBuf0 (F := F) c tbM0_0) : BitVec 32 :=
  tbM0_0.view.readAt (Elt F) (Rect.unit (s := S192) (k0_off3 i) S1.size (k0_off3_inb i)).toLoadRect xt0 (Shape.Idx.first (numel1_S1.symm ▸ Nat.one_pos))

/-- The weights are loaded anew: at the first block, and where the expert is another than the block before's. -/
abbrev fresh (i : grid0.Coords) (v10 : BitVec 32) (v14 : BitVec 32) : Prop := (Scalar.cmpi .ne (Scalar.extui (Scalar.ori (Scalar.cmpi .eq (BitVec.ofNat 32 (i 1).val) 0#32) (Scalar.cmpi .ne v10 v14))) 0#32) = 1#1

/-! ## The memrefs -/

/-- One staging buffer of output window 5, through which its contents are stated (`View.read_writes_of_cover`: the
    choice does not matter). -/
abbrev VO0_5 : View sig .tc .vmem S512x512 .bf16 := (Memref.whole cc0_stg5_0 : Memref sig .tc .vmem S512x512 .bf16).view
/-- Each window's current staging memref at point `t`, spelled as the pipeline passes it (`bodyAt0`), and its wholeness. -/
abbrev ms0_0 (hO : Ok m) (t : Fin (cfgM m hO).N) : Memref sig .tc .vmem S512x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x4096x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x4096x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1x512 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1x512 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x512 .bf16 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S4096x512 .bf16 := Memref.whole cc0_scratch0
abbrev scM0_1 : Memref sig .tc .vmem S4096x512 .bf16 := Memref.whole cc0_scratch1
/-- The scratch `arg10` the kernel carries between points, as a view: what it holds is stated through it. -/
abbrev VS0_0 : View sig .tc .vmem S4096x512 .bf16 := scM0_0.view
/-- The scratch `arg11` the kernel carries between points, as a view: what it holds is stated through it. -/
abbrev VS0_1 : View sig .tc .vmem S4096x512 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.MoeUpIdeal.Up

end
-- ==== Proof.MoeIdx.lean ====
/- The experts' up projection: the words its body and its windows read, the windows' indices, the conditions in closed form. -/
module

public import proofs.«01_k».proof.Proof.MoeKit
public import Idealize.ShloMosaic.Lib.Pipeline.ValueKit
public import Idealize.ShloMosaic.Lib.Pointwise

@[expose] public section

set_option maxRecDepth 16384

noncomputable section

namespace Cert.MoeUpIdeal.Up

open Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words and the windows' indices -/

/-- The expert of block `k`. -/
def word (k : Fin 192) : BitVec 32 := (tbl m 0 : S192.Idx → BitVec 32) (ix1 k)

theorem offs : ∀ t : Fin grid0.N, k0_off1 (grid0.coords t) = ![t.val % 192] ∧ k0_off2 (grid0.coords t) = ![t.val % 192]
    ∧ k0_off3 (grid0.coords t) = ![t.val % 192 - 1] ∧ (grid0.coords t 0).val = t.val / 192 ∧ (grid0.coords t 1).val = t.val % 192 := by
  decide +kernel

theorem lt192 (n : ℕ) : n % 192 < 192 := Nat.mod_lt _ (by decide)

theorem be_eq (c : Dev nD) (t : Fin grid0.N) : beAt (F := F) (c := c) (grid0.coords t) (tbl m 0) = word m ⟨t.val % 192, lt192 _⟩ := by
  refine congrArg (tbl m 0 : S192.Idx → BitVec 32) (funext fun (a : Fin 1) => Fin.ext ?_)
  obtain rfl : a = 0 := Subsingleton.elim a 0
  show k0_off2 (grid0.coords t) 0 + 1 * 0 = t.val % 192
  rw [(offs t).2.1]; rfl

theorem bePrev_eq (c : Dev nD) (t : Fin grid0.N) : bePrevAt (F := F) (c := c) (grid0.coords t) (tbl m 0) = word m ⟨t.val % 192 - 1, Nat.lt_of_le_of_lt (Nat.sub_le _ _) (lt192 _)⟩ := by
  refine congrArg (tbl m 0 : S192.Idx → BitVec 32) (funext fun (a : Fin 1) => Fin.ext ?_)
  obtain rfl : a = 0 := Subsingleton.elim a 0
  show k0_off3 (grid0.coords t) 0 + 1 * 0 = t.val % 192 - 1
  rw [(offs t).2.2.1]; rfl

theorem at_eq (t : Fin grid0.N) : (tbl m).at 0 (Rect.unit (s := S192) (k0_off1 (grid0.coords t)) S1.size (k0_off1_inb (grid0.coords t))) numel1_S1 = word m ⟨t.val % 192, lt192 _⟩ := by
  refine congrArg (tbl m 0 : S192.Idx → BitVec 32) (funext fun (a : Fin 1) => Fin.ext ?_)
  obtain rfl : a = 0 := Subsingleton.elim a 0
  show k0_off1 (grid0.coords t) 0 + 1 * 0 = t.val % 192
  rw [(offs t).1]; rfl

theorem col : ∀ t : Fin grid0.N, (BitVec.ofNat 32 (grid0.coords t 0).val).toNat = t.val / 192 ∧ (Scalar.addi 0#32 (BitVec.ofNat 32 (grid0.coords t 0).val)).toNat = t.val / 192
    ∧ (Scalar.addi 2#32 (BitVec.ofNat 32 (grid0.coords t 0).val)).toNat = 2 + t.val / 192 ∧ (BitVec.ofNat 32 (grid0.coords t 1).val).toNat = t.val % 192 := by
  decide +kernel

/-- The windows' block indices. -/
theorem ix_val (t : Fin grid0.N) : cc0_transform_0 (grid0.coords t) = ![t.val % 192, 0]
    ∧ cc0_transform_1 k0_off1_inb numel1_S1 (tbl m) (grid0.coords t) = ![0, (word m ⟨t.val % 192, lt192 _⟩).toNat, 0, t.val / 192]
    ∧ cc0_transform_2 k0_off1_inb numel1_S1 (tbl m) (grid0.coords t) = ![0, (word m ⟨t.val % 192, lt192 _⟩).toNat, 0, 2 + t.val / 192]
    ∧ cc0_transform_3 k0_off1_inb numel1_S1 (tbl m) (grid0.coords t) = ![0, (word m ⟨t.val % 192, lt192 _⟩).toNat, 0, t.val / 192]
    ∧ cc0_transform_4 k0_off1_inb numel1_S1 (tbl m) (grid0.coords t) = ![0, (word m ⟨t.val % 192, lt192 _⟩).toNat, 0, 2 + t.val / 192]
    ∧ cc0_transform_5 (grid0.coords t) = ![t.val % 192, t.val / 192] := by
  obtain ⟨e0, e1, e2, e3⟩ := col t
  refine ⟨?_, ?_, ?_, ?_, ?_, ?_⟩
  · show ![(BitVec.ofNat 32 (grid0.coords t 1).val).toNat, 0] = _
    rw [e3]
  · show ![0, ((tbl m).at 0 (Rect.unit (s := S192) (k0_off1 (grid0.coords t)) S1.size (k0_off1_inb (grid0.coords t))) numel1_S1 : BitVec 32).toNat, 0, (Scalar.addi 0#32 (BitVec.ofNat 32 (grid0.coords t 0).val)).toNat] = _
    rw [at_eq, e1]
  · show ![0, ((tbl m).at 0 (Rect.unit (s := S192) (k0_off1 (grid0.coords t)) S1.size (k0_off1_inb (grid0.coords t))) numel1_S1 : BitVec 32).toNat, 0, (Scalar.addi 2#32 (BitVec.ofNat 32 (grid0.coords t 0).val)).toNat] = _
    rw [at_eq, e2]
  · show ![0, ((tbl m).at 0 (Rect.unit (s := S192) (k0_off1 (grid0.coords t)) S1.size (k0_off1_inb (grid0.coords t))) numel1_S1 : BitVec 32).toNat, 0, (Scalar.addi 0#32 (BitVec.ofNat 32 (grid0.coords t 0).val)).toNat] = _
    rw [at_eq, e1]
  · show ![0, ((tbl m).at 0 (Rect.unit (s := S192) (k0_off1 (grid0.coords t)) S1.size (k0_off1_inb (grid0.coords t))) numel1_S1 : BitVec 32).toNat, 0, (Scalar.addi 2#32 (BitVec.ofNat 32 (grid0.coords t 0).val)).toNat] = _
    rw [at_eq, e2]
  · show ![(BitVec.ofNat 32 (grid0.coords t 1).val).toNat, (BitVec.ofNat 32 (grid0.coords t 0).val).toNat] = _
    rw [e0, e3]

/-- The windows' blocks of the weights at two points of the same indices. -/
theorem iblk1_congr (hO : Ok m) (c : Dev nD) (t s : Fin (cfgM m hO).N)
    (h : cc0_transform_1 k0_off1_inb numel1_S1 (tbl m) (grid0.coords t) = cc0_transform_1 k0_off1_inb numel1_S1 (tbl m) (grid0.coords s)) :
    (iblk m hO c 1 t : S1x1x4096x512.Idx → Elt F .f32) = iblk m hO c 1 s := by
  funext y
  refine congrArg (V m c main_arg3) (funext fun a => Fin.ext ?_)
  show cc0_transform_1 k0_off1_inb numel1_S1 (tbl m) (grid0.coords t) a * _ + 1 * _ = cc0_transform_1 k0_off1_inb numel1_S1 (tbl m) (grid0.coords s) a * _ + 1 * _
  rw [h]

theorem iblk2_congr (hO : Ok m) (c : Dev nD) (t s : Fin (cfgM m hO).N)
    (h : cc0_transform_2 k0_off1_inb numel1_S1 (tbl m) (grid0.coords t) = cc0_transform_2 k0_off1_inb numel1_S1 (tbl m) (grid0.coords s)) :
    (iblk m hO c 2 t : S1x1x4096x512.Idx → Elt F .f32) = iblk m hO c 2 s := by
  funext y
  refine congrArg (V m c main_arg3) (funext fun a => Fin.ext ?_)
  show cc0_transform_2 k0_off1_inb numel1_S1 (tbl m) (grid0.coords t) a * _ + 1 * _ = cc0_transform_2 k0_off1_inb numel1_S1 (tbl m) (grid0.coords s) a * _ + 1 * _
  rw [h]

/-! ## The conditions -/

theorem ofBool_ne (p : Bool) : (Scalar.cmpi .ne (Scalar.extui (BitVec.ofBool p) : BitVec 32) 0#32 = 1#1) ↔ p = true := by
  cases p <;> decide

/-- The two conditions exclude each other. -/
theorem used_iff (i : grid0.Coords) (v : BitVec 32) : k0_cond3 i v = 1#1 ↔ ¬k0_cond1 i v = 1#1 := by
  show (Scalar.cmpi .ne (Scalar.extui (BitVec.ofBool (BitVec.sle v (BitVec.ofNat 32 (i 1).val))) : BitVec 32) 0#32 = 1#1)
    ↔ ¬(Scalar.cmpi .ne (Scalar.extui (BitVec.ofBool (BitVec.slt (BitVec.ofNat 32 (i 1).val) v)) : BitVec 32) 0#32 = 1#1)
  rw [ofBool_ne, ofBool_ne]
  simp only [BitVec.sle, BitVec.slt, decide_eq_true_eq]
  omega

/-- A block is used when it comes before the count. -/
theorem used_slt (i : grid0.Coords) (v : BitVec 32) : k0_cond1 i v = 1#1 ↔ (BitVec.ofNat 32 (i 1).val).toInt < v.toInt := by
  show (Scalar.cmpi .ne (Scalar.extui (BitVec.ofBool (BitVec.slt (BitVec.ofNat 32 (i 1).val) v)) : BitVec 32) 0#32 = 1#1) ↔ _
  rw [ofBool_ne]
  simp only [BitVec.slt, decide_eq_true_eq]

theorem fresh_iff (i : grid0.Coords) (v w : BitVec 32) : fresh i v w ↔ (i 1).val = 0 ∨ v ≠ w := by
  have hi : (i 1).val < 192 := (i 1).isLt
  show (Scalar.cmpi .ne (Scalar.extui (Scalar.ori (BitVec.ofBool (BitVec.ofNat 32 (i 1).val == 0#32)) (BitVec.ofBool (v != w))) : BitVec 32) 0#32 = 1#1) ↔ _
  have e : ∀ p q : Bool, (Scalar.cmpi .ne (Scalar.extui (Scalar.ori (BitVec.ofBool p) (BitVec.ofBool q)) : BitVec 32) 0#32 = 1#1) ↔ (p = true ∨ q = true) := by decide
  rw [e, beq_iff_eq, bne_iff_ne]
  refine or_congr ⟨fun h => ?_, fun h => by rw [h]⟩ Iff.rfl
  have := congrArg BitVec.toNat h
  rw [BitVec.toNat_ofNat, BitVec.toNat_ofNat] at this
  omega

end Cert.MoeUpIdeal.Up

end
-- ==== Proof.MoeOk.lean ====
/- The experts' up projection: the tables' side condition, from the bound on the experts. -/
module

public import proofs.«01_k».proof.Proof.MoeIdx
public import proofs.«01_k».proof.Proof.Gen.Pre_experts

@[expose] public section

set_option maxRecDepth 16384

noncomputable section

namespace Cert.MoeUpIdeal.Up

open Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A word of the experts' table, as the windows read it. -/
theorem at_lt (h : ∀ y : S192.Idx, ((tbl m 0 : S192.Idx → BitVec 32) y).toNat < 32) (i : grid0.Coords) :
    ((tbl m).at 0 (Rect.unit (s := S192) (k0_off1 i) S1.size (k0_off1_inb i)) numel1_S1 : BitVec 32).toNat < 32 := h _

theorem addi_lo : ∀ n : Fin 2, (Scalar.addi 0#32 (BitVec.ofNat 32 n.val)).toNat = n.val := by decide
theorem addi_hi : ∀ n : Fin 2, (Scalar.addi 2#32 (BitVec.ofNat 32 n.val)).toNat = 2 + n.val := by decide

/-- The tables' side condition, where every expert is one of the 32. -/
theorem ok_of_lt (h : ∀ y : S192.Idx, ((tbl m 0 : S192.Idx → BitVec 32) y).toNat < 32) : Ok m := by
  refine ⟨fun i => ⟨fun a => ?_, .inl rfl⟩, fun i => ⟨fun a => ?_, .inl rfl⟩, fun i => ⟨fun a => ?_, .inl rfl⟩, fun i => ⟨fun a => ?_, .inl rfl⟩⟩
  · have hw := at_lt m h i
    have hi : (i 0).val < 2 := (i 0).isLt
    have hc := addi_lo ⟨(i 0).val, hi⟩
    show (![0, ((tbl m).at 0 (Rect.unit (s := S192) (k0_off1 i) S1.size (k0_off1_inb i)) numel1_S1 : BitVec 32).toNat, 0, (Scalar.addi 0#32 (BitVec.ofNat 32 (i 0).val)).toNat] a + 1) * (![1, 1, 4096, 512] a) ≤ ![4, 32, 4096, 2048] a
    rw [hc]
    generalize ((tbl m).at 0 (Rect.unit (s := S192) (k0_off1 i) S1.size (k0_off1_inb i)) numel1_S1 : BitVec 32).toNat = w at hw ⊢
    generalize (i 0).val = n at hi ⊢
    fin_cases a
    · show (0 + 1) * 1 ≤ 4; omega
    · show (w + 1) * 1 ≤ 32; omega
    · show (0 + 1) * 4096 ≤ 4096; omega
    · show (n + 1) * 512 ≤ 2048; omega
  · have hw := at_lt m h i
    have hi : (i 0).val < 2 := (i 0).isLt
    have hc := addi_hi ⟨(i 0).val, hi⟩
    show (![0, ((tbl m).at 0 (Rect.unit (s := S192) (k0_off1 i) S1.size (k0_off1_inb i)) numel1_S1 : BitVec 32).toNat, 0, (Scalar.addi 2#32 (BitVec.ofNat 32 (i 0).val)).toNat] a + 1) * (![1, 1, 4096, 512] a) ≤ ![4, 32, 4096, 2048] a
    rw [hc]
    generalize ((tbl m).at 0 (Rect.unit (s := S192) (k0_off1 i) S1.size (k0_off1_inb i)) numel1_S1 : BitVec 32).toNat = w at hw ⊢
    generalize (i 0).val = n at hi ⊢
    fin_cases a
    · show (0 + 1) * 1 ≤ 4; omega
    · show (w + 1) * 1 ≤ 32; omega
    · show (0 + 1) * 4096 ≤ 4096; omega
    · show (2 + n + 1) * 512 ≤ 2048; omega
  · have hw := at_lt m h i
    have hi : (i 0).val < 2 := (i 0).isLt
    have hc := addi_lo ⟨(i 0).val, hi⟩
    show (![0, ((tbl m).at 0 (Rect.unit (s := S192) (k0_off1 i) S1.size (k0_off1_inb i)) numel1_S1 : BitVec 32).toNat, 0, (Scalar.addi 0#32 (BitVec.ofNat 32 (i 0).val)).toNat] a + 1) * (![1, 1, 1, 512] a) ≤ ![4, 32, 1, 2048] a
    rw [hc]
    generalize ((tbl m).at 0 (Rect.unit (s := S192) (k0_off1 i) S1.size (k0_off1_inb i)) numel1_S1 : BitVec 32).toNat = w at hw ⊢
    generalize (i 0).val = n at hi ⊢
    fin_cases a
    · show (0 + 1) * 1 ≤ 4; omega
    · show (w + 1) * 1 ≤ 32; omega
    · show (0 + 1) * 1 ≤ 1; omega
    · show (n + 1) * 512 ≤ 2048; omega
  · have hw := at_lt m h i
    have hi : (i 0).val < 2 := (i 0).isLt
    have hc := addi_hi ⟨(i 0).val, hi⟩
    show (![0, ((tbl m).at 0 (Rect.unit (s := S192) (k0_off1 i) S1.size (k0_off1_inb i)) numel1_S1 : BitVec 32).toNat, 0, (Scalar.addi 2#32 (BitVec.ofNat 32 (i 0).val)).toNat] a + 1) * (![1, 1, 1, 512] a) ≤ ![4, 32, 1, 2048] a
    rw [hc]
    generalize ((tbl m).at 0 (Rect.unit (s := S192) (k0_off1 i) S1.size (k0_off1_inb i)) numel1_S1 : BitVec 32).toNat = w at hw ⊢
    generalize (i 0).val = n at hi ⊢
    fin_cases a
    · show (0 + 1) * 1 ≤ 4; omega
    · show (w + 1) * 1 ≤ 32; omega
    · show (0 + 1) * 1 ≤ 1; omega
    · show (2 + n + 1) * 512 ≤ 2048; omega

theorem tbl_eq : (tbl m 0 : S192.Idx → BitVec 32) = m (((0 : Dev nD) : Thread nD τ).loc main_arg0) := V_main_arg0 m 0
theorem tbl1_eq : (tbl m 1 : S1.Idx → BitVec 32) = m (((0 : Dev nD) : Thread nD τ).loc main_arg1) := V_main_arg1 m 0

/-- Words that `experts` accepts name one of the 32. -/
theorem lt_of_experts {E : Cert.Pre_experts.S192.Idx → BitVec 32} {n : Cert.Pre_experts.S1.Idx → BitVec 32} {x : FVec F Cert.Pre_experts.S98304x4096 .bf16}
    {w : FVec F Cert.Pre_experts.S4x32x4096x2048 .f32} {b : FVec F Cert.Pre_experts.S4x32x2048 .f32}
    (h : Cert.Pre_experts.fn (F := F) E n x w b = fun _ => 1#1) (y : Cert.Pre_experts.S192.Idx) : (E y).toNat < 32 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_experts.fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

end Cert.MoeUpIdeal.Up

end
-- ==== Proof.MoeRun.lean ====
/- The runs of the experts' up projection's body: at a used block with a new expert, at a used block with the expert of the block
before, and at an unused block. -/
module

public import proofs.«01_k».proof.Proof.MoeKit

@[expose] public section

set_option maxRecDepth 16384

noncomputable section

namespace Cert.MoeUpIdeal.Up

open Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a used block whose expert is new: what it stores into the result's buffer and into the two weight buffers. -/
noncomputable def runA (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S512x512 .bf16) (harg9 : arg9.IsWhole) (arg10 : Memref sig .tc .vmem S4096x512 .bf16) (harg10 : arg10.IsWhole) (arg11 : Memref sig .tc .vmem S4096x512 .bf16) (harg11 : arg11.IsWhole)
  (x0 : Vec F S512x4096 .bf16) (x1 : Vec F S1x1x4096x512 .f32) (x2 : Vec F S1x1x4096x512 .f32) (x3 : Vec F S1x1x1x512 .f32) (x4 : Vec F S1x1x1x512 .f32) (xt0 : TbBuf0 (F := F) c tbM0_0) (xt1 : TbBuf0 (F := F) c tbM0_1) (hu : k0_cond1 i (nuAt xt1) = 1#1) (hn : ¬k0_cond3 i (nuAt xt1) = 1#1) (hc : fresh i (beAt i xt0) (bePrevAt i xt0)) :
    Σ' (L5 : List (View.Piece (Elt F) S512x512 .bf16)), Σ' (LS0 : List (View.Piece (Elt F) S4096x512 .bf16)), { LS1 : List (View.Piece (Elt F) S4096x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ tbPt0 c tbM0_0 xt0 ∗ tbPt0 c tbM0_1 xt1) -∗ K ⟨⟩))
          ⊢ wp frame (wpE (defs₀ (F := F)) Variants.none c none) E (cc0_moe_up i tbM0_0 htbM0_0 tbM0_1 htbM0_1 arg4 harg4 arg5 harg5 arg6 harg6 arg7 harg7 arg8 harg8 arg9 harg9 arg10 harg10 arg11 harg11) K } := by
  refine ⟨?_, ?_, ?_, fun E K => ?run⟩
  case run =>
    simp only [cc0_moe_up_eq_skeleton]; unfold cc0_moe_up_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hu | sl_exact hn | sl_exact hc)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]; · iexists _; iexact HS0
    isplitl [HS1]; · iexists _; iexact HS1
    isplitl [HT0]; · iexact HT0
    iexact HT1

set_option maxHeartbeats 1000000 in
/-- The body at a used block whose expert is the one of the block before: the weight buffers stay as they are. -/
noncomputable def runB (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S512x512 .bf16) (harg9 : arg9.IsWhole) (arg10 : Memref sig .tc .vmem S4096x512 .bf16) (harg10 : arg10.IsWhole) (arg11 : Memref sig .tc .vmem S4096x512 .bf16) (harg11 : arg11.IsWhole)
  (x0 : Vec F S512x4096 .bf16) (x1 : Vec F S1x1x4096x512 .f32) (x2 : Vec F S1x1x4096x512 .f32) (x3 : Vec F S1x1x1x512 .f32) (x4 : Vec F S1x1x1x512 .f32) (xt0 : TbBuf0 (F := F) c tbM0_0) (xt1 : TbBuf0 (F := F) c tbM0_1) (xs0 xs1 : Vec F S4096x512 .bf16) (hu : k0_cond1 i (nuAt xt1) = 1#1) (hn : ¬k0_cond3 i (nuAt xt1) = 1#1) (hc : ¬fresh i (beAt i xt0) (bePrevAt i xt0)) :
    { L5 : List (View.Piece (Elt F) S512x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xs0 ∗ owns (c : Thread nD τ) arg11 fullShare xs1 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ owns (c : Thread nD τ) arg10 fullShare xs0 ∗ owns (c : Thread nD τ) arg11 fullShare xs1 ∗ tbPt0 c tbM0_0 xt0 ∗ tbPt0 c tbM0_1 xt1) -∗ K ⟨⟩))
          ⊢ wp frame (wpE (defs₀ (F := F)) Variants.none c none) E (cc0_moe_up i tbM0_0 htbM0_0 tbM0_1 htbM0_1 arg4 harg4 arg5 harg5 arg6 harg6 arg7 harg7 arg8 harg8 arg9 harg9 arg10 harg10 arg11 harg11) K } := by
  refine ⟨?_, fun E K => ?run⟩
  case run =>
    simp only [cc0_moe_up_eq_skeleton]; unfold cc0_moe_up_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, Hk⟩
    obtain rfl := harg4.eq_unread hf0; obtain rfl := harg5.eq_unread hf1; obtain rfl := harg6.eq_unread hf2; obtain rfl := harg7.eq_unread hf3; obtain rfl := harg8.eq_unread hf4
    obtain rfl := harg10.eq_unread hs0; obtain rfl := harg11.eq_unread hs1
    sl_exec (disch := first | sl_exact hu | sl_exact hn | sl_exact hc)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]
    · iexists _; isplitr; · ipureintro; exact harg10.read_unread _
      iexact HS0
    isplitl [HS1]
    · iexists _; isplitr; · ipureintro; exact harg11.read_unread _
      iexact HS1
    isplitl [HT0]; · iexact HT0
    iexact HT1

set_option maxHeartbeats 1000000 in
/-- The body at an unused block: the weight buffers stay as they are. -/
noncomputable def runC (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S512x512 .bf16) (harg9 : arg9.IsWhole) (arg10 : Memref sig .tc .vmem S4096x512 .bf16) (harg10 : arg10.IsWhole) (arg11 : Memref sig .tc .vmem S4096x512 .bf16) (harg11 : arg11.IsWhole)
  (x0 : Vec F S512x4096 .bf16) (x1 : Vec F S1x1x4096x512 .f32) (x2 : Vec F S1x1x4096x512 .f32) (x3 : Vec F S1x1x1x512 .f32) (x4 : Vec F S1x1x1x512 .f32) (xt0 : TbBuf0 (F := F) c tbM0_0) (xt1 : TbBuf0 (F := F) c tbM0_1) (xs0 xs1 : Vec F S4096x512 .bf16) (hu : ¬k0_cond1 i (nuAt xt1) = 1#1) (hn : k0_cond3 i (nuAt xt1) = 1#1) :
    { L5 : List (View.Piece (Elt F) S512x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xs0 ∗ owns (c : Thread nD τ) arg11 fullShare xs1 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ owns (c : Thread nD τ) arg10 fullShare xs0 ∗ owns (c : Thread nD τ) arg11 fullShare xs1 ∗ tbPt0 c tbM0_0 xt0 ∗ tbPt0 c tbM0_1 xt1) -∗ K ⟨⟩))
          ⊢ wp frame (wpE (defs₀ (F := F)) Variants.none c none) E (cc0_moe_up i tbM0_0 htbM0_0 tbM0_1 htbM0_1 arg4 harg4 arg5 harg5 arg6 harg6 arg7 harg7 arg8 harg8 arg9 harg9 arg10 harg10 arg11 harg11) K } := by
  refine ⟨?_, fun E K => ?run⟩
  case run =>
    simp only [cc0_moe_up_eq_skeleton]; unfold cc0_moe_up_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, Hk⟩
    obtain rfl := harg4.eq_unread hf0; obtain rfl := harg5.eq_unread hf1; obtain rfl := harg6.eq_unread hf2; obtain rfl := harg7.eq_unread hf3; obtain rfl := harg8.eq_unread hf4
    obtain rfl := harg10.eq_unread hs0; obtain rfl := harg11.eq_unread hs1
    sl_exec (disch := first | sl_exact hu | sl_exact hn)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]
    · iexists _; isplitr; · ipureintro; exact harg10.read_unread _
      iexact HS0
    isplitl [HS1]
    · iexists _; isplitr; · ipureintro; exact harg11.read_unread _
      iexact HS1
    isplitl [HT0]; · iexact HT0
    iexact HT1

end Cert.MoeUpIdeal.Up

end
-- ==== Proof.MoeOut.lean ====
/- What the runs of the experts' up projection leave in the result's buffer and in the two weight buffers. -/
module

public import proofs.«01_k».proof.Proof.MoeRun
public import Idealize.ShloMosaic.Lib.Pipeline.ValueKit
public import Idealize.ShloMosaic.Lib.WritesUnit

@[expose] public section

set_option maxRecDepth 16384

noncomputable section

namespace Cert.MoeUpIdeal.Up

open Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a run leaves -/

/-- A block of the result: from a block of rows, the two bias blocks and the two weight buffers. -/
def upBlk (x0 : Vec F S512x4096 .bf16) (x3 x4 : Vec F S1x1x1x512 .f32) (W U : Vec F S4096x512 .bf16) : FVec F S512x512 .bf16 :=
  k0_pay1
    (k0_pay5 (View.ld x0 (Rect.unit (s := S512x4096) ![0, 0] S512x2048.size inb_S512x4096_S512x2048_0_0))
      (View.ld x0 (Rect.unit (s := S512x4096) ![0, 2048] S512x2048.size inb_S512x4096_S512x2048_0_2048))
      (View.ld W (Rect.unit (s := S4096x512) ![0, 0] S2048x512.size inb_S4096x512_S2048x512_0_0))
      (View.ld W (Rect.unit (s := S4096x512) ![2048, 0] S2048x512.size inb_S4096x512_S2048x512_2048_0)) x3)
    (k0_pay6 (View.ld x0 (Rect.unit (s := S512x4096) ![0, 0] S512x2048.size inb_S512x4096_S512x2048_0_0))
      (View.ld x0 (Rect.unit (s := S512x4096) ![0, 2048] S512x2048.size inb_S512x4096_S512x2048_0_2048))
      (View.ld U (Rect.unit (s := S4096x512) ![0, 0] S2048x512.size inb_S4096x512_S2048x512_0_0))
      (View.ld U (Rect.unit (s := S4096x512) ![2048, 0] S2048x512.size inb_S4096x512_S2048x512_2048_0)) x4)

/-- A part read back after the whole buffer was stored is that part of what was stored. -/
theorem part_of_whole {sp : Space} (v : View sig .tc sp S4096x512 .bf16) (w : Vec F S4096x512 .bf16) (r : Rect S4096x512) :
    v.readCov [(⟨Rect.unit (s := S4096x512) ![0, 0] S4096x512.size inb_S4096x512_S4096x512_0_0, w⟩ : View.Piece (Elt F) S4096x512 .bf16)] r.toLoadRect = View.ld w r := by
  funext x
  exact View.read_writes_cons_unit_of_mem v v.junk inb_S4096x512_S4096x512_0_0 w [] (r.idx x) (r.idx x) rfl
    (fun a => by fin_cases a <;> exact (Nat.zero_add _).symm)

theorem upBlk_of (x0 : Vec F S512x4096 .bf16) (x3 x4 : Vec F S1x1x1x512 .f32) (W U : Vec F S4096x512 .bf16) (a b c d : Vec F S2048x512 .bf16)
    (ha : a = View.ld W (Rect.unit (s := S4096x512) ![0, 0] S2048x512.size inb_S4096x512_S2048x512_0_0))
    (hb : b = View.ld W (Rect.unit (s := S4096x512) ![2048, 0] S2048x512.size inb_S4096x512_S2048x512_2048_0))
    (hc : c = View.ld U (Rect.unit (s := S4096x512) ![0, 0] S2048x512.size inb_S4096x512_S2048x512_0_0))
    (hd : d = View.ld U (Rect.unit (s := S4096x512) ![2048, 0] S2048x512.size inb_S4096x512_S2048x512_2048_0)) :
    k0_pay1 (k0_pay5 (View.ld x0 (Rect.unit (s := S512x4096) ![0, 0] S512x2048.size inb_S512x4096_S512x2048_0_0))
      (View.ld x0 (Rect.unit (s := S512x4096) ![0, 2048] S512x2048.size inb_S512x4096_S512x2048_0_2048)) a b x3)
    (k0_pay6 (View.ld x0 (Rect.unit (s := S512x4096) ![0, 0] S512x2048.size inb_S512x4096_S512x2048_0_0))
      (View.ld x0 (Rect.unit (s := S512x4096) ![0, 2048] S512x2048.size inb_S512x4096_S512x2048_0_2048)) c d x4) = upBlk x0 x3 x4 W U := by
  subst ha hb hc hd; rfl

set_option maxHeartbeats 1000000 in
/-- The result's block after a run at a new expert: from the expert's two weight blocks, rounded. -/
theorem readA5 (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S512x512 .bf16) (harg9 : arg9.IsWhole) (arg10 : Memref sig .tc .vmem S4096x512 .bf16) (harg10 : arg10.IsWhole) (arg11 : Memref sig .tc .vmem S4096x512 .bf16) (harg11 : arg11.IsWhole)
  (x0 : Vec F S512x4096 .bf16) (x1 : Vec F S1x1x4096x512 .f32) (x2 : Vec F S1x1x4096x512 .f32) (x3 : Vec F S1x1x1x512 .f32) (x4 : Vec F S1x1x1x512 .f32) (xt0 : TbBuf0 (F := F) c tbM0_0) (xt1 : TbBuf0 (F := F) c tbM0_1) (hu : k0_cond1 i (nuAt xt1) = 1#1) (hn : ¬k0_cond3 i (nuAt xt1) = 1#1) (hc : fresh i (beAt i xt0) (bePrevAt i xt0)) (f : arg9.view.ty.Contents (Elt F)) :
    arg9.view.read (Elt F) (arg9.view.writes (Elt F) f (runA c i arg4 harg4 arg5 harg5 arg6 harg6 arg7 harg7 arg8 harg8 arg9 harg9 arg10 harg10 arg11 harg11 x0 x1 x2 x3 x4 xt0 xt1 hu hn hc).1) = upBlk x0 x3 x4 (k0_pay3 x1) (k0_pay4 x2) := by
  rw [View.read_writes_of_cover arg9.view f VO0_5 VO0_5.junk _ (fun y => View.cover_of_tiledL (runA c i arg4 harg4 arg5 harg5 arg6 harg6 arg7 harg7 arg8 harg8 arg9 harg9 arg10 harg10 arg11 harg11 x0 x1 x2 x3 x4 xt0 xt1 hu hn hc).1 S512x512.size (by sl_kernel_rfl) y)]

  unfold runA
  frame_out
  exact upBlk_of x0 x3 x4 _ _ _ _ _ _ (part_of_whole _ _ _) (part_of_whole _ _ _) (part_of_whole _ _ _) (part_of_whole _ _ _)

set_option maxHeartbeats 1000000 in
/-- The gate's weight buffer after a run at a new expert. -/
theorem readA10 (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S512x512 .bf16) (harg9 : arg9.IsWhole) (arg10 : Memref sig .tc .vmem S4096x512 .bf16) (harg10 : arg10.IsWhole) (arg11 : Memref sig .tc .vmem S4096x512 .bf16) (harg11 : arg11.IsWhole)
  (x0 : Vec F S512x4096 .bf16) (x1 : Vec F S1x1x4096x512 .f32) (x2 : Vec F S1x1x4096x512 .f32) (x3 : Vec F S1x1x1x512 .f32) (x4 : Vec F S1x1x1x512 .f32) (xt0 : TbBuf0 (F := F) c tbM0_0) (xt1 : TbBuf0 (F := F) c tbM0_1) (hu : k0_cond1 i (nuAt xt1) = 1#1) (hn : ¬k0_cond3 i (nuAt xt1) = 1#1) (hc : fresh i (beAt i xt0) (bePrevAt i xt0)) (f : arg10.view.ty.Contents (Elt F)) :
    arg10.view.read (Elt F) (arg10.view.writes (Elt F) f (runA c i arg4 harg4 arg5 harg5 arg6 harg6 arg7 harg7 arg8 harg8 arg9 harg9 arg10 harg10 arg11 harg11 x0 x1 x2 x3 x4 xt0 xt1 hu hn hc).2.1) = k0_pay3 x1 := by
  rw [View.read_writes_of_cover arg10.view f VS0_0 VS0_0.junk _ (fun y => View.cover_of_tiledL (runA c i arg4 harg4 arg5 harg5 arg6 harg6 arg7 harg7 arg8 harg8 arg9 harg9 arg10 harg10 arg11 harg11 x0 x1 x2 x3 x4 xt0 xt1 hu hn hc).2.1 S4096x512.size (by sl_kernel_rfl) y)]

  unfold runA
  frame_out
  try rfl

set_option maxHeartbeats 1000000 in
/-- The up projection's weight buffer after a run at a new expert. -/
theorem readA11 (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S512x512 .bf16) (harg9 : arg9.IsWhole) (arg10 : Memref sig .tc .vmem S4096x512 .bf16) (harg10 : arg10.IsWhole) (arg11 : Memref sig .tc .vmem S4096x512 .bf16) (harg11 : arg11.IsWhole)
  (x0 : Vec F S512x4096 .bf16) (x1 : Vec F S1x1x4096x512 .f32) (x2 : Vec F S1x1x4096x512 .f32) (x3 : Vec F S1x1x1x512 .f32) (x4 : Vec F S1x1x1x512 .f32) (xt0 : TbBuf0 (F := F) c tbM0_0) (xt1 : TbBuf0 (F := F) c tbM0_1) (hu : k0_cond1 i (nuAt xt1) = 1#1) (hn : ¬k0_cond3 i (nuAt xt1) = 1#1) (hc : fresh i (beAt i xt0) (bePrevAt i xt0)) (f : arg11.view.ty.Contents (Elt F)) :
    arg11.view.read (Elt F) (arg11.view.writes (Elt F) f (runA c i arg4 harg4 arg5 harg5 arg6 harg6 arg7 harg7 arg8 harg8 arg9 harg9 arg10 harg10 arg11 harg11 x0 x1 x2 x3 x4 xt0 xt1 hu hn hc).2.2.1) = k0_pay4 x2 := by
  rw [View.read_writes_of_cover arg11.view f VS0_0 VS0_0.junk _ (fun y => View.cover_of_tiledL (runA c i arg4 harg4 arg5 harg5 arg6 harg6 arg7 harg7 arg8 harg8 arg9 harg9 arg10 harg10 arg11 harg11 x0 x1 x2 x3 x4 xt0 xt1 hu hn hc).2.2.1 S4096x512.size (by sl_kernel_rfl) y)]

  unfold runA
  frame_out
  try rfl

set_option maxHeartbeats 1000000 in
/-- The result's block after a run that keeps the weight buffers. -/
theorem readB5 (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S512x512 .bf16) (harg9 : arg9.IsWhole) (arg10 : Memref sig .tc .vmem S4096x512 .bf16) (harg10 : arg10.IsWhole) (arg11 : Memref sig .tc .vmem S4096x512 .bf16) (harg11 : arg11.IsWhole)
  (x0 : Vec F S512x4096 .bf16) (x1 : Vec F S1x1x4096x512 .f32) (x2 : Vec F S1x1x4096x512 .f32) (x3 : Vec F S1x1x1x512 .f32) (x4 : Vec F S1x1x1x512 .f32) (xt0 : TbBuf0 (F := F) c tbM0_0) (xt1 : TbBuf0 (F := F) c tbM0_1) (xs0 xs1 : Vec F S4096x512 .bf16) (hu : k0_cond1 i (nuAt xt1) = 1#1) (hn : ¬k0_cond3 i (nuAt xt1) = 1#1) (hc : ¬fresh i (beAt i xt0) (bePrevAt i xt0)) (f : arg9.view.ty.Contents (Elt F)) :
    arg9.view.read (Elt F) (arg9.view.writes (Elt F) f (runB c i arg4 harg4 arg5 harg5 arg6 harg6 arg7 harg7 arg8 harg8 arg9 harg9 arg10 harg10 arg11 harg11 x0 x1 x2 x3 x4 xt0 xt1 xs0 xs1 hu hn hc).1) = upBlk x0 x3 x4 xs0 xs1 := by
  rw [View.read_writes_of_cover arg9.view f VO0_5 VO0_5.junk _ (fun y => View.cover_of_tiledL (runB c i arg4 harg4 arg5 harg5 arg6 harg6 arg7 harg7 arg8 harg8 arg9 harg9 arg10 harg10 arg11 harg11 x0 x1 x2 x3 x4 xt0 xt1 xs0 xs1 hu hn hc).1 S512x512.size (by sl_kernel_rfl) y)]

  unfold runB
  frame_out
  try rfl

set_option maxHeartbeats 1000000 in
/-- The result's block after a run at an unused block: zeros. -/
theorem readC5 (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S512x512 .bf16) (harg9 : arg9.IsWhole) (arg10 : Memref sig .tc .vmem S4096x512 .bf16) (harg10 : arg10.IsWhole) (arg11 : Memref sig .tc .vmem S4096x512 .bf16) (harg11 : arg11.IsWhole)
  (x0 : Vec F S512x4096 .bf16) (x1 : Vec F S1x1x4096x512 .f32) (x2 : Vec F S1x1x4096x512 .f32) (x3 : Vec F S1x1x1x512 .f32) (x4 : Vec F S1x1x1x512 .f32) (xt0 : TbBuf0 (F := F) c tbM0_0) (xt1 : TbBuf0 (F := F) c tbM0_1) (xs0 xs1 : Vec F S4096x512 .bf16) (hu : ¬k0_cond1 i (nuAt xt1) = 1#1) (hn : k0_cond3 i (nuAt xt1) = 1#1) (f : arg9.view.ty.Contents (Elt F)) :
    arg9.view.read (Elt F) (arg9.view.writes (Elt F) f (runC c i arg4 harg4 arg5 harg5 arg6 harg6 arg7 harg7 arg8 harg8 arg9 harg9 arg10 harg10 arg11 harg11 x0 x1 x2 x3 x4 xt0 xt1 xs0 xs1 hu hn).1) = k0_pay2 := by
  rw [View.read_writes_of_cover arg9.view f VO0_5 VO0_5.junk _ (fun y => View.cover_of_tiledL (runC c i arg4 harg4 arg5 harg5 arg6 harg6 arg7 harg7 arg8 harg8 arg9 harg9 arg10 harg10 arg11 harg11 x0 x1 x2 x3 x4 xt0 xt1 xs0 xs1 hu hn).1 S512x512.size (by sl_kernel_rfl) y)]

  unfold runC
  frame_out
  try rfl

end Cert.MoeUpIdeal.Up

end
-- ==== Proof.MoeData.lean ====
/- The experts' up projection: what its buffers hold point by point, the body at every point, the run and the frame. -/
module

public import proofs.«01_k».proof.Proof.MoeOut
public import proofs.«01_k».proof.Proof.MoeIdx

@[expose] public section

set_option maxRecDepth 16384

noncomputable section

namespace Cert.MoeUpIdeal.Up

open Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of point `t` is used. -/
abbrev used (c : Dev nD) (t : Fin grid0.N) : Prop := k0_cond1 (grid0.coords t) (nuAt (F := F) (c := c) (tbl m 1)) = 1#1

/-- The gate's weights of point `t`, rounded. -/
def wgOf (hO : Ok m) (c : Dev nD) (t : Fin (cfgM m hO).N) : Vec F S4096x512 .bf16 := k0_pay3 (iblk m hO c 1 t)
/-- The up projection's weights of point `t`, rounded. -/
def wuOf (hO : Ok m) (c : Dev nD) (t : Fin (cfgM m hO).N) : Vec F S4096x512 .bf16 := k0_pay4 (iblk m hO c 2 t)

/-- What the result's buffer holds after point `t`. -/
@[irreducible] def outAt (hO : Ok m) (c : Dev nD) (t : Fin (cfgM m hO).N) : Vec F S512x512 .bf16 :=
  if used m c t then upBlk (iblk m hO c 0 t) (iblk m hO c 3 t) (iblk m hO c 4 t) (wgOf m hO c t) (wuOf m hO c t) else k0_pay2

theorem outAt_used (hO : Ok m) (c : Dev nD) (t : Fin (cfgM m hO).N) (h : used m c t) :
    outAt m hO c t = upBlk (iblk m hO c 0 t) (iblk m hO c 3 t) (iblk m hO c 4 t) (wgOf m hO c t) (wuOf m hO c t) := by
  unfold outAt; exact if_pos h
theorem outAt_unused (hO : Ok m) (c : Dev nD) (t : Fin (cfgM m hO).N) (h : ¬used m c t) : outAt m hO c t = k0_pay2 := by
  unfold outAt; exact if_neg h

/-- Where the weights are not loaded anew, the point is not a column's first, and the point before has the same weights and is used as well. -/
theorem keep (hO : Ok m) (c : Dev nD) (t : Fin (cfgM m hO).N) (hu : used m c t)
    (hf : ¬fresh (grid0.coords t) (beAt (F := F) (c := c) (grid0.coords t) (tbl m 0)) (bePrevAt (F := F) (c := c) (grid0.coords t) (tbl m 0))) :
    t.val ≠ 0 ∧ used m c ⟨t.val - 1, Nat.lt_of_le_of_lt (Nat.sub_le _ _) t.isLt⟩
      ∧ wgOf m hO c ⟨t.val - 1, Nat.lt_of_le_of_lt (Nat.sub_le _ _) t.isLt⟩ = wgOf m hO c t
      ∧ wuOf m hO c ⟨t.val - 1, Nat.lt_of_le_of_lt (Nat.sub_le _ _) t.isLt⟩ = wuOf m hO c t := by
  have ht : t.val < 384 := lt_of_lt_of_eq t.isLt (show (cfgM m hO).N = 384 from N_0)
  have hs := Nat.lt_of_le_of_lt (Nat.sub_le t.val 1) t.isLt
  rw [fresh_iff, (offs t).2.2.2.2, be_eq, bePrev_eq, not_or, not_not] at hf
  obtain ⟨h0, hw⟩ := hf
  have hz : t.val ≠ 0 := fun h => h0 (by rw [h])
  have e : (t.val - 1) % 192 = t.val % 192 - 1 := by omega
  have ed : (t.val - 1) / 192 = t.val / 192 := by omega
  have hww : word m ⟨(t.val - 1) % 192, lt192 _⟩ = word m ⟨t.val % 192, lt192 _⟩ := by
    rw [hw]; congr 1; exact Fin.ext e
  refine ⟨hz, ?_, ?_, ?_⟩
  · have h1 := (used_slt _ _).mp hu
    refine (used_slt _ _).mpr (lt_of_le_of_lt ?_ h1)
    rw [(offs t).2.2.2.2, (offs ⟨t.val - 1, hs⟩).2.2.2.2]
    simp only [BitVec.toInt, BitVec.toNat_ofNat]
    have hl := lt192 t.val
    have hl' := lt192 (t.val - 1)
    rw [Nat.mod_eq_of_lt (by omega : t.val % 192 < 2 ^ 32), Nat.mod_eq_of_lt (by omega : (t.val - 1) % 192 < 2 ^ 32)]
    rw [if_pos (by omega), if_pos (by omega)]
    omega
  · refine congrArg k0_pay3 (iblk1_congr m hO c _ _ ?_)
    rw [(ix_val m t).2.1, (ix_val m ⟨t.val - 1, hs⟩).2.1]
    show ![0, (word m ⟨(t.val - 1) % 192, lt192 _⟩).toNat, 0, (t.val - 1) / 192] = _
    rw [hww, ed]
  · refine congrArg k0_pay4 (iblk2_congr m hO c _ _ ?_)
    rw [(ix_val m t).2.2.1, (ix_val m ⟨t.val - 1, hs⟩).2.2.1]
    show ![0, (word m ⟨(t.val - 1) % 192, lt192 _⟩).toNat, 0, 2 + (t.val - 1) / 192] = _
    rw [hww, ed]

/-! ## The invariant -/

/-- Before the first point the weight buffers hold anything; after a used point they hold that point's weights. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(∃ d0 d1 : Vec F S4096x512 .bf16, ⌜used m c ⟨n, hn⟩ → d0 = wgOf m hO c ⟨n, hn⟩ ∧ d1 = wuOf m hO c ⟨n, hn⟩⌝ ∗ owns (c : Thread nD τ) scM0_0 fullShare d0 ∗ owns (c : Thread nD τ) scM0_1 fullShare d1 ∗ (∃ r, prngReg c r) ∗ tbPt0 c tbM0_0 (tbl m 0) ∗ tbPt0 c tbM0_1 (tbl m 1))

theorem PhiS_succ (hO : Ok m) (c : Dev nD) (n : ℕ) (hn : n < (cfgM m hO).N) :
    PhiS m hO c (n + 1) hn = iprop(∃ d0 d1 : Vec F S4096x512 .bf16, ⌜used m c ⟨n, hn⟩ → d0 = wgOf m hO c ⟨n, hn⟩ ∧ d1 = wuOf m hO c ⟨n, hn⟩⌝ ∗ owns (c : Thread nD τ) scM0_0 fullShare d0 ∗ owns (c : Thread nD τ) scM0_1 fullShare d1 ∗ (∃ r, prngReg c r) ∗ tbPt0 c tbM0_0 (tbl m 0) ∗ tbPt0 c tbM0_1 (tbl m 1)) := rfl

theorem PhiS_pos (hO : Ok m) (c : Dev nD) (t : Fin (cfgM m hO).N) (hz : t.val ≠ 0) :
    PhiS m hO c t.val (Nat.le_of_lt t.isLt) = iprop(∃ d0 d1 : Vec F S4096x512 .bf16, ⌜used m c ⟨t.val - 1, Nat.lt_of_le_of_lt (Nat.sub_le _ _) t.isLt⟩ → d0 = wgOf m hO c ⟨t.val - 1, Nat.lt_of_le_of_lt (Nat.sub_le _ _) t.isLt⟩ ∧ d1 = wuOf m hO c ⟨t.val - 1, Nat.lt_of_le_of_lt (Nat.sub_le _ _) t.isLt⟩⌝ ∗ owns (c : Thread nD τ) scM0_0 fullShare d0 ∗ owns (c : Thread nD τ) scM0_1 fullShare d1 ∗ (∃ r, prngReg c r) ∗ tbPt0 c tbM0_0 (tbl m 0) ∗ tbPt0 c tbM0_1 (tbl m 1)) := by
  obtain ⟨n, hn⟩ := t
  cases n with
  | zero => exact absurd rfl hz
  | succ n => rfl

theorem PhiS_posN (hO : Ok m) (c : Dev nD) (n : ℕ) (h : n ≤ (cfgM m hO).N) (hz : n ≠ 0) (hn : n - 1 < (cfgM m hO).N) :
    PhiS m hO c n h = iprop(∃ d0 d1 : Vec F S4096x512 .bf16, ⌜used m c ⟨n - 1, hn⟩ → d0 = wgOf m hO c ⟨n - 1, hn⟩ ∧ d1 = wuOf m hO c ⟨n - 1, hn⟩⌝ ∗ owns (c : Thread nD τ) scM0_0 fullShare d0 ∗ owns (c : Thread nD τ) scM0_1 fullShare d1 ∗ (∃ r, prngReg c r) ∗ tbPt0 c tbM0_0 (tbl m 0) ∗ tbPt0 c tbM0_1 (tbl m 1)) := by
  cases n with
  | zero => exact absurd rfl hz
  | succ n => rfl

/-- The weight buffers at anything. -/
def anyHeld (c : Dev nD) : sProp 𝕄 :=
  iprop(∃ d0 d1 : Vec F S4096x512 .bf16, owns (c : Thread nD τ) scM0_0 fullShare d0 ∗ owns (c : Thread nD τ) scM0_1 fullShare d1 ∗ (∃ r, prngReg c r) ∗ tbPt0 c tbM0_0 (tbl m 0) ∗ tbPt0 c tbM0_1 (tbl m 1))

theorem PhiS_any (hO : Ok m) (c : Dev nD) (t : Fin (cfgM m hO).N) : PhiS m hO c t.val (Nat.le_of_lt t.isLt) ⊢ anyHeld m c := by
  unfold anyHeld
  by_cases hz : t.val = 0
  · rw [show PhiS m hO c t.val (Nat.le_of_lt t.isLt) = iprop(Pipeline.ΦA spec0 c ∗ Pipeline.ΦT pre0 (tbl m) c) from by
      obtain ⟨n, hn⟩ := t; subst hz; rfl, PhiT0_eq, PhiA0_eq]
    iintro ⟨⟨⟨⟨%d0, HS0⟩, ⟨%d1, HS1⟩⟩, Hg⟩, HT0, HT1⟩
    iexists d0; iexists d1
    isplitl [HS0]; · iexact HS0
    isplitl [HS1]; · iexact HS1
    isplitl [Hg]; · iexact Hg
    isplitl [HT0]; · iexact HT0
    iexact HT1
  · rw [PhiS_pos m hO c t hz]
    iintro ⟨%d0, %d1, -, HS0, HS1, Hg, HT0, HT1⟩
    iexists d0; iexists d1
    isplitl [HS0]; · iexact HS0
    isplitl [HS1]; · iexact HS1
    isplitl [Hg]; · iexact Hg
    isplitl [HT0]; · iexact HT0
    iexact HT1

/-- The weight buffers at the weights of point `t`. -/
def itsHeld (hO : Ok m) (c : Dev nD) (t : Fin (cfgM m hO).N) : sProp 𝕄 :=
  iprop(owns (c : Thread nD τ) scM0_0 fullShare (wgOf m hO c t) ∗ owns (c : Thread nD τ) scM0_1 fullShare (wuOf m hO c t) ∗ (∃ r, prngReg c r) ∗ tbPt0 c tbM0_0 (tbl m 0) ∗ tbPt0 c tbM0_1 (tbl m 1))

theorem PhiS_its (hO : Ok m) (c : Dev nD) (t : Fin (cfgM m hO).N) (hu : used m c t)
    (hf : ¬fresh (grid0.coords t) (beAt (F := F) (c := c) (grid0.coords t) (tbl m 0)) (bePrevAt (F := F) (c := c) (grid0.coords t) (tbl m 0))) :
    PhiS m hO c t.val (Nat.le_of_lt t.isLt) ⊢ itsHeld m hO c t := by
  obtain ⟨hz, hu', h1, h2⟩ := keep m hO c t hu hf
  unfold itsHeld
  rw [PhiS_pos m hO c t hz]
  iintro ⟨%d0, %d1, %hd, HS0, HS1, Hg, HT0, HT1⟩
  obtain ⟨e0, e1⟩ := hd hu'
  rw [← h1, ← h2, ← e0, ← e1]
  isplitl [HS0]; · iexact HS0
  isplitl [HS1]; · iexact HS1
  isplitl [Hg]; · iexact Hg
  isplitl [HT0]; · iexact HT0
  iexact HT1

/-! ## The pipeline's proof data -/

/-- The arrays as the region finds them; after a point each input's buffer at its block and the result's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 4000000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4, after0_5]
  rw [show (dats m hO 0 c).Φ t.succ = PhiS m hO c (t.val + 1) t.isLt from rfl, PhiS_succ, PhiS_castSucc m hO c t]
  by_cases hu : used m c t
  · have hn : ¬k0_cond3 (grid0.coords t) (nuAt (F := F) (c := c) (tbl m 1)) = 1#1 := fun h => (used_iff _ _).mp h hu
    by_cases hf : fresh (grid0.coords t) (beAt (F := F) (c := c) (grid0.coords t) (tbl m 0)) (bePrevAt (F := F) (c := c) (grid0.coords t) (tbl m 0))
    · have hΦ := PhiS_any m hO c t
      unfold anyHeld at hΦ
      iintro ⟨HΦ, Ho, ⟨%d0, H0⟩, ⟨%d1, H1⟩, ⟨%d2, H2⟩, ⟨%d3, H3⟩, ⟨%d4, H4⟩, ⟨%d5, H5⟩⟩
      ihave ⟨%s0, %s1, HS0, HS1, Hg, HT0, HT1⟩ := hΦ $$ HΦ
      iapply (runA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (iblk m hO c 0 t) (iblk m hO c 1 t) (iblk m hO c 2 t) (iblk m hO c 3 t) (iblk m hO c 4 t) (tbl m 0) (tbl m 1) hu hn hf).2.2.2 Set.univ _
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      isplitl [HT0]; · iexact HT0
      isplitl [HT1]; · iexact HT1
      iintro ⟨H0, H1, H2, H3, H4, ⟨%e5, H5⟩, ⟨%es0, HS0⟩, ⟨%es1, HS1⟩, HT0, HT1⟩
      isplitl [HS0 HS1 Hg HT0 HT1]
      · iexists _; iexists _
        isplitr; · ipureintro; exact fun _ => ⟨rfl, rfl⟩
        isplitl [HS0]
        · unfold owns; iexists _; isplitr
          swap; · iexact HS0
          ipureintro; exact readA10 c _ _ _ _ _ _ _ _ _ _ _ _ _ _ _ _ _ _ _ _ _ _ _ _ hu hn hf _
        isplitl [HS1]
        · unfold owns; iexists _; isplitr
          swap; · iexact HS1
          ipureintro; exact readA11 c _ _ _ _ _ _ _ _ _ _ _ _ _ _ _ _ _ _ _ _ _ _ _ _ hu hn hf _
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact (readA5 c _ _ _ _ _ _ _ _ _ _ _ _ _ _ _ _ _ _ _ _ _ _ _ _ hu hn hf _).trans (outAt_used m hO c t hu).symm

    · have hΦ := PhiS_its m hO c t hu hf
      unfold itsHeld at hΦ
      iintro ⟨HΦ, Ho, ⟨%d0, H0⟩, ⟨%d1, H1⟩, ⟨%d2, H2⟩, ⟨%d3, H3⟩, ⟨%d4, H4⟩, ⟨%d5, H5⟩⟩
      ihave ⟨HS0, HS1, Hg, HT0, HT1⟩ := hΦ $$ HΦ
      iapply (runB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (iblk m hO c 0 t) (iblk m hO c 1 t) (iblk m hO c 2 t) (iblk m hO c 3 t) (iblk m hO c 4 t) (tbl m 0) (tbl m 1) _ _ hu hn hf).2 Set.univ _
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H1, H2, H3, H4, ⟨%e5, H5⟩, HS0, HS1, HT0, HT1⟩
      isplitl [HS0 HS1 Hg HT0 HT1]
      · iexists _; iexists _
        isplitr; · ipureintro; exact fun _ => ⟨rfl, rfl⟩
        isplitl [HS0]; · iexact HS0
        isplitl [HS1]; · iexact HS1
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact (readB5 c _ _ _ _ _ _ _ _ _ _ _ _ _ _ _ _ _ _ _ _ _ _ _ _ _ _ hu hn hf _).trans (outAt_used m hO c t hu).symm

  · have hn : k0_cond3 (grid0.coords t) (nuAt (F := F) (c := c) (tbl m 1)) = 1#1 := (used_iff _ _).mpr hu
    have hΦ := PhiS_any m hO c t
    unfold anyHeld at hΦ
    iintro ⟨HΦ, Ho, ⟨%d0, H0⟩, ⟨%d1, H1⟩, ⟨%d2, H2⟩, ⟨%d3, H3⟩, ⟨%d4, H4⟩, ⟨%d5, H5⟩⟩
    ihave ⟨%s0, %s1, HS0, HS1, Hg, HT0, HT1⟩ := hΦ $$ HΦ
    iapply (runC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (iblk m hO c 0 t) (iblk m hO c 1 t) (iblk m hO c 2 t) (iblk m hO c 3 t) (iblk m hO c 4 t) (tbl m 0) (tbl m 1) _ _ hu hn).2 Set.univ _
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    iintro ⟨H0, H1, H2, H3, H4, ⟨%e5, H5⟩, HS0, HS1, HT0, HT1⟩
    isplitl [HS0 HS1 Hg HT0 HT1]
    · iexists s0; iexists s1
      isplitr; · ipureintro; exact fun h => absurd h hu
      isplitl [HS0]; · iexact HS0
      isplitl [HS1]; · iexact HS1
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact (readC5 c _ _ _ _ _ _ _ _ _ _ _ _ _ _ _ _ _ _ _ _ _ _ _ _ _ _ hu hn _).trans (outAt_unused m hO c t hu).symm

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem idleB (i : grid0.Coords) (v : BitVec 32) : (!(k0_cond1 i v == 1#1) && !(k0_cond3 i v == 1#1)) = false := by
  by_cases h : k0_cond1 i v = 1#1
  · rw [beq_iff_eq.mpr h]; rfl
  · rw [beq_iff_eq.mpr ((used_iff i v).mpr h), Bool.and_eq_false_iff]; exact .inr rfl

theorem idle0_5 (pf : pre0.Contents (Elt F)) (i : grid0.Coords) : idle0 pf 5 i = false := idleB i _

/-- No point leaves the result's buffer alone. -/
theorem idle5 (hO : Ok m) (i : grid0.Coords) : (cfgM m hO).idle 5 i = false := by
  have e : (cfgM m hO).idle = idle0 (tbl m) := rfl
  rw [e, idle0_5]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  rw [idle5 m hO]
  exact .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = iprop(Pipeline.ΦA spec0 c ∗ Pipeline.ΦT pre0 (tbl m) c) from rfl]
  try exact Idealize.SL.BI.Entails.refl _

/-- After the last point the buffers' contents are forgotten. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val (Nat.le_of_lt_succ (Fin.last (cfgM m hO).N).isLt) from rfl,
    PhiS_posN m hO c _ _ (by rw [Fin.val_last]; have : (cfgM m hO).N = 384 := N_0; omega) (by rw [Fin.val_last]; have : (cfgM m hO).N = 384 := N_0; omega), PhiA0_eq]
  iintro ⟨%d0, %d1, -, HS0, HS1, Hg, -, -⟩
  isplitl [HS0 HS1]
  · isplitl [HS0]
    · iexists _; iexact HS0
    iexists _; iexact HS1
  iexact Hg

/-! ## The run and the frame -/

set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame: every argument array is unchanged and every counter is zero at the end. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.MoeUpIdeal.Up

end
-- ==== Proof.MoeSpec.lean ====
/- The experts' up projection: what the result's entries are, as sums over the extended reals. -/
module

public import proofs.«01_k».proof.Proof.Gen.MoeUpIdeal
public import Idealize.ShloMosaic.Lib.Pipeline.ValueKit
public import Idealize.ShloMosaic.PureOps.Ideal

@[expose] public section

set_option maxRecDepth 16384

noncomputable section

open Idealize.ShloMosaic Idealize.ShloMosaic.TcCoe Idealize.SL.Sem

namespace Cert.MoeUpIdeal.Spec

open Cert.MoeUpIdeal Cert.MoeUpIdeal.Gen

/-- Seven, minus seven, one, and the sigmoid's factor 1.702, as the formats' constants read. -/
def c7 : Ideal .f32 := FloatOps.ofBits .f32 0x40E00000#32
def n7 : Ideal .f32 := FloatOps.ofBits .f32 0xC0E00000#32
def c1 : Ideal .f32 := FloatOps.ofBits .f32 0x3F800000#32
def ca : Ideal .f32 := FloatOps.ofBits .f32 0x3FD9DB23#32

/-- The activation: the linear half clipped to ±7 plus one, times the gate half clipped above at 7 and its sigmoid. -/
def act (g u : Ideal .f32) : Ideal .f32 :=
  FloatOps.mulf (FloatOps.addf (FloatOps.minimumf c7 (FloatOps.maximumf n7 u)) c1)
    (FloatOps.mulf (FloatOps.minimumf g c7) (FloatOps.logistic (FloatOps.mulf ca (FloatOps.minimumf g c7))))

/-- One entry of a row times an expert's weights, plus the expert's bias. -/
def lin (x : S98304x4096.Idx → EReal) (w : S4x32x4096x2048.Idx → EReal) (b : S4x32x2048.Idx → EReal) (e : Fin 32) (r : Fin 98304) (q : Fin 2048) : EReal :=
  (∑ k : Fin 4096, x (ix2 r k) * w (ix4 0 e k q)) + b (ix3 0 e q)

/-- The expert a table's word names. -/
def ex (E : S192.Idx → BitVec 32) (k : Fin 192) : Fin 32 := ⟨(E (ix1 k)).toNat % 32, Nat.mod_lt _ (by decide)⟩

/-- One entry of the result: the activation of the row's block's expert, and zero in a block at or after the count. -/
def ent (E : S192.Idx → BitVec 32) (n : S1.Idx → BitVec 32) (x : S98304x4096.Idx → EReal) (w : S4x32x4096x2048.Idx → EReal) (b : S4x32x2048.Idx → EReal)
    (k : Fin 192) (a : Fin 512) (q : Fin 1024) : EReal :=
  if (BitVec.ofNat 32 k.val).toInt < (n (ix1 0)).toInt then
    act (lin x w b (ex E k) ⟨k.val * 512 + a.val, by omega⟩ ⟨q.val, by omega⟩) (lin x w b (ex E k) ⟨k.val * 512 + a.val, by omega⟩ ⟨1024 + q.val, by omega⟩)
  else 0

/-- The result array. -/
def out (E : S192.Idx → BitVec 32) (n : S1.Idx → BitVec 32) (x : S98304x4096.Idx → EReal) (w : S4x32x4096x2048.Idx → EReal) (b : S4x32x2048.Idx → EReal) :
    S98304x1024.Idx → EReal :=
  fun i => ent E n x w b ⟨(i 0).val / 512, by have : (i 0).val < 98304 := (i 0).isLt; omega⟩ ⟨(i 0).val % 512, Nat.mod_lt _ (by decide)⟩ ⟨(i 1).val, (i 1).isLt⟩

end Cert.MoeUpIdeal.Spec

end
-- ==== Proof.MoeVal.lean ====
/- The experts' up projection: the kernel's result array. -/
module

public import proofs.«01_k».proof.Proof.MoeSpec
public import proofs.«01_k».proof.Proof.MoeData
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MoeUpIdeal.Val

open Cert.MoeUpIdeal Cert.MoeUpIdeal.Gen Cert.MoeUpIdeal.Up Cert.MoeUpIdeal.Spec

/-! ## The payloads at an entry -/

theorem pay1_at (G U : FVec Ideal S512x512 .f32) (y : S512x512.Idx) : k0_pay1 (F := Ideal) G U y = act (G y) (U y) := rfl

theorem pay2_at (y : S512x512.Idx) : k0_pay2 (F := Ideal) y = 0 := by
  pointwise [k0_pay2]

theorem pay3_at (W : Vec Ideal S1x1x4096x512 .f32) (k : Fin 4096) (b : Fin 512) : k0_pay3 (F := Ideal) W (ix2 k b) = W (ix4 0 0 k b) := by
  pointwise [k0_pay3]

theorem pay4_at (W : Vec Ideal S1x1x4096x512 .f32) (k : Fin 4096) (b : Fin 512) : k0_pay4 (F := Ideal) W (ix2 k b) = W (ix4 0 0 k b) := by
  pointwise [k0_pay4]

theorem pay5_at (X Y : Vec Ideal S512x2048 .bf16) (V W : Vec Ideal S2048x512 .bf16) (B : Vec Ideal S1x1x1x512 .f32) (a b : Fin 512) :
    k0_pay5 (F := Ideal) X Y V W B (ix2 a b)
      = ((∑ k : Fin 2048, X (ix2 a k) * V (ix2 k b)) + ∑ k : Fin 2048, Y (ix2 a k) * W (ix2 k b)) + B (ix4 0 0 0 b) := by
  pointwise [k0_pay5]

theorem pay6_at (X Y : Vec Ideal S512x2048 .bf16) (V W : Vec Ideal S2048x512 .bf16) (B : Vec Ideal S1x1x1x512 .f32) (a b : Fin 512) :
    k0_pay6 (F := Ideal) X Y V W B (ix2 a b)
      = ((∑ k : Fin 2048, X (ix2 a k) * V (ix2 k b)) + ∑ k : Fin 2048, Y (ix2 a k) * W (ix2 k b)) + B (ix4 0 0 0 b) := by
  pointwise [k0_pay6]

/-! ## The halves of the inner axis -/

theorem x_lo (x : Vec Ideal S512x4096 .bf16) (a : Fin 512) (k : Fin 2048) :
    View.ld x (Rect.unit (s := S512x4096) ![0, 0] S512x2048.size inb_S512x4096_S512x2048_0_0) (ix2 a k) = x (ix2 a ⟨k.val, by omega⟩) := by
  refine congrArg x (funext fun i => Fin.ext ?_)
  match i with
  | ⟨0, _⟩ => show 0 + 1 * a.val = a.val; omega
  | ⟨1, _⟩ => show 0 + 1 * k.val = k.val; omega

theorem x_hi (x : Vec Ideal S512x4096 .bf16) (a : Fin 512) (k : Fin 2048) :
    View.ld x (Rect.unit (s := S512x4096) ![0, 2048] S512x2048.size inb_S512x4096_S512x2048_0_2048) (ix2 a k) = x (ix2 a ⟨2048 + k.val, by omega⟩) := by
  refine congrArg x (funext fun i => Fin.ext ?_)
  match i with
  | ⟨0, _⟩ => show 0 + 1 * a.val = a.val; omega
  | ⟨1, _⟩ => show 2048 + 1 * k.val = 2048 + k.val; omega

theorem w_lo (W : Vec Ideal S4096x512 .bf16) (k : Fin 2048) (b : Fin 512) :
    View.ld W (Rect.unit (s := S4096x512) ![0, 0] S2048x512.size inb_S4096x512_S2048x512_0_0) (ix2 k b) = W (ix2 ⟨k.val, by omega⟩ b) := by
  refine congrArg W (funext fun i => Fin.ext ?_)
  match i with
  | ⟨0, _⟩ => show 0 + 1 * k.val = k.val; omega
  | ⟨1, _⟩ => show 0 + 1 * b.val = b.val; omega

theorem w_hi (W : Vec Ideal S4096x512 .bf16) (k : Fin 2048) (b : Fin 512) :
    View.ld W (Rect.unit (s := S4096x512) ![2048, 0] S2048x512.size inb_S4096x512_S2048x512_2048_0) (ix2 k b) = W (ix2 ⟨2048 + k.val, by omega⟩ b) := by
  refine congrArg W (funext fun i => Fin.ext ?_)
  match i with
  | ⟨0, _⟩ => show 2048 + 1 * k.val = 2048 + k.val; omega
  | ⟨1, _⟩ => show 0 + 1 * b.val = b.val; omega

/-- The two halves' sums are one. -/
theorem halves (f : Fin 4096 → EReal) :
    (∑ k : Fin 2048, f ⟨k.val, by omega⟩) + (∑ k : Fin 2048, f ⟨2048 + k.val, by omega⟩) = ∑ k : Fin 4096, f k :=
  (Fin.sum_univ_add (a := 2048) (b := 2048) f).symm

/-- One entry of a used block. -/
theorem upBlk_at (x : Vec Ideal S512x4096 .bf16) (B C : Vec Ideal S1x1x1x512 .f32) (W U : Vec Ideal S1x1x4096x512 .f32) (a b : Fin 512) :
    upBlk (F := Ideal) x B C (k0_pay3 W) (k0_pay4 U) (ix2 a b)
      = act ((∑ k : Fin 4096, x (ix2 a k) * W (ix4 0 0 k b)) + B (ix4 0 0 0 b)) ((∑ k : Fin 4096, x (ix2 a k) * U (ix4 0 0 k b)) + C (ix4 0 0 0 b)) := by
  unfold upBlk
  rw [pay1_at, pay5_at, pay6_at]
  refine congrArg₂ act (congrArg (· + B (ix4 0 0 0 b)) ?_) (congrArg (· + C (ix4 0 0 0 b)) ?_)
  · refine Eq.trans (congrArg₂ (· + ·) (Finset.sum_congr rfl fun k _ => ?_) (Finset.sum_congr rfl fun k _ => ?_)) (halves fun k => x (ix2 a k) * W (ix4 0 0 k b))
    · exact congrArg₂ (· * ·) (x_lo x a k) ((w_lo _ k b).trans (pay3_at W _ b))
    · exact congrArg₂ (· * ·) (x_hi x a k) ((w_hi _ k b).trans (pay3_at W _ b))
  · refine Eq.trans (congrArg₂ (· + ·) (Finset.sum_congr rfl fun k _ => ?_) (Finset.sum_congr rfl fun k _ => ?_)) (halves fun k => x (ix2 a k) * U (ix4 0 0 k b))
    · exact congrArg₂ (· * ·) (x_lo x a k) ((w_lo _ k b).trans (pay4_at U _ b))
    · exact congrArg₂ (· * ·) (x_hi x a k) ((w_hi _ k b).trans (pay4_at U _ b))

/-! ## The windows' blocks -/

variable (m : (ℓ : Loc nD τ sig) → Buf (Elt Ideal) ℓ) (hO : Ok m) (c : Dev nD)

theorem dev_eq (c : Dev nD) : c = 0 := Subsingleton.elim c 0

/-- The biases with an axis of one put in. -/
theorem V_b : V m c main_v0 = shapeCast S4x32x1x2048 (m ((c : Thread nD τ).loc main_arg4) : S4x32x2048.Idx → EReal) shapeCasts_S4x32x2048_S4x32x1x2048 := by
  unfold V
  simp only [hostOps0, List.flatten_cons, List.flatten_nil, List.append_nil, List.cons_append, List.nil_append]
  after_results_simp
  rfl

theorem b_at (b : S4x32x2048.Idx → EReal) (l : Fin 4) (e : Fin 32) (q : Fin 2048) :
    shapeCast S4x32x1x2048 b shapeCasts_S4x32x2048_S4x32x1x2048 (ix4 l e 0 q) = b (ix3 l e q) := by
  pointwise

variable (t : Fin (cfgM m hO).N)

theorem lt384 : t.val < 384 := t.isLt

theorem x_read (a : Fin 512) (k : Fin 4096) :
    (iblk m hO c 0 t : S512x4096.Idx → EReal) (ix2 a k) = (m ((c : Thread nD τ).loc main_arg2) : S98304x4096.Idx → EReal)
      (ix2 ⟨t.val % 192 * 512 + a.val, by omega⟩ k) := by
  refine Eq.trans (b := (V m c main_arg2 : S98304x4096.Idx → EReal) (ix2 ⟨t.val % 192 * 512 + a.val, by omega⟩ k)) ?_ (congrFun (V_main_arg2 m c) _)
  refine congrArg (V m c main_arg2) (funext fun i => Fin.ext ?_)
  have e := (ix_val m t).1
  match i with
  | ⟨0, _⟩ => show cc0_transform_0 (grid0.coords t) 0 * 512 + 1 * a.val = t.val % 192 * 512 + a.val; rw [e]; show t.val % 192 * 512 + 1 * a.val = _; omega
  | ⟨1, _⟩ => show cc0_transform_0 (grid0.coords t) 1 * 4096 + 1 * k.val = k.val; rw [e]; show 0 * 4096 + 1 * k.val = _; omega

theorem w_read (k : Fin 4096) (b : Fin 512) (e : Fin 32) (he : (word m ⟨t.val % 192, lt192 _⟩).toNat = e.val) :
    (iblk m hO c 1 t : S1x1x4096x512.Idx → EReal) (ix4 0 0 k b) = (m ((c : Thread nD τ).loc main_arg3) : S4x32x4096x2048.Idx → EReal)
      (ix4 0 e k ⟨t.val / 192 * 512 + b.val, by have := lt384 m hO t; omega⟩) := by
  refine Eq.trans (b := (V m c main_arg3 : S4x32x4096x2048.Idx → EReal) (ix4 0 e k ⟨t.val / 192 * 512 + b.val, by have := lt384 m hO t; omega⟩)) ?_ (congrFun (V_main_arg3 m c) _)
  refine congrArg (V m c main_arg3) (funext fun i => Fin.ext ?_)
  have h := (ix_val m t).2.1
  rw [he] at h
  match i with
  | ⟨0, _⟩ => show cc0_transform_1 k0_off1_inb numel1_S1 (tbl m) (grid0.coords t) 0 * 1 + 1 * 0 = 0; rw [h]; rfl
  | ⟨1, _⟩ => show cc0_transform_1 k0_off1_inb numel1_S1 (tbl m) (grid0.coords t) 1 * 1 + 1 * 0 = e.val; rw [h]; show e.val * 1 + 1 * 0 = _; omega
  | ⟨2, _⟩ => show cc0_transform_1 k0_off1_inb numel1_S1 (tbl m) (grid0.coords t) 2 * 4096 + 1 * k.val = k.val; rw [h]; show 0 * 4096 + 1 * k.val = _; omega
  | ⟨3, _⟩ => show cc0_transform_1 k0_off1_inb numel1_S1 (tbl m) (grid0.coords t) 3 * 512 + 1 * b.val = t.val / 192 * 512 + b.val; rw [h]; show t.val / 192 * 512 + 1 * b.val = _; omega

theorem u_read (k : Fin 4096) (b : Fin 512) (e : Fin 32) (he : (word m ⟨t.val % 192, lt192 _⟩).toNat = e.val) :
    (iblk m hO c 2 t : S1x1x4096x512.Idx → EReal) (ix4 0 0 k b) = (m ((c : Thread nD τ).loc main_arg3) : S4x32x4096x2048.Idx → EReal)
      (ix4 0 e k ⟨1024 + (t.val / 192 * 512 + b.val), by have := lt384 m hO t; omega⟩) := by
  refine Eq.trans (b := (V m c main_arg3 : S4x32x4096x2048.Idx → EReal) (ix4 0 e k ⟨1024 + (t.val / 192 * 512 + b.val), by have := lt384 m hO t; omega⟩)) ?_ (congrFun (V_main_arg3 m c) _)
  refine congrArg (V m c main_arg3) (funext fun i => Fin.ext ?_)
  have h := (ix_val m t).2.2.1
  rw [he] at h
  match i with
  | ⟨0, _⟩ => show cc0_transform_2 k0_off1_inb numel1_S1 (tbl m) (grid0.coords t) 0 * 1 + 1 * 0 = 0; rw [h]; rfl
  | ⟨1, _⟩ => show cc0_transform_2 k0_off1_inb numel1_S1 (tbl m) (grid0.coords t) 1 * 1 + 1 * 0 = e.val; rw [h]; show e.val * 1 + 1 * 0 = _; omega
  | ⟨2, _⟩ => show cc0_transform_2 k0_off1_inb numel1_S1 (tbl m) (grid0.coords t) 2 * 4096 + 1 * k.val = k.val; rw [h]; show 0 * 4096 + 1 * k.val = _; omega
  | ⟨3, _⟩ => show cc0_transform_2 k0_off1_inb numel1_S1 (tbl m) (grid0.coords t) 3 * 512 + 1 * b.val = 1024 + (t.val / 192 * 512 + b.val); rw [h]; show (2 + t.val / 192) * 512 + 1 * b.val = _; omega

theorem b_read (b : Fin 512) (e : Fin 32) (he : (word m ⟨t.val % 192, lt192 _⟩).toNat = e.val) :
    (iblk m hO c 3 t : S1x1x1x512.Idx → EReal) (ix4 0 0 0 b) = (m ((c : Thread nD τ).loc main_arg4) : S4x32x2048.Idx → EReal)
      (ix3 0 e ⟨t.val / 192 * 512 + b.val, by have := lt384 m hO t; omega⟩) := by
  refine Eq.trans (b := (V m c main_v0 : S4x32x1x2048.Idx → EReal) (ix4 0 e 0 ⟨t.val / 192 * 512 + b.val, by have := lt384 m hO t; omega⟩)) ?_ ((congrFun (V_b m c) _).trans (b_at _ _ _ _))
  refine congrArg (V m c main_v0) (funext fun i => Fin.ext ?_)
  have h := (ix_val m t).2.2.2.1
  rw [he] at h
  match i with
  | ⟨0, _⟩ => show cc0_transform_3 k0_off1_inb numel1_S1 (tbl m) (grid0.coords t) 0 * 1 + 1 * 0 = 0; rw [h]; rfl
  | ⟨1, _⟩ => show cc0_transform_3 k0_off1_inb numel1_S1 (tbl m) (grid0.coords t) 1 * 1 + 1 * 0 = e.val; rw [h]; show e.val * 1 + 1 * 0 = _; omega
  | ⟨2, _⟩ => show cc0_transform_3 k0_off1_inb numel1_S1 (tbl m) (grid0.coords t) 2 * 1 + 1 * 0 = 0; rw [h]; rfl
  | ⟨3, _⟩ => show cc0_transform_3 k0_off1_inb numel1_S1 (tbl m) (grid0.coords t) 3 * 512 + 1 * b.val = t.val / 192 * 512 + b.val; rw [h]; show t.val / 192 * 512 + 1 * b.val = _; omega

theorem c_read (b : Fin 512) (e : Fin 32) (he : (word m ⟨t.val % 192, lt192 _⟩).toNat = e.val) :
    (iblk m hO c 4 t : S1x1x1x512.Idx → EReal) (ix4 0 0 0 b) = (m ((c : Thread nD τ).loc main_arg4) : S4x32x2048.Idx → EReal)
      (ix3 0 e ⟨1024 + (t.val / 192 * 512 + b.val), by have := lt384 m hO t; omega⟩) := by
  refine Eq.trans (b := (V m c main_v0 : S4x32x1x2048.Idx → EReal) (ix4 0 e 0 ⟨1024 + (t.val / 192 * 512 + b.val), by have := lt384 m hO t; omega⟩)) ?_ ((congrFun (V_b m c) _).trans (b_at _ _ _ _))
  refine congrArg (V m c main_v0) (funext fun i => Fin.ext ?_)
  have h := (ix_val m t).2.2.2.2.1
  rw [he] at h
  match i with
  | ⟨0, _⟩ => show cc0_transform_4 k0_off1_inb numel1_S1 (tbl m) (grid0.coords t) 0 * 1 + 1 * 0 = 0; rw [h]; rfl
  | ⟨1, _⟩ => show cc0_transform_4 k0_off1_inb numel1_S1 (tbl m) (grid0.coords t) 1 * 1 + 1 * 0 = e.val; rw [h]; show e.val * 1 + 1 * 0 = _; omega
  | ⟨2, _⟩ => show cc0_transform_4 k0_off1_inb numel1_S1 (tbl m) (grid0.coords t) 2 * 1 + 1 * 0 = 0; rw [h]; rfl
  | ⟨3, _⟩ => show cc0_transform_4 k0_off1_inb numel1_S1 (tbl m) (grid0.coords t) 3 * 512 + 1 * b.val = 1024 + (t.val / 192 * 512 + b.val); rw [h]; show (2 + t.val / 192) * 512 + 1 * b.val = _; omega

/-! ## The result array -/

theorem used_cond : used m c t ↔ (BitVec.ofNat 32 (t.val % 192)).toInt < ((tbl m 1 : S1.Idx → BitVec 32) (ix1 0)).toInt := by
  unfold used
  rw [used_slt, (offs t).2.2.2.2]
  have e : nuAt (F := Ideal) (c := c) (tbl m 1) = (tbl m 1 : S1.Idx → BitVec 32) (ix1 0) :=
    congrArg (tbl m 1 : S1.Idx → BitVec 32) (funext fun (a : Fin 1) => Fin.ext (by obtain rfl : a = 0 := Subsingleton.elim a 0; rfl))
  rw [e]

/-- The block a point leaves, entry by entry. -/
theorem outAt_at (hlt : ∀ k, (word m k).toNat < 32) (a b : Fin 512) :
    (outAt m hO c t : S512x512.Idx → EReal) (ix2 a b)
      = ent (tbl m 0) (tbl m 1) (m ((c : Thread nD τ).loc main_arg2)) (m ((c : Thread nD τ).loc main_arg3)) (m ((c : Thread nD τ).loc main_arg4))
          ⟨t.val % 192, lt192 _⟩ a ⟨t.val / 192 * 512 + b.val, by have := lt384 m hO t; omega⟩ := by
  have he : (word m ⟨t.val % 192, lt192 _⟩).toNat = (ex (tbl m 0) ⟨t.val % 192, lt192 _⟩).val := (Nat.mod_eq_of_lt (hlt _)).symm
  unfold ent
  by_cases hu : used m c t
  · rw [outAt_used m hO c t hu, if_pos ((used_cond m hO c t).mp hu)]
    unfold wgOf wuOf
    refine (upBlk_at _ _ _ _ _ a b).trans ?_
    refine congrArg₂ act ?_ ?_
    · unfold lin
      refine congrArg₂ (· + ·) (Finset.sum_congr rfl fun k _ => ?_) (b_read m hO c t b _ he)
      exact congrArg₂ (· * ·) (x_read m hO c t a k) (w_read m hO c t k b _ he)
    · unfold lin
      refine congrArg₂ (· + ·) (Finset.sum_congr rfl fun k _ => ?_) (c_read m hO c t b _ he)
      exact congrArg₂ (· * ·) (x_read m hO c t a k) (u_read m hO c t k b _ he)
  · rw [outAt_unused m hO c t hu, if_neg (fun h => hu ((used_cond m hO c t).mpr h))]
    exact pay2_at _

/-- Where an entry of the result's block at a point lies in the array. -/
theorem emb5 (a b : Fin 512) :
    ((((cfgM m hO).win 5).blk t).view.emb (ix2 a b : S512x512.Idx) : S98304x1024.Idx)
      = ix2 ⟨t.val % 192 * 512 + a.val, by omega⟩ ⟨t.val / 192 * 512 + b.val, by have := lt384 m hO t; omega⟩ := by
  refine funext fun i => Fin.ext ?_
  have e := (ix_val m t).2.2.2.2.2
  match i with
  | ⟨0, _⟩ => show cc0_transform_5 (grid0.coords t) 0 * 512 + 1 * a.val = t.val % 192 * 512 + a.val; rw [e]; show t.val % 192 * 512 + 1 * a.val = _; omega
  | ⟨1, _⟩ => show cc0_transform_5 (grid0.coords t) 1 * 512 + 1 * b.val = t.val / 192 * 512 + b.val; rw [e]; show t.val / 192 * 512 + 1 * b.val = _; omega

theorem flushes : ∀ t : Fin grid0.N, Pipeline.Window.flushOf grid0 true cc0_transform_5 t = true := by decide +kernel

theorem flush5 : ((cfgM m hO).win 5).flush t = true := flushes t

/-- The result at an entry of a block, by the block's number and the place in it. -/
theorem out_at (E : S192.Idx → BitVec 32) (n : S1.Idx → BitVec 32) (x : S98304x4096.Idx → EReal) (w : S4x32x4096x2048.Idx → EReal) (b : S4x32x2048.Idx → EReal)
    (k : Fin 192) (a : Fin 512) (q : Fin 1024) : out E n x w b (ix2 ⟨k.val * 512 + a.val, by omega⟩ q) = ent E n x w b k a q := by
  unfold out
  have e0 : (⟨(k.val * 512 + a.val) / 512, by omega⟩ : Fin 192) = k := Fin.ext (by show (k.val * 512 + a.val) / 512 = k.val; omega)
  have e1 : (⟨(k.val * 512 + a.val) % 512, by omega⟩ : Fin 512) = a := Fin.ext (by show (k.val * 512 + a.val) % 512 = a.val; omega)
  show ent E n x w b ⟨(k.val * 512 + a.val) / 512, _⟩ ⟨(k.val * 512 + a.val) % 512, _⟩ q = _
  rw [e0, e1]

/-- Every entry of the array lies in some point's block. -/
theorem cover (i : S98304x1024.Idx) : ∃ t : Fin (cfgM m hO).N, ((cfgM m hO).win 5).flush t = true ∧ i ∈ (((cfgM m hO).win 5).blk t).view.set := by
  have h0 : (i 0).val < 98304 := (i 0).isLt
  have h1 : (i 1).val < 1024 := (i 1).isLt
  have hN : (i 1).val / 512 * 192 + (i 0).val / 512 < 384 := by omega
  refine ⟨⟨(i 1).val / 512 * 192 + (i 0).val / 512, hN⟩, flush5 m hO _, ?_⟩
  have h := (((cfgM m hO).win 5).blk ⟨(i 1).val / 512 * 192 + (i 0).val / 512, hN⟩).view.emb_mem_set
    (ix2 ⟨(i 0).val % 512, Nat.mod_lt _ (by decide)⟩ ⟨(i 1).val % 512, Nat.mod_lt _ (by decide)⟩ : S512x512.Idx)
  refine Eq.mp (congrArg (· ∈ _) ((emb5 m hO ⟨(i 1).val / 512 * 192 + (i 0).val / 512, hN⟩ _ _).trans ?_)) h
  refine funext fun a => Fin.ext ?_
  match a with
  | ⟨0, _⟩ => show ((i 1).val / 512 * 192 + (i 0).val / 512) % 192 * 512 + (i 0).val % 512 = (i 0).val; omega
  | ⟨1, _⟩ => show ((i 1).val / 512 * 192 + (i 0).val / 512) / 192 * 512 + (i 1).val % 512 = (i 1).val; omega

/-- A block's entry by its row and column. -/
theorem pair (y : S512x512.Idx) : ∃ a b : Fin 512, y = ix2 a b :=
  ⟨y 0, y 1, funext fun a => match a with
    | ⟨0, _⟩ => rfl
    | ⟨1, _⟩ => rfl⟩

/-- The kernel's result array. -/
theorem final (hlt : ∀ k, (word m k).toNat < 32) : (dats m hO 0 c).arrAt 5 (cfgM m hO).N
    = out (tbl m 0) (tbl m 1) (m ((c : Thread nD τ).loc main_arg2)) (m ((c : Thread nD τ).loc main_arg3)) (m ((c : Thread nD τ).loc main_arg4)) := by
  refine (dats m hO 0 c).arrAt_eq_of_emb 5 _ (fun t hf y => ?_) (fun i => ?_)
  · obtain ⟨a, b, rfl⟩ : ∃ a b : Fin 512, y = (ix2 a b : S512x512.Idx) := pair y
    have ht : t.val < 384 := lt384 m hO t
    have hb := b.isLt
    refine Eq.trans (b := (outAt m hO c t : S512x512.Idx → EReal) (ix2 a b)) (congrFun (after0_5 m hO c t) (ix2 a b : S512x512.Idx)) ?_
    refine (outAt_at m hO c t hlt a b).trans ?_
    refine Eq.trans (out_at _ _ _ _ _ ⟨t.val % 192, lt192 _⟩ a ⟨t.val / 192 * 512 + b.val, by omega⟩).symm ?_
    exact congrArg (out _ _ _ _ _) (emb5 m hO t a b).symm
  · exact cover m hO i

include hO in
/-- The run: the result array as above, the arguments unchanged. -/
theorem run (ρ : Dev nD → PrngReg) (hlt : ∀ k, (word m k).toNat < 32) :
    θ_run defs (onTc (τ := τ) (main (F := Ideal))) ⟨m, fun _ => 0, ρ⟩ (fun r => ∀ c : Dev nD,
      r.2.mem ((c.tc : Thread nD τ).loc main_v1) = out (tbl m 0) (tbl m 1) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final m hO c hlt),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats m hO 0 c).arrAt_in 0 rfl _).trans ((A_eq m hO c 0).trans (V_main_arg2 m c))),
      ((h c).1 2).trans (((dats m hO 0 c).arrAt_in 2 rfl _).trans ((A_eq m hO c 2).trans (V_main_arg3 m c))),
      ((h c).2 main_arg4 (by decide : main_arg4 ∈ Pipeline.restRefs sig spec0)).trans (V_main_arg4 m c)⟩) (run_main m ρ hO)

end Cert.MoeUpIdeal.Val

end
-- ==== Proof.MoeRef.lean ====
/- The experts' up projection: the reference's result array. -/
module

public import proofs.«01_k».proof.Proof.MoeSpec
public import proofs.«01_k».proof.Proof.Gen.MoeUpRefIdeal
public import proofs.«01_k».proof.Proof.Gen.MoeUpRefIdeal.Run
public import proofs.«01_k».proof.Proof.Gen.MoeUpRefIdeal.Read
public import Idealize.ShloMosaic.Lib.Routing.Ops
public import Idealize.ShloMosaic.Lib.Pipeline.ValueKit
public import Idealize.ShloMosaic.Lib.IdealHost
public import Idealize.ShloMosaic.Lib.Pointwise

@[expose] public section

set_option maxRecDepth 16384

noncomputable section

open Idealize.ShloMosaic Idealize.ShloMosaic.TcCoe Idealize.SL.Sem

namespace Cert.MoeUpRefIdeal.Ref

open Cert.MoeUpRefIdeal Cert.MoeUpRefIdeal.Gen Cert.MoeUpRefIdeal.Read
open Cert.MoeUpIdeal.Spec (act lin ex ent out c7 n7 c1 ca)

/-- The weights' gather: block `p` takes the matrix its word names. -/
theorem gather_w (x : S32x4096x2048.Idx → EReal) (idx : S192x1.Idx → BitVec 32) (p : Fin 192) (k : Fin 4096) (q : Fin 2048) (e : Fin 32)
    (he : idx (ix2 p (0 : Fin 1)) = BitVec.ofNat 32 e.val) :
    Host.gather gather_S32x4096x2048_S192x1_S192x4096x2048_12_0_n_n_0_1_140962048 x idx (ix3 p k q) = x (ix3 e k q) := by
  unfold Host.gather
  generalize hd : gather_S32x4096x2048_S192x1_S192x4096x2048_12_0_n_n_0_1_140962048 = d
  have hob : ∀ a, a ∉ d.operandBatchingDims := by subst hd; exact fun a => List.not_mem_nil
  refine congrArg x (funext fun a => Fin.ext ?_)
  match a with
  | ⟨0, _⟩ =>
    show d.start (ix3 p k q) idx 0 + d.batchCoord (ix3 p k q) 0 + d.offCoord (ix3 p k q) 0 = e.val
    have hk : (0 : Fin 3) ∉ d.sKept := fun h => ((d.mem_sKept 0).1 h).1 (by subst hd; exact List.mem_singleton.2 rfl)
    have hm : (0 : Fin 3) ∈ d.startIndexMap := by subst hd; exact List.mem_singleton.2 rfl
    rw [d.batchCoord_eq_zero _ _ (hob 0), d.offCoord_eq_zero _ _ hk, Nat.add_zero]
    unfold GatherDims.start
    rw [dif_pos hm]
    have hsi : d.siIdx (ix3 p k q) ⟨d.startIndexMap.idxOf 0, List.idxOf_lt_length_iff.2 hm⟩ = ix2 p (0 : Fin 1) := by
      subst hd
      refine funext fun b => Fin.ext ?_
      match b with
      | ⟨0, _⟩ => rfl
      | ⟨1, _⟩ => rfl
    have hsl : d.sliceSizes 0 = 1 := by subst hd; rfl
    have hbl := e.isLt
    rw [hsi, he, hsl, StableHlo.Predicate.toInt_ofNat_small _ (by omega)]
    show min ((e.val : Int)).toNat (32 - 1) = e.val
    omega
  | ⟨1, _⟩ =>
    show d.start (ix3 p k q) idx 1 + d.batchCoord (ix3 p k q) 1 + d.offCoord (ix3 p k q) 1 = k.val
    have hm : (1 : Fin 3) ∉ d.startIndexMap := by subst hd; decide
    rw [d.batchCoord_eq_zero _ _ (hob 1), Nat.add_zero]
    unfold GatherDims.start
    rw [dif_neg hm, Nat.zero_add]
    subst hd
    rfl
  | ⟨2, _⟩ =>
    show d.start (ix3 p k q) idx 2 + d.batchCoord (ix3 p k q) 2 + d.offCoord (ix3 p k q) 2 = q.val
    have hm : (2 : Fin 3) ∉ d.startIndexMap := by subst hd; decide
    rw [d.batchCoord_eq_zero _ _ (hob 2), Nat.add_zero]
    unfold GatherDims.start
    rw [dif_neg hm, Nat.zero_add]
    subst hd
    rfl

variable (E : S192.Idx → BitVec 32) (n : S1.Idx → BitVec 32) (x : S98304x4096.Idx → EReal) (w : S4x32x4096x2048.Idx → EReal) (b : S4x32x2048.Idx → EReal)

/-- A word in range is not negative, and the gather's index is the word. -/
theorem word_at (h : ∀ y, (E y).toNat < 32) (p : Fin 192) (v z : BitVec 32) (hv : v = 32#32) (hz : z = 0#32) :
    Scalar.select (IntOp.cmpi .slt (E (ix1 p)) z) (IntOp.addi (E (ix1 p)) v) (E (ix1 p)) = BitVec.ofNat 32 (ex E p).val := by
  have hp := h (ix1 p)
  have e : ¬IntOp.cmpi .slt (E (ix1 p)) z = 1#1 := by
    subst hz
    have ofBool_eq_one (p : Bool) : (BitVec.ofBool p = 1#1) ↔ p = true := by cases p <;> decide
    show ¬BitVec.ofBool (BitVec.slt (E (ix1 p)) 0#32) = 1#1
    rw [ofBool_eq_one]
    simp only [BitVec.slt, decide_eq_true_eq, BitVec.toInt, BitVec.toNat_ofNat]
    omega
  refine (if_neg e).trans ?_
  unfold ex
  refine BitVec.eq_of_toNat_eq ?_
  rw [BitVec.toNat_ofNat]
  show (E (ix1 p)).toNat = (E (ix1 p)).toNat % 32 % 2 ^ 32
  omega

theorem idx_w (h : ∀ y, (E y).toNat < 32) (p : Fin 192) : val_main_v9 (F := Ideal) E (ix2 p (0 : Fin 1)) = BitVec.ofNat 32 (ex E p).val := by
  rw [val_main_v9_apply, val_main_v8_apply, val_main_v5_apply, val_main_v7_apply]
  rw [show idx_main_v9 (ix2 p (0 : Fin 1)) = ix1 p from funext fun a => Fin.ext (by obtain rfl : a = 0 := Subsingleton.elim a 0; rfl)]
  exact word_at E h p _ _ (by rw [val_main_v6_apply, val_main_c_0_apply]) (by rw [val_main_v4_apply, val_main_c_apply])

theorem idx_b (h : ∀ y, (E y).toNat < 32) (p : Fin 192) : val_main_v19 (F := Ideal) E (ix2 p (0 : Fin 1)) = BitVec.ofNat 32 (ex E p).val := by
  rw [val_main_v19_apply, val_main_v18_apply, val_main_v15_apply, val_main_v17_apply]
  rw [show idx_main_v19 (ix2 p (0 : Fin 1)) = ix1 p from funext fun a => Fin.ext (by obtain rfl : a = 0 := Subsingleton.elim a 0; rfl)]
  exact word_at E h p _ _ (by rw [val_main_v16_apply, val_main_c_2_apply]) (by rw [val_main_v14_apply, val_main_c_1_apply])

/-- The gathered weights. -/
theorem wts_at (h : ∀ y, (E y).toNat < 32) (p : Fin 192) (k : Fin 4096) (q : Fin 2048) :
    val_main_v10 (F := Ideal) E w (ix3 p k q) = w (ix4 0 (ex E p) k q) := by
  unfold val_main_v10
  refine (gather_w _ _ p k q (ex E p) (idx_w E h p)).trans ?_
  rw [val_main_v3_apply, val_main_v2_apply]
  have hk := k.isLt
  have hq := q.isLt
  have he := (ex E p).isLt
  refine congrArg w (funext fun a => Fin.ext ?_)
  match a with
  | ⟨0, _⟩ => rfl
  | ⟨1, _⟩ => show (((ex E p).val * 4096 + k.val) * 2048 + q.val) / 8388608 % 32 = (ex E p).val; omega
  | ⟨2, _⟩ => show (((ex E p).val * 4096 + k.val) * 2048 + q.val) / 2048 % 4096 = k.val; omega
  | ⟨3, _⟩ => show (((ex E p).val * 4096 + k.val) * 2048 + q.val) % 2048 = q.val; omega

/-- The gathered biases. -/
theorem bias_at (h : ∀ y, (E y).toNat < 32) (p : Fin 192) (q : Fin 2048) :
    val_main_v20 (F := Ideal) E b (ix2 p q) = b (ix3 0 (ex E p) q) := by
  unfold val_main_v20
  refine (Routing.gather_row _ rfl rfl rfl rfl rfl _ _ p q (ex E p) (idx_b E h p) (by decide)).trans ?_
  rw [val_main_v13_apply, val_main_v12_apply]
  have hq := q.isLt
  have he := (ex E p).isLt
  refine congrArg b (funext fun a => Fin.ext ?_)
  match a with
  | ⟨0, _⟩ => rfl
  | ⟨1, _⟩ => show ((ex E p).val * 2048 + q.val) / 2048 % 32 = (ex E p).val; omega
  | ⟨2, _⟩ => show ((ex E p).val * 2048 + q.val) % 2048 = q.val; omega

/-- The projection before the activation. -/
theorem lin_at (h : ∀ y, (E y).toNat < 32) (p : Fin 192) (a : Fin 512) (q : Fin 2048) :
    val_main_v23 (F := Ideal) E x w b (ix3 p a q) = lin x w b (ex E p) ⟨p.val * 512 + a.val, by omega⟩ q := by
  have hp := p.isLt
  have ha := a.isLt
  rw [val_main_v23_apply, val_main_v11_apply, val_main_v22_apply, val_main_v21_apply]
  unfold lin
  refine congrArg₂ (· + ·) (Finset.sum_congr rfl fun k _ => congrArg₂ (· * ·) ?_ ?_) ?_
  · have hk := k.isLt
    rw [val_main_v1_apply, val_main_v0_apply]
    refine congrArg x (funext fun i => Fin.ext ?_)
    match i with
    | ⟨0, _⟩ => show ((p.val * 512 + a.val) * 4096 + k.val) / 4096 = p.val * 512 + a.val; omega
    | ⟨1, _⟩ => show ((p.val * 512 + a.val) * 4096 + k.val) % 4096 = k.val; omega
  · refine Eq.trans (congrArg (val_main_v10 (F := Ideal) E w) (funext fun i => Fin.ext ?_)) (wts_at E w h p k q)
    match i with
    | ⟨0, _⟩ => rfl
    | ⟨1, _⟩ => rfl
    | ⟨2, _⟩ => rfl
  · refine Eq.trans (congrArg (val_main_v20 (F := Ideal) E b) (funext fun i => Fin.ext ?_)) (bias_at E b h p q)
    match i with
    | ⟨0, _⟩ => rfl
    | ⟨1, _⟩ => rfl

/-- The reference's sigmoid is the logistic function. -/
theorem sig_at (z o o' : Ideal .f32) (ho : o = FloatOps.ofBits .f32 0x3F800000#32) (ho' : o' = FloatOps.ofBits .f32 0x3F800000#32) :
    FloatOps.hostDivf o (FloatOps.addf o' (FloatOps.hostUnary .exp (FloatOps.hostNegf z))) = FloatOps.logistic z := by
  subst ho ho'
  show Ideal.div (Ideal.ofBits .f32 0x3F800000#32) (Ideal.ofBits .f32 0x3F800000#32 + Ideal.exp (-z)) = Ideal.logistic z
  rw [Ideal.ofBits_one_f32]
  rfl

/-- The activation of the two halves. -/
theorem act_at (h : ∀ y, (E y).toNat < 32) (p : Fin 192) (a : Fin 512) (q : Fin 1024) :
    val_main_v40 (F := Ideal) E x w b (ix3 p a q)
      = act (lin x w b (ex E p) ⟨p.val * 512 + a.val, by omega⟩ ⟨q.val, by omega⟩) (lin x w b (ex E p) ⟨p.val * 512 + a.val, by omega⟩ ⟨1024 + q.val, by omega⟩) := by
  have eg : val_main_v24 (F := Ideal) E x w b (ix3 p a q) = lin x w b (ex E p) ⟨p.val * 512 + a.val, by omega⟩ ⟨q.val, by omega⟩ := by
    rw [val_main_v24_apply]
    refine Eq.trans (congrArg (val_main_v23 (F := Ideal) E x w b) (funext fun i => Fin.ext ?_)) (lin_at E x w b h p a ⟨q.val, by omega⟩)
    match i with
    | ⟨0, _⟩ => rfl
    | ⟨1, _⟩ => rfl
    | ⟨2, _⟩ => rfl
  have eu : val_main_v25 (F := Ideal) E x w b (ix3 p a q) = lin x w b (ex E p) ⟨p.val * 512 + a.val, by omega⟩ ⟨1024 + q.val, by omega⟩ := by
    rw [val_main_v25_apply]
    refine Eq.trans (congrArg (val_main_v23 (F := Ideal) E x w b) (funext fun i => Fin.ext ?_)) (lin_at E x w b h p a ⟨1024 + q.val, by omega⟩)
    match i with
    | ⟨0, _⟩ => rfl
    | ⟨1, _⟩ => rfl
    | ⟨2, _⟩ => rfl
  rw [val_main_v40_apply, val_main_v39_apply, val_main_v38_apply, val_main_v36_apply, val_main_v34_apply, val_main_v33_apply,
    sig_at _ _ _ (by rw [val_main_v37_apply, val_main_cst_8_apply]) (by rw [val_main_v35_apply, val_main_cst_7_apply]),
    val_main_v32_apply, val_main_v31_apply, val_main_cst_6_apply, val_main_v27_apply, val_main_v26_apply, val_main_cst_apply, eg,
    val_main_v30_apply, val_main_v29_apply, val_main_cst_5_apply, val_main_v28_apply, val_main_call0_v4_apply, val_main_call0_v3_apply, val_main_cst_4_apply,
    val_main_call0_v2_apply, val_main_call0_v1_apply, val_main_call0_v0_apply, val_main_cst_3_apply, eu]
  rfl

/-- The count, as every block reads it. -/
theorem n_at (p : Fin 192) : val_main_v43 (F := Ideal) n (ix1 p) = n (ix1 0) := by
  rw [val_main_v43_apply]
  unfold val_main_v42
  exact congrArg n (funext fun a => Fin.ext (by obtain rfl : a = 0 := Subsingleton.elim a 0; exact congrArg Fin.val (Subsingleton.elim (α := Fin 1) _ _)))

/-- The masked block. -/
theorem mask_at (h : ∀ y, (E y).toNat < 32) (p : Fin 192) (a : Fin 512) (q : Fin 1024) :
    val_main_v46 (F := Ideal) E n x w b (ix3 p a q) = ent E n x w b p a q := by
  have ec : val_main_call1_v1 (F := Ideal) n (ix3 p a q) = BitVec.ofBool (BitVec.slt (BitVec.ofNat 32 p.val) (n (ix1 0))) := by
    rw [val_main_call1_v1_apply, val_main_v45_apply]
    refine Eq.trans (congrArg (val_main_v44 (F := Ideal) n) (a₂ := ix1 p) (funext fun i => Fin.ext (by obtain rfl : i = 0 := Subsingleton.elim i 0; rfl))) ?_
    rw [val_main_v44_apply, n_at]
    rfl
  have ez : val_main_call1_v2 (F := Ideal) (ix3 p a q) = 0 := by
    rw [val_main_call1_v2_apply, val_main_call1_v0_apply, val_main_cst_9_apply]
    exact Ideal.ofBits_zero_f32
  rw [val_main_v46_apply, ec, ez, act_at E x w b h]
  unfold ent
  have ofBool_eq_one (p : Bool) : (BitVec.ofBool p = 1#1) ↔ p = true := by cases p <;> decide
  have es : BitVec.ofBool (BitVec.slt (BitVec.ofNat 32 p.val) (n (ix1 0))) = 1#1 ↔ (BitVec.ofNat 32 p.val).toInt < (n (ix1 0)).toInt := by
    rw [ofBool_eq_one]
    simp only [BitVec.slt, decide_eq_true_eq]
  unfold Scalar.select
  by_cases hc : (BitVec.ofNat 32 p.val).toInt < (n (ix1 0)).toInt
  · exact (if_pos (es.mpr hc)).trans (if_pos hc).symm
  · exact (if_neg (fun e => hc (es.mp e))).trans (if_neg hc).symm

/-- The reference's result. -/
theorem out_eq (h : ∀ y, (E y).toNat < 32) : val_main_v48 (F := Ideal) E n x w b = out E n x w b := by
  funext i
  have h0 : (i 0).val < 98304 := (i 0).isLt
  have h1 : (i 1).val < 1024 := (i 1).isLt
  rw [val_main_v48_apply, val_main_v47_apply]
  refine Eq.trans (congrArg (val_main_v46 (F := Ideal) E n x w b)
    (a₂ := ix3 ⟨(i 0).val / 512, by omega⟩ ⟨(i 0).val % 512, Nat.mod_lt _ (by decide)⟩ ⟨(i 1).val, (i 1).isLt⟩) (funext fun a => Fin.ext ?_)) (mask_at E n x w b h _ _ _)
  match a with
  | ⟨0, _⟩ => show ((i 0).val * 1024 + (i 1).val) / 524288 = (i 0).val / 512; omega
  | ⟨1, _⟩ => show ((i 0).val * 1024 + (i 1).val) / 1024 % 512 = (i 0).val % 512; omega
  | ⟨2, _⟩ => show ((i 0).val * 1024 + (i 1).val) % 1024 = (i 1).val; omega

end Cert.MoeUpRefIdeal.Ref

end
-- ==== Proof.Idx.lean ====
module

public import proofs.«01_k».proof.Proof.Gen.WindowIdeal
public import proofs.«01_k».proof.Proof.Gen.WindowIdeal.Skeleton
public import proofs.«01_k».proof.Proof.Gen.WindowIdeal.Launch
public import proofs.«01_k».proof.Proof.Gen.WindowIdeal.Points
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WindowIdeal.Val

open Cert.WindowIdeal Cert.WindowIdeal.Gen

/-- Each window's block at grid point `t`. -/
theorem idx_val : ∀ t : Fin cfg0.N, win0_0.index t = ![0]
    ∧ win0_1.index t = ![32 + (t.val / 128) * 16 + (t.val % 16), t.val / 16 % 8]
    ∧ win0_2.index t = ![32 + (t.val / 128) * 16 + (t.val % 16 - 1), t.val / 16 % 8]
    ∧ win0_3.index t = ![32 + (t.val / 128) * 16 + (t.val % 16), t.val / 16 % 8]
    ∧ win0_4.index t = ![32 + (t.val / 128) * 16 + (min (t.val % 16 + 1) 15), t.val / 16 % 8]
    ∧ win0_5.index t = ![32 + (t.val / 128) * 16 + (t.val % 16 - 1), 40 + t.val / 16 % 8]
    ∧ win0_6.index t = ![32 + (t.val / 128) * 16 + (t.val % 16), 40 + t.val / 16 % 8]
    ∧ win0_7.index t = ![32 + (t.val / 128) * 16 + (min (t.val % 16 + 1) 15), 40 + t.val / 16 % 8]
    ∧ win0_8.index t = ![if t.val % 16 = 0 then 0 else if t.val % 16 = 15 then 2 else 1, 0, 0]
    ∧ win0_9.index t = ![t.val / 128, 0, t.val / 16 % 8]
    ∧ win0_10.index t = ![t.val / 128, 0, t.val / 16 % 8]
    ∧ win0_11.index t = ![(t.val / 128) * 16 + (t.val % 16), t.val / 16 % 8] :=
  (by decide +kernel : ∀ t : Fin grid0.N, _)

theorem coord_val : ∀ t : Fin cfg0.N, (grid0.coords t 1).val = t.val / 16 % 8 :=
  (by decide +kernel : ∀ t : Fin grid0.N, _)

end Cert.WindowIdeal.Val

end
-- ==== Proof.Row.lean ====
module

public import Idealize.ShloMosaic.Lib.Pipeline.ValueKit
public import Idealize.ShloMosaic.Lib.Pointwise

@[expose] public section

set_option maxRecDepth 16384

noncomputable section

open Idealize.ShloMosaic

namespace Row

/-- The band of one query row: which of the 384 keys staged for query tile `i`, row `r`, are attended. -/
def band (i r j : ℕ) : Prop := r ≤ j ∧ j ≤ r + 256 ∧ 128 ≤ 128 * i + j ∧ 128 * i + j < 2176

/-- Within the window of 128 positions either side. -/
def near (q k : ℕ) : Prop := q ≤ k + 128 ∧ k ≤ q + 128

instance (i r j : ℕ) : Decidable (band i r j) := by unfold band; infer_instance
instance (q k : ℕ) : Decidable (near q k) := by unfold near; infer_instance

/-- A sum over the staged keys is the sum over all keys, when both vanish off the window. -/
theorem sum_window (i r : ℕ) (hr : r < 128) (f : Fin 384 → EReal) (F : Fin 2048 → EReal)
    (hf : ∀ j : Fin 384, ¬ band i r j → f j = 0) (hF : ∀ k : Fin 2048, ¬ near (128 * i + r) k → F k = 0)
    (h : ∀ (j : Fin 384) (k : Fin 2048), band i r j → k.val + 128 = 128 * i + j.val → f j = F k) :
    ∑ j, f j = ∑ k, F k := by
  refine Finset.sum_bij_ne_zero (fun j _ hj => (⟨128 * i + j.val - 128, ?_⟩ : Fin 2048)) ?_ ?_ ?_ ?_
  · by_cases hb : band i r j
    · unfold band at hb; omega
    · exact absurd (hf j hb) hj
  · intro a _ _; exact Finset.mem_univ _
  · intro a _ ha b _ hb' hab
    have hba : band i r a := by by_contra hb; exact ha (hf a hb)
    have hbb : band i r b := by by_contra hb; exact hb' (hf b hb)
    unfold band at hba hbb
    have := congrArg Fin.val hab
    simp only at this
    exact Fin.ext (by omega)
  · intro k _ hk
    have hn : near (128 * i + r) k := by by_contra hb; exact hk (hF k hb)
    have hk2 := k.isLt
    unfold near at hn
    have hbnd : band i r (k.val + 128 - 128 * i) := by unfold band; omega
    refine ⟨⟨k.val + 128 - 128 * i, by omega⟩, Finset.mem_univ _, ?_, ?_⟩
    · rw [h _ k hbnd (by simp only; omega)]; exact hk
    · exact Fin.ext (by simp only; omega)
  · intro j _ hj
    have hba : band i r j := by by_contra hb; exact hj (hf j hb)
    refine h j _ hba ?_
    unfold band at hba
    simp only; omega

/-- The running maximum over the staged keys is the maximum over all keys, when both are `⊥` off the window. -/
theorem max_window (i r : ℕ) (hr : r < 128) (f : Fin 384 → EReal) (F : Fin 2048 → EReal)
    (hf : ∀ j : Fin 384, ¬ band i r j → f j = ⊥) (hF : ∀ k : Fin 2048, ¬ near (128 * i + r) k → F k = ⊥)
    (h : ∀ (j : Fin 384) (k : Fin 2048), band i r j → k.val + 128 = 128 * i + j.val → f j = F k) :
    Finset.univ.sup f = Finset.univ.sup F := by
  apply le_antisymm
  · refine Finset.sup_le fun j _ => ?_
    by_cases hb : band i r j
    · have hb' := hb
      unfold band at hb'
      rw [h j ⟨128 * i + j.val - 128, by omega⟩ hb (by simp only; omega)]
      exact Finset.le_sup (Finset.mem_univ _)
    · rw [hf j hb]; exact bot_le
  · refine Finset.sup_le fun k _ => ?_
    by_cases hn : near (128 * i + r) k
    · have hk2 := k.isLt
      unfold near at hn
      have hbnd : band i r (k.val + 128 - 128 * i) := by unfold band; omega
      rw [← h ⟨k.val + 128 - 128 * i, by omega⟩ k hbnd (by simp only; omega)]
      exact Finset.le_sup (f := f) (Finset.mem_univ _)
    · rw [hF k hn]; exact bot_le

theorem exp_nonneg (x : EReal) : 0 ≤ Ideal.exp x := by
  induction x with
  | bot => simp
  | top => simp
  | coe r => rw [Ideal.exp_coe]; exact_mod_cast (Real.exp_pos r).le

theorem div_eq (x y : EReal) (h : y ≠ 0) : Ideal.div x y = x * y⁻¹ := by
  unfold Ideal.div; rw [if_neg h]

/-- The kernel's row: context scores `sc`, sink `sk`, staged window scores `sb` (masked ones are `⊥`). -/
def kmax (sc : Fin 512 → EReal) (sk : EReal) (sb : Fin 384 → EReal) : EReal :=
  max (max (Finset.univ.fold max ⊥ sc) sk) (Finset.univ.fold max ⊥ sb)
def kden (sc : Fin 512 → EReal) (sk : EReal) (sb : Fin 384 → EReal) : EReal :=
  (∑ c, Ideal.exp (sc c - kmax sc sk sb)) + Ideal.exp (sk - kmax sc sk sb) + ∑ j, Ideal.exp (sb j - kmax sc sk sb)
def krow (sc : Fin 512 → EReal) (sk : EReal) (sb : Fin 384 → EReal) (vc : Fin 512 → EReal) (vb : Fin 384 → EReal) : EReal :=
  (∑ c, Ideal.exp (sc c - kmax sc sk sb) * Ideal.div 1 (kden sc sk sb) * vc c)
    + ∑ j, Ideal.exp (sb j - kmax sc sk sb) * Ideal.div 1 (kden sc sk sb) * vb j

/-- The row of the plain softmax over 2048 latent keys (masked ones are `⊥`), 512 context keys and the sink. -/
def rall (s : Fin 2048 → EReal) (sc : Fin 512 → EReal) (sk : EReal) (k : Fin 2561) : EReal :=
  if h : k.val < 2048 then s ⟨k.val, h⟩ else if h2 : k.val < 2560 then sc ⟨k.val - 2048, by omega⟩ else sk
def rmax (s : Fin 2048 → EReal) (sc : Fin 512 → EReal) (sk : EReal) : EReal :=
  max ⊥ (Finset.univ.fold max ⊥ (rall s sc sk))
def rden (s : Fin 2048 → EReal) (sc : Fin 512 → EReal) (sk : EReal) : EReal :=
  ((∑ k, Ideal.exp (s k - rmax s sc sk)) + ∑ c, Ideal.exp (sc c - rmax s sc sk)) + Ideal.exp (sk - rmax s sc sk)
def rrow (s : Fin 2048 → EReal) (sc : Fin 512 → EReal) (sk : EReal) (v : Fin 2048 → EReal) (vc : Fin 512 → EReal) : EReal :=
  (∑ k, v k * Ideal.div (Ideal.exp (s k - rmax s sc sk)) (rden s sc sk))
    + ∑ c, vc c * Ideal.div (Ideal.exp (sc c - rmax s sc sk)) (rden s sc sk)

theorem rmax_eq (s : Fin 2048 → EReal) (sc : Fin 512 → EReal) (sk : EReal) :
    rmax s sc sk = max (max (Finset.univ.sup sc) sk) (Finset.univ.sup s) := by
  have hf : Finset.univ.fold max ⊥ (rall s sc sk) = Finset.univ.sup (rall s sc sk) := rfl
  unfold rmax
  rw [hf, max_eq_right bot_le]
  apply le_antisymm
  · refine Finset.sup_le fun k _ => ?_
    unfold rall
    split_ifs with h h2
    · exact le_max_of_le_right (Finset.le_sup (f := s) (Finset.mem_univ _))
    · exact le_max_of_le_left (le_max_of_le_left (Finset.le_sup (f := sc) (Finset.mem_univ _)))
    · exact le_max_of_le_left (le_max_right _ _)
  · refine max_le (max_le (Finset.sup_le fun c _ => ?_) ?_) (Finset.sup_le fun k _ => ?_)
    · have h := Finset.le_sup (f := rall s sc sk) (Finset.mem_univ (⟨2048 + c.val, by omega⟩ : Fin 2561))
      have e : rall s sc sk ⟨2048 + c.val, by omega⟩ = sc c := by
        unfold rall
        rw [dif_neg (by simp only; omega), dif_pos (by simp only; omega)]
        exact congrArg sc (Fin.ext (by simp only; omega))
      rwa [e] at h
    · have h := Finset.le_sup (f := rall s sc sk) (Finset.mem_univ (⟨2560, by omega⟩ : Fin 2561))
      have e : rall s sc sk ⟨2560, by omega⟩ = sk := by
        unfold rall
        rw [dif_neg (by simp only; omega), dif_neg (by simp only; omega)]
      rwa [e] at h
    · have h := Finset.le_sup (f := rall s sc sk) (Finset.mem_univ (⟨k.val, by omega⟩ : Fin 2561))
      have e : rall s sc sk ⟨k.val, by omega⟩ = s k := by
        unfold rall
        rw [dif_pos k.isLt]
      rwa [e] at h

/-- The kernel's row over the staged window is the plain softmax row over every key. -/
theorem row_eq (i r : ℕ) (hr : r < 128) (sc : Fin 512 → EReal) (sk : EReal) (sb : Fin 384 → EReal)
    (vc : Fin 512 → EReal) (vb : Fin 384 → EReal) (s v : Fin 2048 → EReal)
    (hsk0 : sk ≠ ⊥) (hsk1 : sk ≠ ⊤) (hsc : ∀ c, sc c ≠ ⊤) (hs1 : ∀ k, s k ≠ ⊤)
    (hsb : ∀ j : Fin 384, ¬ band i r j → sb j = ⊥) (hs : ∀ k : Fin 2048, ¬ near (128 * i + r) k → s k = ⊥)
    (h : ∀ (j : Fin 384) (k : Fin 2048), band i r j → k.val + 128 = 128 * i + j.val → sb j = s k ∧ vb j = v k) :
    krow sc sk sb vc vb = rrow s sc sk v vc := by
  have hm : kmax sc sk sb = rmax s sc sk := by
    rw [rmax_eq, ← max_window i r hr sb s hsb hs (fun j k a b => (h j k a b).1)]; rfl
  have hm1 : rmax s sc sk ≠ ⊤ := by
    rw [rmax_eq]
    refine ne_of_lt (max_lt (max_lt ?_ (lt_top_iff_ne_top.2 hsk1)) ?_)
    · exact (Finset.sup_lt_iff bot_lt_top).2 fun c _ => lt_top_iff_ne_top.2 (hsc c)
    · exact (Finset.sup_lt_iff bot_lt_top).2 fun c _ => lt_top_iff_ne_top.2 (hs1 c)
  have hm0 : rmax s sc sk ≠ ⊥ := by
    rw [rmax_eq]
    exact ne_of_gt (lt_of_lt_of_le (bot_lt_iff_ne_bot.2 hsk0) (le_max_of_le_left (le_max_right _ _)))
  have hbot : ∀ x : EReal, Ideal.exp (⊥ - x) = 0 := fun x => by
    rw [sub_eq_add_neg, EReal.bot_add, Ideal.exp_bot]
  have hd : kden sc sk sb = rden s sc sk := by
    unfold kden rden
    rw [hm, sum_window i r hr (fun j => Ideal.exp (sb j - rmax s sc sk)) (fun k => Ideal.exp (s k - rmax s sc sk))
      (fun j hj => by simp only [hsb j hj, hbot]) (fun k hk => by simp only [hs k hk, hbot])
      (fun j k a b => by simp only [(h j k a b).1])]
    ac_rfl
  have hd0 : rden s sc sk ≠ 0 := by
    apply ne_of_gt
    unfold rden
    refine lt_of_lt_of_le ?_ (le_add_of_nonneg_left (add_nonneg (Finset.sum_nonneg fun _ _ => exp_nonneg _)
      (Finset.sum_nonneg fun _ _ => exp_nonneg _)))
    generalize rmax s sc sk = M at hm1 hm0
    induction M with
    | bot => exact absurd rfl hm0
    | top => exact absurd rfl hm1
    | coe y =>
      induction sk with
      | bot => exact absurd rfl hsk0
      | top => exact absurd rfl hsk1
      | coe x => rw [← EReal.coe_sub, Ideal.exp_coe]; exact_mod_cast Real.exp_pos _
  unfold krow rrow
  rw [hd, hm]
  simp only [div_eq _ _ hd0, one_mul]
  rw [sum_window i r hr _ (fun k => v k * (Ideal.exp (s k - rmax s sc sk) * (rden s sc sk)⁻¹))
      (fun j hj => by simp only [hsb j hj, hbot, zero_mul]) (fun k hk => by simp only [hs k hk, hbot, zero_mul, mul_zero])
      (fun j k a b => by simp only [(h j k a b).1, (h j k a b).2]; exact mul_comm _ _), add_comm]
  refine congrArg₂ (· + ·) rfl (Finset.sum_congr rfl fun c _ => mul_comm _ _)

end Row

end
-- ==== Proof.Pay.lean ====
module

public import proofs.«01_k».proof.Proof.Gen.WindowIdeal
public import proofs.«01_k».proof.Proof.Gen.WindowIdeal.Skeleton
public import proofs.«01_k».proof.Proof.Row
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.WindowIdeal.Pay

open Cert.WindowIdeal Cert.WindowIdeal.Gen

/-- The scale `1/√128` as the kernel's constant. -/
abbrev kap : EReal := Ideal.ofBits .f32 0x3DB504F3#32

theorem ninf : Ideal.ofBits .f32 0xFF800000#32 = (⊥ : EReal) := by
  simp [Ideal.ofBits, Ideal.ieee]

theorem pay8_at (v0 v1 v2 v3 : Vec Ideal S128x128 .bf16) (v26 : Vec Ideal S1x512x128 .f32) (r : Fin 512) (c : Fin 512) :
    k0_pay8 (F := Ideal) v0 v1 v2 v3 v26 (ix2 r c)
      = (∑ d : Fin 128, k0_pay6 (F := Ideal) v0 v1 v2 v3 (ix2 r d) * v26 (ix3 0 c d)) * kap := by
  pointwise [k0_pay8]

theorem pay9_at (v0 v1 v2 v3 : Vec Ideal S128x128 .bf16) (v8 v13 v18 v23 : Elt Ideal .f32) (v26 : Vec Ideal S1x512x128 .f32) (r : Fin 512) :
    k0_pay9 (F := Ideal) v0 v1 v2 v3 v8 v13 v18 v23 v26 (ix2 r 0)
      = max (Finset.univ.fold max ⊥ fun c : Fin 512 => k0_pay8 (F := Ideal) v0 v1 v2 v3 v26 (ix2 r c))
        (k0_pay7 (F := Ideal) v8 v13 v18 v23 (ix2 r 0)) := by
  pointwise [k0_pay9, ninf]

theorem pay11_at (v4 : FVec Ideal S512x128 .bf16) (v35 v37 v39 : Vec Ideal S128x128 .f32) (v53 : Vec Ideal S1x128x384 .f32) (r : Fin 512) (j : Fin 384) :
    k0_pay11 (F := Ideal) v4 v35 v37 v39 v53 (ix2 r j)
      = (∑ d : Fin 128, v4 (ix2 r d) * k0_pay10 (F := Ideal) v35 v37 v39 (ix2 j d)) * kap
        + v53 (ix3 0 ⟨r.val % 128, Nat.mod_lt _ (by decide)⟩ j) := by
  pointwise [k0_pay11, k0_pay10]

theorem row_at (v4 : FVec Ideal S512x128 .bf16) (v25 : FVec Ideal S512x1 .f32) (v31 : FVec Ideal S512x512 .f32) (v34 : FVec Ideal S512x1 .f32)
    (v35 v37 v39 : Vec Ideal S128x128 .f32) (v53 : Vec Ideal S1x128x384 .f32) (v48 : FVec Ideal S384x128 .bf16) (v81 : Vec Ideal S1x512x128 .f32)
    (r : Fin 512) (d : Fin 128)
    (h34 : v34 (ix2 r 0) = max (Finset.univ.fold max ⊥ fun c : Fin 512 => v31 (ix2 r c)) (v25 (ix2 r 0))) :
    k0_pay1 (F := Ideal) v48 (k0_pay13 v4 v31 v34 v35 v37 v39 v53) (k0_pay14 v4 v25 v31 v34 v35 v37 v39 v53)
        (k0_pay15 v4 v34 v35 v37 v39 v53) (k0_pay16 v4 v34 v35 v37 v39 v53) v81 (ix2 r d)
      = Row.krow (fun c => v31 (ix2 r c)) (v25 (ix2 r 0)) (fun j => k0_pay11 (F := Ideal) v4 v35 v37 v39 v53 (ix2 r j))
          (fun c => v81 (ix3 0 c d)) (fun j => v48 (ix2 j d)) := by
  pointwise [k0_pay1, k0_pay13, k0_pay14, k0_pay15, k0_pay16, k0_pay12, ninf, h34]
  rfl

end Cert.WindowIdeal.Pay

end
-- ==== Proof.Spec.lean ====
module

public import proofs.«01_k».proof.Proof.Row
public import Idealize.ShloMosaic.Lib.Pipeline.ValueKit
public import Idealize.ShloMosaic.Lib.Pointwise

@[expose] public section

set_option maxRecDepth 16384

noncomputable section

open Idealize.ShloMosaic

namespace Spec

abbrev Q : Shape := ⟨2, ![20480, 4096]⟩
abbrev K : Shape := ⟨2, ![20480, 1024]⟩
abbrev W : Shape := ⟨2, ![20480, 6144]⟩
abbrev C : Shape := ⟨5, ![8, 1, 512, 8, 128]⟩
abbrev T : Shape := ⟨2, ![1, 32]⟩
abbrev O : Shape := ⟨2, ![16384, 4096]⟩

/-- The scale `1/√128`, as the single-precision constant both programs multiply by. -/
abbrev kap : EReal := Ideal.ofBits .f32 0x3DB504F3#32

/-- Entry `d` of query `q` of sequence `b`, head `r` of key group `g`. -/
def qe (x0 : FVec Ideal Q .bf16) (b g : Fin 8) (r : Fin 4) (q : Fin 2048) (d : Fin 128) : EReal :=
  x0 (ix2 ⟨4096 + (2048 * b.val + q.val), by omega⟩ ⟨512 * g.val + 128 * r.val + d.val, by omega⟩)
/-- Entry `d` of key `k` of sequence `b`, group `g`. -/
def ke (x1 : FVec Ideal K .f32) (b g : Fin 8) (k : Fin 2048) (d : Fin 128) : EReal :=
  x1 (ix2 ⟨4096 + (2048 * b.val + k.val), by omega⟩ ⟨128 * g.val + d.val, by omega⟩)
/-- Entry `d` of value `k` of sequence `b`, group `g`. -/
def ve (x2 : FVec Ideal W .f32) (b g : Fin 8) (k : Fin 2048) (d : Fin 128) : EReal :=
  x2 (ix2 ⟨4096 + (2048 * b.val + k.val), by omega⟩ ⟨5120 + (128 * g.val + d.val), by omega⟩)

/-- Score of query `q` against key `k`, before masking. -/
def raw (x0 : FVec Ideal Q .bf16) (x1 : FVec Ideal K .f32) (b g : Fin 8) (r : Fin 4) (q k : Fin 2048) : EReal :=
  (∑ d : Fin 128, qe x0 b g r q d * ke x1 b g k d) * kap
/-- Masked score: `⊥` outside the window. -/
def sc (x0 : FVec Ideal Q .bf16) (x1 : FVec Ideal K .f32) (b g : Fin 8) (r : Fin 4) (q k : Fin 2048) : EReal :=
  if Row.near q k then raw x0 x1 b g r q k else ⊥
/-- Score of query `q` against cached key `c`. -/
def cs (x0 : FVec Ideal Q .bf16) (x3 : FVec Ideal C .f32) (b g : Fin 8) (r : Fin 4) (q : Fin 2048) (c : Fin 512) : EReal :=
  (∑ d : Fin 128, qe x0 b g r q d * x3 (ix5 b 0 c g d)) * kap
/-- The sink of head `4 g + r`. -/
def sink (x5 : FVec Ideal T .f32) (g : Fin 8) (r : Fin 4) : EReal :=
  x5 (ix2 0 ⟨4 * g.val + r.val, by omega⟩)

/-- One entry of windowed attention with cached context and sink. -/
def at5 (x0 : FVec Ideal Q .bf16) (x1 : FVec Ideal K .f32) (x2 : FVec Ideal W .f32) (x3 x4 : FVec Ideal C .f32)
    (x5 : FVec Ideal T .f32) (b g : Fin 8) (r : Fin 4) (q : Fin 2048) (d : Fin 128) : EReal :=
  Row.rrow (sc x0 x1 b g r q) (cs x0 x3 b g r q) (sink x5 g r) (fun k => ve x2 b g k d) (fun c => x4 (ix5 b 0 c g d))

/-- Windowed attention, as the array of all tokens by all head columns. -/
def G (x0 : FVec Ideal Q .bf16) (x1 : FVec Ideal K .f32) (x2 : FVec Ideal W .f32) (x3 x4 : FVec Ideal C .f32)
    (x5 : FVec Ideal T .f32) : FVec Ideal O .bf16 := fun n =>
  at5 x0 x1 x2 x3 x4 x5 ⟨(n 0).val / 2048, by have h : (n 0).val < 16384 := (n 0).isLt; omega⟩
    ⟨(n 1).val / 512, by have h : (n 1).val < 4096 := (n 1).isLt; omega⟩ ⟨(n 1).val / 128 % 4, by omega⟩
    ⟨(n 0).val % 2048, by omega⟩ ⟨(n 1).val % 128, by omega⟩

end Spec

end
-- ==== Proof.Core.lean ====
module

public import proofs.«01_k».proof.Proof.Pay
public import proofs.«01_k».proof.Proof.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-- The value is a real number. -/
def Row.Real (x : EReal) : Prop := ∃ r : ℝ, x = (r : EReal)

theorem Row.Real.mul {x y : EReal} (hx : Row.Real x) (hy : Row.Real y) : Row.Real (x * y) := by
  obtain ⟨a, rfl⟩ := hx
  obtain ⟨b, rfl⟩ := hy
  exact ⟨a * b, (EReal.coe_mul a b).symm⟩

theorem Row.Real.sum {ι : Type} (s : Finset ι) (f : ι → EReal) (h : ∀ i, Row.Real (f i)) : Row.Real (∑ i ∈ s, f i) := by
  classical
  induction s using Finset.induction_on with
  | empty => exact ⟨0, by simp⟩
  | insert a s ha ih =>
    rw [Finset.sum_insert ha]
    obtain ⟨x, hx⟩ := h a
    obtain ⟨y, hy⟩ := ih
    exact ⟨x + y, by rw [hx, hy, EReal.coe_add]⟩

theorem Row.Real.ne_top {x : EReal} (hx : Row.Real x) : x ≠ ⊤ := by
  obtain ⟨a, rfl⟩ := hx; exact EReal.coe_ne_top a

theorem Row.Real.ne_bot {x : EReal} (hx : Row.Real x) : x ≠ ⊥ := by
  obtain ⟨a, rfl⟩ := hx; exact EReal.coe_ne_bot a

theorem Row.kap_real : Row.Real Spec.kap := by
  unfold Spec.kap
  simp [Ideal.ofBits, Ideal.ieee]
  exact Row.Real.mul ⟨_, rfl⟩ ⟨_, rfl⟩

namespace Cert.WindowIdeal.Core

open Cert.WindowIdeal Cert.WindowIdeal.Gen

section

variable (x0 : FVec Ideal Spec.Q .bf16) (x1 : FVec Ideal Spec.K .f32) (x2 : FVec Ideal Spec.W .f32)
  (x3 x4 : FVec Ideal Spec.C .f32) (x5 : FVec Ideal Spec.T .f32)

theorem q_at (q0 q1 q2 q3 : Vec Ideal S128x128 .bf16) (b g : Fin 8) (i : Fin 16)
    (h0 : ∀ (a d : Fin 128), q0 (ix2 a d) = Spec.qe x0 b g 0 ⟨128 * i.val + a.val, by omega⟩ d)
    (h1 : ∀ (a d : Fin 128), q1 (ix2 a d) = Spec.qe x0 b g 1 ⟨128 * i.val + a.val, by omega⟩ d)
    (h2 : ∀ (a d : Fin 128), q2 (ix2 a d) = Spec.qe x0 b g 2 ⟨128 * i.val + a.val, by omega⟩ d)
    (h3 : ∀ (a d : Fin 128), q3 (ix2 a d) = Spec.qe x0 b g 3 ⟨128 * i.val + a.val, by omega⟩ d)
    (r : Fin 512) (d : Fin 128) :
    k0_pay6 (F := Ideal) q0 q1 q2 q3 (ix2 r d)
      = Spec.qe x0 b g ⟨r.val / 128, by omega⟩ ⟨128 * i.val + r.val % 128, by omega⟩ d := by
  have hr := r.isLt
  by_cases a0 : r.val < 128
  · have e : ∀ a : Fin 128, k0_pay6 (F := Ideal) q0 q1 q2 q3 (ix2 ⟨a.val, by omega⟩ d) = q0 (ix2 a d) := fun a => by
      pointwise [k0_pay6]
    refine (e ⟨r.val, a0⟩).trans ((h0 _ _).trans ?_)
    refine congrArg₂ (fun u v => Spec.qe x0 b g u v d) (Fin.ext ?_) (Fin.ext ?_) <;> simp <;> omega
  by_cases a1 : r.val < 256
  · have e : ∀ a : Fin 128, k0_pay6 (F := Ideal) q0 q1 q2 q3 (ix2 ⟨128 + a.val, by omega⟩ d) = q1 (ix2 a d) := fun a => by
      pointwise [k0_pay6]
    refine (congrArg (fun u => k0_pay6 (F := Ideal) q0 q1 q2 q3 (ix2 u d)) (Fin.ext (by simp only; omega))).trans ((e ⟨r.val - 128, by omega⟩).trans ((h1 _ _).trans ?_))
    refine congrArg₂ (fun u v => Spec.qe x0 b g u v d) (Fin.ext ?_) (Fin.ext ?_) <;> simp <;> omega
  by_cases a2 : r.val < 384
  · have e : ∀ a : Fin 128, k0_pay6 (F := Ideal) q0 q1 q2 q3 (ix2 ⟨256 + a.val, by omega⟩ d) = q2 (ix2 a d) := fun a => by
      pointwise [k0_pay6]
      rw [dif_neg (by omega)]
      rw [dif_neg (by omega)]
      rw [dif_pos (by omega)]
      exact congrArg (fun u => q2 (ix2 u d)) (Fin.ext (by simp only; omega))
    refine (congrArg (fun u => k0_pay6 (F := Ideal) q0 q1 q2 q3 (ix2 u d)) (Fin.ext (by simp only; omega))).trans ((e ⟨r.val - 256, by omega⟩).trans ((h2 _ _).trans ?_))
    refine congrArg₂ (fun u v => Spec.qe x0 b g u v d) (Fin.ext ?_) (Fin.ext ?_) <;> simp <;> omega
  · have e : ∀ a : Fin 128, k0_pay6 (F := Ideal) q0 q1 q2 q3 (ix2 ⟨384 + a.val, by omega⟩ d) = q3 (ix2 a d) := fun a => by
      pointwise [k0_pay6]
      rw [dif_neg (by omega)]
      rw [dif_neg (by omega)]
      rw [dif_neg (by omega)]
      exact congrArg (fun u => q3 (ix2 u d)) (Fin.ext (by simp only; omega))
    refine (congrArg (fun u => k0_pay6 (F := Ideal) q0 q1 q2 q3 (ix2 u d)) (Fin.ext (by simp only; omega))).trans ((e ⟨r.val - 384, by omega⟩).trans ((h3 _ _).trans ?_))
    refine congrArg₂ (fun u v => Spec.qe x0 b g u v d) (Fin.ext ?_) (Fin.ext ?_) <;> simp <;> omega

theorem s_at (s0 s1 s2 s3 : Elt Ideal .f32) (g : Fin 8)
    (h0 : s0 = Spec.sink x5 g 0) (h1 : s1 = Spec.sink x5 g 1) (h2 : s2 = Spec.sink x5 g 2) (h3 : s3 = Spec.sink x5 g 3)
    (r : Fin 512) :
    k0_pay7 (F := Ideal) s0 s1 s2 s3 (ix2 r 0) = Spec.sink x5 g ⟨r.val / 128, by omega⟩ := by
  have hr := r.isLt
  by_cases a0 : r.val < 128
  · have e : ∀ a : Fin 128, k0_pay7 (F := Ideal) s0 s1 s2 s3 (ix2 ⟨0 + a.val, by omega⟩ 0) = s0 := fun a => by
      pointwise [k0_pay7]
    refine (congrArg (fun u => k0_pay7 (F := Ideal) s0 s1 s2 s3 (ix2 u 0)) (Fin.ext (by simp only; omega))).trans ((e ⟨r.val - 0, by omega⟩).trans (h0.trans ?_))
    exact congrArg (Spec.sink x5 g) (Fin.ext (by simp; omega))
  by_cases a1 : r.val < 256
  · have e : ∀ a : Fin 128, k0_pay7 (F := Ideal) s0 s1 s2 s3 (ix2 ⟨128 + a.val, by omega⟩ 0) = s1 := fun a => by
      pointwise [k0_pay7]
    refine (congrArg (fun u => k0_pay7 (F := Ideal) s0 s1 s2 s3 (ix2 u 0)) (Fin.ext (by simp only; omega))).trans ((e ⟨r.val - 128, by omega⟩).trans (h1.trans ?_))
    exact congrArg (Spec.sink x5 g) (Fin.ext (by simp; omega))
  by_cases a2 : r.val < 384
  · have e : ∀ a : Fin 128, k0_pay7 (F := Ideal) s0 s1 s2 s3 (ix2 ⟨256 + a.val, by omega⟩ 0) = s2 := fun a => by
      pointwise [k0_pay7]
      rw [dif_neg (by omega)]
      rw [dif_neg (by omega)]
      rw [dif_pos (by omega)]
    refine (congrArg (fun u => k0_pay7 (F := Ideal) s0 s1 s2 s3 (ix2 u 0)) (Fin.ext (by simp only; omega))).trans ((e ⟨r.val - 256, by omega⟩).trans (h2.trans ?_))
    exact congrArg (Spec.sink x5 g) (Fin.ext (by simp; omega))
  · have e : ∀ a : Fin 128, k0_pay7 (F := Ideal) s0 s1 s2 s3 (ix2 ⟨384 + a.val, by omega⟩ 0) = s3 := fun a => by
      pointwise [k0_pay7]
      rw [dif_neg (by omega)]
      rw [dif_neg (by omega)]
      rw [dif_neg (by omega)]
    refine (congrArg (fun u => k0_pay7 (F := Ideal) s0 s1 s2 s3 (ix2 u 0)) (Fin.ext (by simp only; omega))).trans ((e ⟨r.val - 384, by omega⟩).trans (h3.trans ?_))
    exact congrArg (Spec.sink x5 g) (Fin.ext (by simp; omega))

theorem k_at (k1 k2 k3 : Vec Ideal S128x128 .f32) (f : Fin 2048 → Fin 128 → EReal) (i : Fin 16)
    (h1 : ∀ (hi : 0 < i.val) (j d : Fin 128), k1 (ix2 j d) = f ⟨128 * (i.val - 1) + j.val, by omega⟩ d)
    (h2 : ∀ (j d : Fin 128), k2 (ix2 j d) = f ⟨128 * i.val + j.val, by omega⟩ d)
    (h3 : ∀ (hi : i.val < 15) (j d : Fin 128), k3 (ix2 j d) = f ⟨128 * (i.val + 1) + j.val, by omega⟩ d)
    (j : Fin 384) (k : Fin 2048) (d : Fin 128) (hk : k.val + 128 = 128 * i.val + j.val) :
    k0_pay10 (F := Ideal) k1 k2 k3 (ix2 j d) = f k d := by
  have hj := j.isLt
  have hk2 := k.isLt
  by_cases a0 : j.val < 128
  · have e : ∀ a : Fin 128, k0_pay10 (F := Ideal) k1 k2 k3 (ix2 ⟨0 + a.val, by omega⟩ d) = k1 (ix2 a d) := fun a => by
      pointwise [k0_pay10]
    refine (congrArg (fun u => k0_pay10 (F := Ideal) k1 k2 k3 (ix2 u d)) (Fin.ext (by simp only; omega))).trans ((e ⟨j.val - 0, by omega⟩).trans ((h1 (by omega) _ _).trans ?_))
    exact congrArg (fun u => f u d) (Fin.ext (by simp only; omega))
  by_cases a1 : j.val < 256
  · have e : ∀ a : Fin 128, k0_pay10 (F := Ideal) k1 k2 k3 (ix2 ⟨128 + a.val, by omega⟩ d) = k2 (ix2 a d) := fun a => by
      pointwise [k0_pay10]
    refine (congrArg (fun u => k0_pay10 (F := Ideal) k1 k2 k3 (ix2 u d)) (Fin.ext (by simp only; omega))).trans ((e ⟨j.val - 128, by omega⟩).trans ((h2 _ _).trans ?_))
    exact congrArg (fun u => f u d) (Fin.ext (by simp only; omega))
  · have e : ∀ a : Fin 128, k0_pay10 (F := Ideal) k1 k2 k3 (ix2 ⟨256 + a.val, by omega⟩ d) = k3 (ix2 a d) := fun a => by
      pointwise [k0_pay10]
      rw [dif_neg (by omega)]
      rw [dif_neg (by omega)]
      exact congrArg (fun u => k3 (ix2 u d)) (Fin.ext (by simp only; omega))
    refine (congrArg (fun u => k0_pay10 (F := Ideal) k1 k2 k3 (ix2 u d)) (Fin.ext (by simp only; omega))).trans ((e ⟨j.val - 256, by omega⟩).trans ((h3 (by omega) _ _).trans ?_))
    exact congrArg (fun u => f u d) (Fin.ext (by simp only; omega))

theorem core (q0 q1 q2 q3 : Vec Ideal S128x128 .bf16) (s0 s1 s2 s3 : Elt Ideal .f32) (k1 k2 k3 v1 v2 v3 : Vec Ideal S128x128 .f32)
    (bias : Vec Ideal S1x128x384 .f32) (kc vc : Vec Ideal S1x512x128 .f32) (b g : Fin 8) (i : Fin 16)
    (hq0 : ∀ (a d : Fin 128), q0 (ix2 a d) = Spec.qe x0 b g 0 ⟨128 * i.val + a.val, by omega⟩ d)
    (hq1 : ∀ (a d : Fin 128), q1 (ix2 a d) = Spec.qe x0 b g 1 ⟨128 * i.val + a.val, by omega⟩ d)
    (hq2 : ∀ (a d : Fin 128), q2 (ix2 a d) = Spec.qe x0 b g 2 ⟨128 * i.val + a.val, by omega⟩ d)
    (hq3 : ∀ (a d : Fin 128), q3 (ix2 a d) = Spec.qe x0 b g 3 ⟨128 * i.val + a.val, by omega⟩ d)
    (hs0 : s0 = Spec.sink x5 g 0) (hs1 : s1 = Spec.sink x5 g 1) (hs2 : s2 = Spec.sink x5 g 2) (hs3 : s3 = Spec.sink x5 g 3)
    (hk1 : ∀ (hi : 0 < i.val) (j d : Fin 128), k1 (ix2 j d) = Spec.ke x1 b g ⟨128 * (i.val - 1) + j.val, by omega⟩ d)
    (hk2 : ∀ (j d : Fin 128), k2 (ix2 j d) = Spec.ke x1 b g ⟨128 * i.val + j.val, by omega⟩ d)
    (hk3 : ∀ (hi : i.val < 15) (j d : Fin 128), k3 (ix2 j d) = Spec.ke x1 b g ⟨128 * (i.val + 1) + j.val, by omega⟩ d)
    (hv1 : ∀ (hi : 0 < i.val) (j d : Fin 128), v1 (ix2 j d) = Spec.ve x2 b g ⟨128 * (i.val - 1) + j.val, by omega⟩ d)
    (hv2 : ∀ (j d : Fin 128), v2 (ix2 j d) = Spec.ve x2 b g ⟨128 * i.val + j.val, by omega⟩ d)
    (hv3 : ∀ (hi : i.val < 15) (j d : Fin 128), v3 (ix2 j d) = Spec.ve x2 b g ⟨128 * (i.val + 1) + j.val, by omega⟩ d)
    (hb : ∀ (a : Fin 128) (j : Fin 384), bias (ix3 0 a j) = if Row.band i a j then 0 else ⊥)
    (hkc : ∀ (c : Fin 512) (d : Fin 128), kc (ix3 0 c d) = x3 (ix5 b 0 c g d))
    (hvc : ∀ (c : Fin 512) (d : Fin 128), vc (ix3 0 c d) = x4 (ix5 b 0 c g d))
    (fq : ∀ r q d, Row.Real (Spec.qe x0 b g r q d)) (fk : ∀ k d, Row.Real (Spec.ke x1 b g k d))
    (fc : ∀ c d, Row.Real (x3 (ix5 b 0 c g d))) (fs : ∀ r, Row.Real (Spec.sink x5 g r))
    (r : Fin 512) (d : Fin 128) :
    k0_pay1 (F := Ideal) (k0_pay10 v1 v2 v3)
        (k0_pay13 (k0_pay6 q0 q1 q2 q3) (k0_pay8 q0 q1 q2 q3 kc) (k0_pay9 q0 q1 q2 q3 s0 s1 s2 s3 kc) k1 k2 k3 bias)
        (k0_pay14 (k0_pay6 q0 q1 q2 q3) (k0_pay7 s0 s1 s2 s3) (k0_pay8 q0 q1 q2 q3 kc) (k0_pay9 q0 q1 q2 q3 s0 s1 s2 s3 kc) k1 k2 k3 bias)
        (k0_pay15 (k0_pay6 q0 q1 q2 q3) (k0_pay9 q0 q1 q2 q3 s0 s1 s2 s3 kc) k1 k2 k3 bias)
        (k0_pay16 (k0_pay6 q0 q1 q2 q3) (k0_pay9 q0 q1 q2 q3 s0 s1 s2 s3 kc) k1 k2 k3 bias) vc (ix2 r d)
      = Spec.at5 x0 x1 x2 x3 x4 x5 b g ⟨r.val / 128, by omega⟩ ⟨128 * i.val + r.val % 128, by omega⟩ d := by
  rw [Pay.row_at _ _ _ _ _ _ _ _ _ _ r d (Pay.pay9_at q0 q1 q2 q3 s0 s1 s2 s3 kc r)]
  have hq := q_at x0 q0 q1 q2 q3 b g i hq0 hq1 hq2 hq3
  have hc : (fun c : Fin 512 => k0_pay8 (F := Ideal) q0 q1 q2 q3 kc (ix2 r c))
      = Spec.cs x0 x3 b g ⟨r.val / 128, by omega⟩ ⟨128 * i.val + r.val % 128, by omega⟩ := funext fun c => by
    rw [Pay.pay8_at]; simp only [hq, hkc]; rfl
  have hv : (fun c : Fin 512 => vc (ix3 0 c d)) = fun c => x4 (ix5 b 0 c g d) := funext fun c => hvc c d
  rw [hc, hv, s_at x5 s0 s1 s2 s3 g hs0 hs1 hs2 hs3 r]
  unfold Spec.at5
  have hm : r.val % 128 < 128 := Nat.mod_lt _ (by decide)
  have hbj : ∀ j : Fin 384, k0_pay11 (F := Ideal) (k0_pay6 q0 q1 q2 q3) k1 k2 k3 bias (ix2 r j)
      = (∑ d : Fin 128, Spec.qe x0 b g ⟨r.val / 128, by omega⟩ ⟨128 * i.val + r.val % 128, by omega⟩ d * k0_pay10 (F := Ideal) k1 k2 k3 (ix2 j d)) * Pay.kap
        + if Row.band i (r.val % 128) j then 0 else ⊥ := fun j => by
    rw [Pay.pay11_at]; simp only [hq, hb]
  refine Row.row_eq i.val (r.val % 128) hm _ _ _ _ _ _ _ (fs _).ne_bot (fs _).ne_top ?_ ?_ ?_ ?_ ?_
  · intro c
    exact ((Row.Real.sum _ _ fun d => (fq _ _ d).mul (fc c d)).mul Row.kap_real).ne_top
  · intro k
    unfold Spec.sc
    split_ifs
    · exact ((Row.Real.sum _ _ fun d => (fq _ _ d).mul (fk k d)).mul Row.kap_real).ne_top
    · exact bot_ne_top
  · intro j hj
    rw [hbj, if_neg hj, EReal.add_bot]
  · intro k hk
    unfold Spec.sc
    rw [if_neg hk]
  · intro j k hj hk
    have hn : Row.near (128 * i.val + r.val % 128) k.val := by unfold Row.near; unfold Row.band at hj; omega
    refine ⟨?_, ?_⟩
    · rw [hbj, if_pos hj, add_zero]
      unfold Spec.sc
      rw [if_pos hn]
      unfold Spec.raw
      simp only [k_at k1 k2 k3 (Spec.ke x1 b g) i hk1 hk2 hk3 j k _ hk]
    · exact k_at v1 v2 v3 (Spec.ve x2 b g) i hv1 hv2 hv3 j k d hk

end

end Cert.WindowIdeal.Core

end
-- ==== Proof.Word.lean ====
module

public import proofs.«01_k».proof.Proof.Row
public import Idealize.ShloMosaic.Lib.Pipeline.ValueKit
public import Idealize.ShloMosaic.Lib.Pointwise

@[expose] public section

noncomputable section

open Idealize.ShloMosaic

namespace Word

theorem bm (z : ℤ) (h0 : -1048576 < z) (h1 : z < 1048576) : z.bmod (2 ^ 32) = z :=
  Int.bmod_eq_of_le (by norm_num; omega) (by norm_num; omega)

/-- A word comparison "absolute value at most 128", in integers. -/
theorem abs_word (w : BitVec 32) (z : ℤ) (hw : w.toInt = z) (h0 : -65536 < z) (h1 : z < 65536) :
    IntOp.cmpi CmpIPredicate.sle (IntOp.absi w) 128#32 = BitVec.ofBool (decide (-128 ≤ z ∧ z ≤ 128)) := by
  have habs : (IntOp.absi w).toInt = |z| := by
    have hm : w.msb = decide (z < 0) := by rw [BitVec.msb_eq_toInt, hw]
    unfold IntOp.absi
    by_cases hz : z < 0
    · rw [abs_of_neg hz]
      have : w.msb = true := by rw [hm]; exact decide_eq_true hz
      simp only [this, if_true]
      rw [BitVec.toInt_neg, hw]
      exact bm _ (by omega) (by omega)
    · rw [abs_of_nonneg (by omega)]
      have : w.msb = false := by rw [hm]; exact decide_eq_false hz
      simp only [this]
      exact hw
  have e : IntOp.cmpi CmpIPredicate.sle (IntOp.absi w) 128#32 = BitVec.ofBool ((IntOp.absi w).sle 128#32) := rfl
  rw [e, BitVec.sle_eq_decide, habs]
  have h128 : (128#32).toInt = 128 := by decide
  rw [h128]
  congr 1
  rw [decide_eq_decide]
  rw [abs_le]

theorem toInt_ofNat (a : ℕ) (ha : a < 65536) : (BitVec.ofNat 32 a).toInt = a := by
  rw [BitVec.toInt_eq_toNat_cond, BitVec.toNat_ofNat]; omega

theorem toInt_sub (x y : BitVec 32) (a b : ℤ) (hx : x.toInt = a) (hy : y.toInt = b)
    (ha0 : -65536 < a) (ha1 : a < 65536) (hb0 : -65536 < b) (hb1 : b < 65536) : (IntOp.subi x y).toInt = a - b := by
  unfold IntOp.subi; rw [BitVec.toInt_sub, hx, hy]; exact bm _ (by omega) (by omega)

theorem toInt_add (x y : BitVec 32) (a b : ℤ) (hx : x.toInt = a) (hy : y.toInt = b)
    (ha0 : -65536 < a) (ha1 : a < 65536) (hb0 : -65536 < b) (hb1 : b < 65536) : (IntOp.addi x y).toInt = a + b := by
  unfold IntOp.addi; rw [BitVec.toInt_add, hx, hy]; exact bm _ (by omega) (by omega)

theorem sge_word (x y : BitVec 32) (a b : ℤ) (hx : x.toInt = a) (hy : y.toInt = b) :
    IntOp.cmpi CmpIPredicate.sge x y = BitVec.ofBool (decide (b ≤ a)) := by
  have e : IntOp.cmpi CmpIPredicate.sge x y = BitVec.ofBool (y.sle x) := rfl
  rw [e, BitVec.sle_eq_decide, hx, hy]

theorem slt_word (x y : BitVec 32) (a b : ℤ) (hx : x.toInt = a) (hy : y.toInt = b) :
    IntOp.cmpi CmpIPredicate.slt x y = BitVec.ofBool (decide (a < b)) := by
  have e : IntOp.cmpi CmpIPredicate.slt x y = BitVec.ofBool (x.slt y) := rfl
  rw [e, BitVec.slt_eq_decide, hx, hy]

/-- The window test on 32-bit words is the window on natural numbers. -/
theorem near_word (a b : ℕ) (ha : a < 4096) (hb : b < 4096) :
    IntOp.cmpi CmpIPredicate.sle (IntOp.absi (IntOp.subi (BitVec.ofNat 32 a) (BitVec.ofNat 32 b))) 128#32
      = BitVec.ofBool (decide (Row.near a b)) := by
  rw [abs_word _ _ (toInt_sub _ _ _ _ (toInt_ofNat a (by omega)) (toInt_ofNat b (by omega))
    (by omega) (by omega) (by omega) (by omega)) (by omega) (by omega)]
  congr 1
  rw [decide_eq_decide]
  unfold Row.near
  omega

/-- The staged-key test on 32-bit words: window and range, for the query tile starting at `o` with keys from `o - 128`. -/
theorem band_word (c o : BitVec 32) (i r j : ℕ) (hi : i < 16) (hr : r < 128) (hj : j < 384)
    (ho : o.toInt = 128 * (i : ℤ)) (hc : c.toInt = 128 * (i : ℤ) - 128) :
    IntOp.andi (IntOp.andi
      (IntOp.cmpi CmpIPredicate.sle (IntOp.absi (IntOp.subi (IntOp.addi o (BitVec.ofNat 32 r)) (IntOp.addi c (BitVec.ofNat 32 j)))) 128#32)
      (IntOp.cmpi CmpIPredicate.sge (IntOp.addi c (BitVec.ofNat 32 j)) 0#32))
      (IntOp.cmpi CmpIPredicate.slt (IntOp.addi c (BitVec.ofNat 32 j)) 2048#32)
      = BitVec.ofBool (decide (Row.band i r j)) := by
  have hk := toInt_add c (BitVec.ofNat 32 j) _ _ hc (toInt_ofNat j (by omega)) (by omega) (by omega) (by omega) (by omega)
  have hq := toInt_add o (BitVec.ofNat 32 r) _ _ ho (toInt_ofNat r (by omega)) (by omega) (by omega) (by omega) (by omega)
  rw [abs_word _ _ (toInt_sub _ _ _ _ hq hk (by omega) (by omega) (by omega) (by omega)) (by omega) (by omega),
    sge_word _ _ _ 0 hk (by decide), slt_word _ _ _ 2048 hk (by decide)]
  have e : ∀ p q : Bool, IntOp.andi (BitVec.ofBool p) (BitVec.ofBool q) = BitVec.ofBool (p && q) := by decide
  rw [e, e]
  congr 1
  rw [← Bool.decide_and, ← Bool.decide_and, decide_eq_decide]
  unfold Row.band
  omega

end Word

end
-- ==== Proof.Bias.lean ====
module

public import proofs.«01_k».proof.Proof.Gen.WindowIdeal
public import proofs.«01_k».proof.Proof.Gen.WindowIdeal.Skeleton
public import proofs.«01_k».proof.Proof.Gen.WindowIdeal.Launch
public import proofs.«01_k».proof.Proof.Gen.WindowIdeal.Points
public import proofs.«01_k».proof.Proof.Gen.WindowIdeal.Frame
public import proofs.«01_k».proof.Proof.Word
public import proofs.«01_k».proof.Proof.Row
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WindowIdeal.Val

open Cert.WindowIdeal Cert.WindowIdeal.Gen

variable (m : (ℓ : Loc nD τ sig) → Buf (Elt Ideal) ℓ) (c : Dev nD)

set_option maxHeartbeats 2000000 in
theorem V_v4 : V m c main_v4 = shapeCast S32 (m ((c : Thread nD τ).loc main_arg5)) shapeCasts_S1x32_S32 := by
  unfold V
  simp only [hostOps0, hostOps0_1, hostOps0_2, hostOps0_3, hostOps0_4, hostOps0_5, hostOps0_6, List.flatten_cons, List.flatten_nil, List.append_nil, List.cons_append,
      List.nil_append]
  after_results_simp
  rfl

set_option maxHeartbeats 2000000 in
theorem V_v1 : V m c main_v1 = shapeCast S8x512x1024 (shapeCast S8x512x8x128 (m ((c : Thread nD τ).loc main_arg3)) shapeCasts_S8x1x512x8x128_S8x512x8x128) shapeCasts_S8x512x8x128_S8x512x1024 := by
  unfold V
  simp only [hostOps0, hostOps0_1, hostOps0_2, hostOps0_3, hostOps0_4, hostOps0_5, hostOps0_6, List.flatten_cons, List.flatten_nil, List.append_nil, List.cons_append,
      List.nil_append]
  after_results_simp
  rfl

set_option maxHeartbeats 2000000 in
theorem V_v3 : V m c main_v3 = shapeCast S8x512x1024 (shapeCast S8x512x8x128 (m ((c : Thread nD τ).loc main_arg4)) shapeCasts_S8x1x512x8x128_S8x512x8x128) shapeCasts_S8x512x8x128_S8x512x1024 := by
  unfold V
  simp only [hostOps0, hostOps0_1, hostOps0_2, hostOps0_3, hostOps0_4, hostOps0_5, hostOps0_6, List.flatten_cons, List.flatten_nil, List.append_nil, List.cons_append,
      List.nil_append]
  after_results_simp
  rfl

/-- One tile of the mask: `z` where key `c + j` is in the window of query `o + a`, `n` elsewhere. -/
def tile (c o : BitVec 32) (z n : FVec Ideal S128x384 .f32) : FVec Ideal S128x384 .f32 :=
  select (andi (andi (cmpi .sle (absi (subi
      (broadcastInDim S128x384 ![0, 1] bcast_S128x1_S128x384_0_1
        (addi (broadcastInDim S128x1 ![] bcast_S_S128x1 (constantI S_ 32 o)) (broadcastInDim S128x1 ![0] bcast_S128_S128x1_0 (iotaInDim S128 32 0))))
      (broadcastInDim S128x384 ![0, 1] bcast_S1x384_S128x384_0_1
        (addi (broadcastInDim S1x384 ![] bcast_S_S1x384 (constantI S_ 32 c)) (broadcastInDim S1x384 ![1] bcast_S384_S1x384_1 (iotaInDim S384 32 0))))))
      (broadcastInDim S128x384 ![] bcast_S_S128x384 (constantI S_ 32 128#32)))
      (broadcastInDim S128x384 ![0, 1] bcast_S1x384_S128x384_0_1
        (cmpi .sge (addi (broadcastInDim S1x384 ![] bcast_S_S1x384 (constantI S_ 32 c)) (broadcastInDim S1x384 ![1] bcast_S384_S1x384_1 (iotaInDim S384 32 0)))
          (broadcastInDim S1x384 ![] bcast_S_S1x384 (constantI S_ 32 0#32)))))
      (broadcastInDim S128x384 ![0, 1] bcast_S1x384_S128x384_0_1
        (cmpi .slt (addi (broadcastInDim S1x384 ![] bcast_S_S1x384 (constantI S_ 32 c)) (broadcastInDim S1x384 ![1] bcast_S384_S1x384_1 (iotaInDim S384 32 0)))
          (broadcastInDim S1x384 ![] bcast_S_S1x384 (constantI S_ 32 2048#32))))) z n

theorem tile_at (w o : BitVec 32) (z n : FVec Ideal S128x384 .f32) (i : ℕ) (a : Fin 128) (j : Fin 384) (hi : i < 16)
    (ho : o.toInt = 128 * i) (hw : w.toInt = 128 * i - 128) :
    tile w o z n (ix2 a j) = if Row.band i a j then z (ix2 a j) else n (ix2 a j) := by
  have h := Word.band_word w o i a.val j.val hi a.isLt j.isLt ho hw
  pointwise [tile]
  rw [h]
  by_cases hb : Row.band i a j <;> simp [hb, Scalar.select]

/-- The constant arrays the mask is made of. -/
def zeros : FVec Ideal S128x384 .f32 := broadcastInDim S128x384 ![] bcast_S_S128x384 (constant S_ .f32 0x00000000#32)
def ninfs : FVec Ideal S128x384 .f32 := broadcastInDim S128x384 ![] bcast_S_S128x384 (constant S_ .f32 0xFF800000#32)

theorem zeros_at (i : S128x384.Idx) : zeros i = (0 : EReal) := by
  have h : zeros i = FloatOps.ofBits (F := Ideal) .f32 0x00000000#32 := rfl
  rw [h]
  show Ideal.ofBits .f32 0x00000000#32 = (0 : EReal)
  simp [Ideal.ofBits, Ideal.ieee]

theorem ninfs_at (i : S128x384.Idx) : ninfs i = (⊥ : EReal) := by
  have h : ninfs i = FloatOps.ofBits (F := Ideal) .f32 0xFF800000#32 := rfl
  rw [h]
  show Ideal.ofBits .f32 0xFF800000#32 = (⊥ : EReal)
  simp [Ideal.ofBits, Ideal.ieee]

set_option maxHeartbeats 2000000 in
theorem V_v72 : V m c main_v72 = concatenate S3x128x384 0
    [⟨S1x128x384, broadcastInDim S1x128x384 ![1, 2] bcast_S128x384_S1x128x384_1_2 (tile 4294967168#32 0#32 zeros ninfs)⟩,
     ⟨S1x128x384, broadcastInDim S1x128x384 ![1, 2] bcast_S128x384_S1x128x384_1_2 (tile 0#32 128#32 zeros ninfs)⟩,
     ⟨S1x128x384, broadcastInDim S1x128x384 ![1, 2] bcast_S128x384_S1x128x384_1_2 (tile 1792#32 1920#32 zeros ninfs)⟩]
    concatenates_S1x128x384_S1x128x384_S1x128x384_S3x128x384_d0 := by
  unfold V
  simp only [hostOps0, hostOps0_1, hostOps0_2, hostOps0_3, hostOps0_4, hostOps0_5, hostOps0_6, List.flatten_cons, List.flatten_nil, List.append_nil, List.cons_append,
      List.nil_append]
  after_results_simp
  try dsimp only [Matrix.cons_val]
  try after_results_simp
  rfl

theorem stack_at (u0 u1 u2 : FVec Ideal S128x384 .f32) (a : Fin 128) (j : Fin 384) (v : Fin 3) :
    concatenate S3x128x384 0
    [⟨S1x128x384, broadcastInDim S1x128x384 ![1, 2] bcast_S128x384_S1x128x384_1_2 u0⟩,
     ⟨S1x128x384, broadcastInDim S1x128x384 ![1, 2] bcast_S128x384_S1x128x384_1_2 u1⟩,
     ⟨S1x128x384, broadcastInDim S1x128x384 ![1, 2] bcast_S128x384_S1x128x384_1_2 u2⟩]
    concatenates_S1x128x384_S1x128x384_S1x128x384_S3x128x384_d0 (ix3 v a j)
    = if v.val = 0 then u0 (ix2 a j) else if v.val = 1 then u1 (ix2 a j) else u2 (ix2 a j) := by
  fin_cases v <;> pointwise

/-- The mask's variant `v` is the band of any tile of that kind. -/
theorem bias_at (i : ℕ) (hi : i < 16) (v : Fin 3) (hv : v.val = if i = 0 then 0 else if i = 15 then 2 else 1) (a : Fin 128) (j : Fin 384) :
    (V m c main_v72 : S3x128x384.Idx → EReal) (ix3 v a j) = if Row.band i a j then (0 : EReal) else ⊥ := by
  rw [V_v72, stack_at, tile_at _ _ _ _ 0 a j (by decide) (by decide) (by decide), tile_at _ _ _ _ 1 a j (by decide) (by decide) (by decide),
    tile_at _ _ _ _ 15 a j (by decide) (by decide) (by decide), zeros_at, ninfs_at, hv]
  have hj : j.val < 384 := j.isLt
  have ha : a.val < 128 := a.isLt
  by_cases h0 : i = 0
  · simp [h0]
  · by_cases h1 : i = 15
    · simp [h1]
    · simp only [if_neg h0, if_neg h1]
      have e : Row.band 1 a j ↔ Row.band i a j := by unfold Row.band; omega
      simp [e]

end Cert.WindowIdeal.Val

end
-- ==== Proof.Reads.lean ====
module

public import proofs.«01_k».proof.Proof.Gen.WindowIdeal
public import proofs.«01_k».proof.Proof.Gen.WindowIdeal.Skeleton
public import proofs.«01_k».proof.Proof.Gen.WindowIdeal.Launch
public import proofs.«01_k».proof.Proof.Gen.WindowIdeal.Points
public import proofs.«01_k».proof.Proof.Gen.WindowIdeal.Frame
public import proofs.«01_k».proof.Proof.Idx
public import proofs.«01_k».proof.Proof.Spec
public import proofs.«01_k».proof.Proof.Bias
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WindowIdeal.Val

open Cert.WindowIdeal Cert.WindowIdeal.Gen

variable (m : (ℓ : Loc nD τ sig) → Buf (Elt Ideal) ℓ) (c : Dev nD) (t : Fin cfg0.N)

/-- The batch, the head group and the tile of a grid point. -/
def pb (t : Fin cfg0.N) : Fin 8 := ⟨t.val / 128, by have : t.val < 1024 := t.isLt; omega⟩
def pg (t : Fin cfg0.N) : Fin 8 := ⟨t.val / 16 % 8, Nat.mod_lt _ (by decide)⟩
def pi (t : Fin cfg0.N) : Fin 16 := ⟨t.val % 16, Nat.mod_lt _ (by decide)⟩

theorem q_read (n : Fin 4) (a d : Fin 128) (e : Fin 512) (he : e.val = 128 * n.val + d.val) :
    iblk m c 1 t (ix2 a e) = Spec.qe (m ((c : Thread nD τ).loc main_arg0)) (pb t) (pg t) n ⟨128 * (pi t).val + a.val, by omega⟩ d := by
  unfold Spec.qe pb pg pi
  blk_ext [iblk, V, idx_val t]

theorem k2_read (j d : Fin 128) :
    iblk m c 3 t (ix2 j d) = Spec.ke (m ((c : Thread nD τ).loc main_arg1)) (pb t) (pg t) ⟨128 * (pi t).val + j.val, by omega⟩ d := by
  unfold Spec.ke pb pg pi
  blk_ext [iblk, V, idx_val t]

theorem k1_read (hi : 0 < (pi t).val) (j d : Fin 128) :
    iblk m c 2 t (ix2 j d) = Spec.ke (m ((c : Thread nD τ).loc main_arg1)) (pb t) (pg t) ⟨128 * ((pi t).val - 1) + j.val, by omega⟩ d := by
  unfold pi at hi
  unfold Spec.ke pb pg pi
  blk_ext [iblk, V, idx_val t]

theorem k3_read (hi : (pi t).val < 15) (j d : Fin 128) :
    iblk m c 4 t (ix2 j d) = Spec.ke (m ((c : Thread nD τ).loc main_arg1)) (pb t) (pg t) ⟨128 * ((pi t).val + 1) + j.val, by omega⟩ d := by
  unfold pi at hi
  unfold Spec.ke pb pg pi
  have hn : min (t.val % 16 + 1) 15 = t.val % 16 + 1 := by simp only at hi; omega
  blk_ext [iblk, V, idx_val t, hn]

theorem v2_read (j d : Fin 128) :
    iblk m c 6 t (ix2 j d) = Spec.ve (m ((c : Thread nD τ).loc main_arg2)) (pb t) (pg t) ⟨128 * (pi t).val + j.val, by omega⟩ d := by
  unfold Spec.ve pb pg pi
  blk_ext [iblk, V, idx_val t]

theorem v1_read (hi : 0 < (pi t).val) (j d : Fin 128) :
    iblk m c 5 t (ix2 j d) = Spec.ve (m ((c : Thread nD τ).loc main_arg2)) (pb t) (pg t) ⟨128 * ((pi t).val - 1) + j.val, by omega⟩ d := by
  unfold pi at hi
  unfold Spec.ve pb pg pi
  blk_ext [iblk, V, idx_val t]

theorem v3_read (hi : (pi t).val < 15) (j d : Fin 128) :
    iblk m c 7 t (ix2 j d) = Spec.ve (m ((c : Thread nD τ).loc main_arg2)) (pb t) (pg t) ⟨128 * ((pi t).val + 1) + j.val, by omega⟩ d := by
  unfold pi at hi
  unfold Spec.ve pb pg pi
  have hn : min (t.val % 16 + 1) 15 = t.val % 16 + 1 := by simp only at hi; omega
  blk_ext [iblk, V, idx_val t, hn]

theorem s_read (n : Fin 4) (k : Fin 32) (hk : k.val = 4 * (pg t).val + n.val) :
    iblk m c 0 t (ix1 k) = Spec.sink (m ((c : Thread nD τ).loc main_arg5)) (pg t) n := by
  unfold pg at hk
  unfold Spec.sink pg
  blk_simp [iblk, idx_val t]
  rw [V_v4 m c]
  pointwise
  blk_ext [idx_val t]

theorem b_read (a : Fin 128) (j : Fin 384) :
    (iblk m c 8 t : S1x128x384.Idx → EReal) (ix3 0 a j) = if Row.band (pi t).val a j then (0 : EReal) else ⊥ := by
  refine Eq.trans ?_ (bias_at m c (pi t).val (pi t).isLt ⟨if (pi t).val = 0 then 0 else if (pi t).val = 15 then 2 else 1, by split_ifs <;> omega⟩ rfl a j)
  unfold pi
  blk_simp [iblk, idx_val t]
  refine congrArg (V m c main_v72) ?_
  blk_ext [idx_val t]

end Cert.WindowIdeal.Val

end
-- ==== Proof.Ctx.lean ====
module

public import proofs.«01_k».proof.Proof.Gen.WindowIdeal
public import proofs.«01_k».proof.Proof.Gen.WindowIdeal.Skeleton
public import proofs.«01_k».proof.Proof.Gen.WindowIdeal.Launch
public import proofs.«01_k».proof.Proof.Gen.WindowIdeal.Points
public import proofs.«01_k».proof.Proof.Gen.WindowIdeal.Frame
public import proofs.«01_k».proof.Proof.Idx
public import proofs.«01_k».proof.Proof.Reads
public import proofs.«01_k».proof.Proof.Spec
public import proofs.«01_k».proof.Proof.Bias
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WindowIdeal.Val

open Cert.WindowIdeal Cert.WindowIdeal.Gen

variable (m : (ℓ : Loc nD τ sig) → Buf (Elt Ideal) ℓ) (c : Dev nD) (t : Fin cfg0.N)

/-- A cached context array with its heads laid side by side, at an entry. -/
theorem flat_at (X : FVec Ideal S8x1x512x8x128 .f32) (b : Fin 8) (a : Fin 512) (g : Fin 8) (d : Fin 128) (e : Fin 1024)
    (he : e.val = 128 * g.val + d.val) :
    shapeCast S8x512x1024 (shapeCast S8x512x8x128 X shapeCasts_S8x1x512x8x128_S8x512x8x128) shapeCasts_S8x512x8x128_S8x512x1024 (ix3 b a e)
      = X (ix5 b 0 a g d) := by
  pointwise
  blk_ext

theorem kc_read (a : Fin 512) (d : Fin 128) :
    iblk m c 9 t (ix3 0 a d) = m ((c : Thread nD τ).loc main_arg3) (ix5 (pb t) 0 a (pg t) d) := by
  refine Eq.trans (b := (V m c main_v1 : S8x512x1024.Idx → EReal) (ix3 (pb t) a ⟨128 * (pg t).val + d.val, by omega⟩)) ?_ ?_
  · unfold pb pg
    blk_simp [iblk, idx_val t]
    refine congrArg (V m c main_v1) ?_
    blk_ext [idx_val t]
  · exact (congrFun (V_v1 m c) _).trans (flat_at _ _ _ _ _ _ rfl)

theorem vc_read (a : Fin 512) (d : Fin 128) :
    iblk m c 10 t (ix3 0 a d) = m ((c : Thread nD τ).loc main_arg4) (ix5 (pb t) 0 a (pg t) d) := by
  refine Eq.trans (b := (V m c main_v3 : S8x512x1024.Idx → EReal) (ix3 (pb t) a ⟨128 * (pg t).val + d.val, by omega⟩)) ?_ ?_
  · unfold pb pg
    blk_simp [iblk, idx_val t]
    refine congrArg (V m c main_v3) ?_
    blk_ext [idx_val t]
  · exact (congrFun (V_v3 m c) _).trans (flat_at _ _ _ _ _ _ rfl)

end Cert.WindowIdeal.Val

end
-- ==== Proof.Point.lean ====
module

public import proofs.«01_k».proof.Proof.Gen.WindowIdeal
public import proofs.«01_k».proof.Proof.Gen.WindowIdeal.Skeleton
public import proofs.«01_k».proof.Proof.Gen.WindowIdeal.Launch
public import proofs.«01_k».proof.Proof.Gen.WindowIdeal.Points
public import proofs.«01_k».proof.Proof.Gen.WindowIdeal.Frame
public import proofs.«01_k».proof.Proof.Gen.WindowIdeal.Value
public import proofs.«01_k».proof.Proof.Idx
public import proofs.«01_k».proof.Proof.Core
public import proofs.«01_k».proof.Proof.Reads
public import proofs.«01_k».proof.Proof.Ctx
public import proofs.«01_k».proof.Proof.Spec
public import proofs.«01_k».proof.Proof.Word
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WindowIdeal.Val

open Cert.WindowIdeal Cert.WindowIdeal.Gen

variable (m : (ℓ : Loc nD τ sig) → Buf (Elt Ideal) ℓ)

/-- The result array in terms of the arguments. -/
def GG (c : Dev nD) : FVec Ideal S16384x4096 .bf16 :=
  Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What the claim assumes of core `c`'s arguments. -/
structure Fin5 (x0 : FVec Ideal Spec.Q .bf16) (x1 : FVec Ideal Spec.K .f32) (x3 : FVec Ideal Spec.C .f32) (x5 : FVec Ideal Spec.T .f32) : Prop where
  fq : ∀ b g r q d, Row.Real (Spec.qe x0 b g r q d)
  fk : ∀ b g k d, Row.Real (Spec.ke x1 b g k d)
  fc : ∀ i, Row.Real (x3 i)
  fs : ∀ g r, Row.Real (Spec.sink x5 g r)

/-- The finiteness assumption at the memory. -/
abbrev FinM (c : Dev nD) : Prop := Fin5 (m ((c : Thread nD τ).loc main_arg0)) (m ((c : Thread nD τ).loc main_arg1))
  (m ((c : Thread nD τ).loc main_arg3)) (m ((c : Thread nD τ).loc main_arg5))

theorem at5_congr (x0 x1 x2 x3 x4 x5) (b b' g g' : Fin 8) (r r' : Fin 4) (q q' : Fin 2048) (d d' : Fin 128) (e1 : b = b') (e2 : g = g')
    (e3 : r = r') (e4 : q = q') (e5 : d = d') : Spec.at5 x0 x1 x2 x3 x4 x5 b g r q d = Spec.at5 x0 x1 x2 x3 x4 x5 b' g' r' q' d' := by
  subst e1 e2 e3 e4 e5; rfl

/-- The result array at a position given by batch, group, head, query and entry. -/
theorem GG_at (c : Dev nD) (j : S16384x4096.Idx) (b g : Fin 8) (r : Fin 4) (q : Fin 2048) (d : Fin 128)
    (hj0 : (j 0).val = 2048 * b.val + q.val) (hj1 : (j 1).val = 512 * g.val + 128 * r.val + d.val) :
    Spec.at5 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) b g r q d = GG m c j := by
  unfold GG Spec.G
  have h0 : (j 0).val < 16384 := (j 0).isLt
  have h1 : (j 1).val < 4096 := (j 1).isLt
  exact at5_congr _ _ _ _ _ _ _ _ _ _ _ _ _ _ _ _ (Fin.ext (by simp only; omega)) (Fin.ext (by simp only; omega)) (Fin.ext (by simp only; omega))
    (Fin.ext (by simp only; omega)) (Fin.ext (by simp only; omega))

theorem point (c : Dev nD) (hF : FinM m c) (t : Fin cfg0.N) (q0 q1 q2 q3 : Vec Ideal S128x128 .bf16) (s0 s1 s2 s3 : Elt Ideal .f32)
    (X0 : Vec Ideal S32 .f32) (X1 : Vec Ideal S128x512 .bf16)
    (k1 k2 k3 v1 v2 v3 : Vec Ideal S128x128 .f32) (bias : Vec Ideal S1x128x384 .f32) (kc vc : Vec Ideal S1x512x128 .f32)
    (e0 : iblk m c 0 t = X0) (e1 : iblk m c 1 t = X1) (e2 : iblk m c 2 t = k1) (e3 : iblk m c 3 t = k2) (e4 : iblk m c 4 t = k3)
    (e5 : iblk m c 5 t = v1) (e6 : iblk m c 6 t = v2) (e7 : iblk m c 7 t = v3) (e8 : iblk m c 8 t = bias)
    (e9 : iblk m c 9 t = kc) (e10 : iblk m c 10 t = vc)
    (hq0 : ∀ a d : Fin 128, q0 (ix2 a d) = X1 (ix2 a ⟨128 * 0 + d.val, by omega⟩))
    (hq1 : ∀ a d : Fin 128, q1 (ix2 a d) = X1 (ix2 a ⟨128 * 1 + d.val, by omega⟩))
    (hq2 : ∀ a d : Fin 128, q2 (ix2 a d) = X1 (ix2 a ⟨128 * 2 + d.val, by omega⟩))
    (hq3 : ∀ a d : Fin 128, q3 (ix2 a d) = X1 (ix2 a ⟨128 * 3 + d.val, by omega⟩))
    (hs0 : s0 = X0 (ix1 ⟨4 * (pg t).val + 0, by omega⟩)) (hs1 : s1 = X0 (ix1 ⟨4 * (pg t).val + 1, by omega⟩))
    (hs2 : s2 = X0 (ix1 ⟨4 * (pg t).val + 2, by omega⟩)) (hs3 : s3 = X0 (ix1 ⟨4 * (pg t).val + 3, by omega⟩))
    (r : Fin 512) (d : Fin 128) (j : S16384x4096.Idx)
    (hj0 : (j 0).val = 2048 * (pb t).val + (128 * (pi t).val + r.val % 128)) (hj1 : (j 1).val = 512 * (pg t).val + 128 * (r.val / 128) + d.val) :
    k0_pay1 (F := Ideal) (k0_pay10 v1 v2 v3)
        (k0_pay13 (k0_pay6 q0 q1 q2 q3) (k0_pay8 q0 q1 q2 q3 kc) (k0_pay9 q0 q1 q2 q3 s0 s1 s2 s3 kc) k1 k2 k3 bias)
        (k0_pay14 (k0_pay6 q0 q1 q2 q3) (k0_pay7 s0 s1 s2 s3) (k0_pay8 q0 q1 q2 q3 kc) (k0_pay9 q0 q1 q2 q3 s0 s1 s2 s3 kc) k1 k2 k3 bias)
        (k0_pay15 (k0_pay6 q0 q1 q2 q3) (k0_pay9 q0 q1 q2 q3 s0 s1 s2 s3 kc) k1 k2 k3 bias)
        (k0_pay16 (k0_pay6 q0 q1 q2 q3) (k0_pay9 q0 q1 q2 q3 s0 s1 s2 s3 kc) k1 k2 k3 bias) vc (ix2 r d)
      = GG m c j := by
  subst e0 e1 e2 e3 e4 e5 e6 e7 e8 e9 e10
  refine (Core.core (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
    q0 q1 q2 q3 s0 s1 s2 s3 _ _ _ _ _ _ _ _ _ (pb t) (pg t) (pi t)
    (fun a d => (hq0 a d).trans (q_read m c t 0 a d _ rfl)) (fun a d => (hq1 a d).trans (q_read m c t 1 a d _ rfl))
    (fun a d => (hq2 a d).trans (q_read m c t 2 a d _ rfl)) (fun a d => (hq3 a d).trans (q_read m c t 3 a d _ rfl))
    (hs0.trans (s_read m c t 0 _ rfl)) (hs1.trans (s_read m c t 1 _ rfl)) (hs2.trans (s_read m c t 2 _ rfl)) (hs3.trans (s_read m c t 3 _ rfl))
    (k1_read m c t) (k2_read m c t) (k3_read m c t) (v1_read m c t) (v2_read m c t) (v3_read m c t) (b_read m c t) (kc_read m c t) (vc_read m c t)
    (hF.fq _ _) (hF.fk _ _) (fun _ _ => hF.fc _) (hF.fs _) r d).trans ?_
  exact GG_at m c j _ _ _ _ _ hj0 hj1

/-- The stored quarters are quarters of the attention tile. -/
theorem pay2_at (a b e f g h) (p d : Fin 128) :
    k0_pay2 (F := Ideal) a b e f g h (ix2 p d) = k0_pay1 (F := Ideal) a b e f g h (ix2 ⟨0 + p.val, by omega⟩ d) := by
  pointwise [k0_pay2]
theorem pay3_at (a b e f g h) (p d : Fin 128) :
    k0_pay3 (F := Ideal) a b e f g h (ix2 p d) = k0_pay1 (F := Ideal) a b e f g h (ix2 ⟨128 + p.val, by omega⟩ d) := by
  pointwise [k0_pay3]
theorem pay4_at (a b e f g h) (p d : Fin 128) :
    k0_pay4 (F := Ideal) a b e f g h (ix2 p d) = k0_pay1 (F := Ideal) a b e f g h (ix2 ⟨256 + p.val, by omega⟩ d) := by
  pointwise [k0_pay4]
theorem pay5_at (a b e f g h) (p d : Fin 128) :
    k0_pay5 (F := Ideal) a b e f g h (ix2 p d) = k0_pay1 (F := Ideal) a b e f g h (ix2 ⟨384 + p.val, by omega⟩ d) := by
  pointwise [k0_pay5]

end Cert.WindowIdeal.Val

end
-- ==== Proof.Value.lean ====
module

public import proofs.«01_k».proof.Proof.Gen.WindowIdeal
public import proofs.«01_k».proof.Proof.Gen.WindowIdeal.Skeleton
public import proofs.«01_k».proof.Proof.Gen.WindowIdeal.Launch
public import proofs.«01_k».proof.Proof.Gen.WindowIdeal.Points
public import proofs.«01_k».proof.Proof.Gen.WindowIdeal.Frame
public import proofs.«01_k».proof.Proof.Gen.WindowIdeal.Value
public import proofs.«01_k».proof.Proof.Idx
public import proofs.«01_k».proof.Proof.Point
public import proofs.«01_k».proof.Proof.Reads
public import proofs.«01_k».proof.Proof.Ctx
public import proofs.«01_k».proof.Proof.Spec
public import proofs.«01_k».proof.Proof.Word
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WindowIdeal.Val

open Cert.WindowIdeal Cert.WindowIdeal.Gen

variable (m : (ℓ : Loc nD τ sig) → Buf (Elt Ideal) ℓ)

/-- The sink's position, computed in words. -/
theorem off_word : ∀ (g : Fin 8) (n : ℕ) (hn : n < 4),
    BitVec.toNat (Scalar.indexCast (Scalar.addi (Scalar.muli (BitVec.ofNat 32 g.val) 4#32) (BitVec.ofNat 32 n))) = 4 * g.val + n := by
  intro g n hn
  interval_cases n <;> revert g <;> decide

set_option maxHeartbeats 4000000 in
set_option pp.maxSteps 400 in
set_option pp.deepTerms false in
/-- The kernel's result array. -/
theorem final (c : Dev nD) (hF : FinM m c) : (dats m 0 c).arrAt 11 (cfgs 0).N = GG m c := by
  refine (dats m 0 c).arrAt_eq_of_covers 11 _ (by decide +kernel) fun t hf y => ?_
  have ix := (idx_val t).2.2.2.2.2.2.2.2.2.2.2
  have hg := coord_val t
  blk_simp; rw [after0_11]
  unfold Gen.outsAt0; frame_out
  generalize e0 : iblk m c 0 t = X0
  generalize e1 : iblk m c 1 t = X1
  generalize e2 : iblk m c 2 t = X2
  generalize e3 : iblk m c 3 t = X3
  generalize e4 : iblk m c 4 t = X4
  generalize e5 : iblk m c 5 t = X5
  generalize e6 : iblk m c 6 t = X6
  generalize e7 : iblk m c 7 t = X7
  generalize e8 : iblk m c 8 t = X8
  generalize e9 : iblk m c 9 t = X9
  generalize e10 : iblk m c 10 t = X10
  canon_tiles x h
  all_goals obtain ⟨p, d, rfl⟩ : ∃ p d : Fin 128, x = ix2 p d := ⟨x 0, x 1, by idx_vars x⟩
  on_goal 1 => refine (pay5_at _ _ _ _ _ _ p d).trans ?_
  on_goal 2 => refine (pay4_at _ _ _ _ _ _ p d).trans ?_
  on_goal 3 => refine (pay3_at _ _ _ _ _ _ p d).trans ?_
  on_goal 4 => refine (pay2_at _ _ _ _ _ _ p d).trans ?_
  all_goals
    refine point m c hF t _ _ _ _ _ _ _ _ X0 X1 X2 X3 X4 X5 X6 X7 X8 X9 X10 e0 e1 e2 e3 e4 e5 e6 e7 e8 e9 e10 ?_ ?_ ?_ ?_ ?_ ?_ ?_ ?_ _ _ _ ?_ ?_
    on_goal 10 =>
      first | replace h1 : (y 1).val = _ + d.val := h1 | replace h1 : (y 1).val = d.val := h1
      have hd := d.isLt
      have hp := p.isLt
      unfold pg
      blk_simp [ix]
      dsimp only
      omega
    on_goal 9 =>
      replace h0 : (y 0).val = p.val := h0
      have hp := p.isLt
      unfold pb pi
      blk_simp [ix]
      dsimp only
      omega
  all_goals clear e0 e1 e2 e3 e4 e5 e6 e7 e8 e9 e10
  all_goals first
    | (intro a d; pointwise; done)
    | (unfold k0_off1 pg
       pointwise
       refine congrArg X0 (congrArg ix1 (Fin.ext ?_))
       dsimp only
       rw [hg]
       refine (off_word ⟨t.val / 16 % 8, Nat.mod_lt _ (by decide)⟩ _ ?_)
       decide)

end Cert.WindowIdeal.Val

end
-- ==== Proof.Finite.lean ====
module

public import proofs.«01_k».proof.Defs
public import proofs.«01_k».proof.Proof.Point
public import Idealize.ShloMosaic.Lib.Pointwise

@[expose] public section

set_option maxRecDepth 16384

noncomputable section

open Idealize.ShloMosaic

namespace Cert.Pre_finite.Dec

open Cert.Pre_finite

instance facts : Cert.Pre_finite.Facts where
  slices_S20480x4096_S16384x4096_4096_0 := by decide
  bitsLt_bf16_f32 := by decide
  bcast_S_S16384x4096 := by decide
  slices_S20480x1024_S16384x1024_4096_0 := by decide
  bcast_S_S16384x1024 := by decide
  bcast_S_S8x1x512x8x128 := by decide
  bcast_S_S1x32 := by decide

theorem real_of_lt (x : EReal) (h : Ideal.cmp .olt (max x (-x)) (Ideal.ofBits .f32 0x7F800000#32) = 1#1) : Row.Real x := by
  have e : Ideal.ofBits .f32 0x7F800000#32 = (⊤ : EReal) := by simp [Ideal.ofBits, Ideal.ieee]
  rw [e] at h
  induction x using EReal.rec with
  | bot => simp [Ideal.cmp] at h
  | top => simp [Ideal.cmp] at h
  | coe r => exact ⟨r, rfl⟩

/-- The comparison array is one only at real entries. -/
theorem real_at (s : Shape) (x y : FVec Ideal s .f32) (hy : ∀ i, y i = Ideal.ofBits .f32 0x7F800000#32)
    (h : cmpf .olt (Host.absf x) y = fun _ => 1#1) (i : s.Idx) : Row.Real (x i) := by
  have h1 : Ideal.cmp .olt (max (x i) (-(x i))) (y i) = 1#1 := congrFun h i
  rw [hy] at h1
  exact real_of_lt _ h1

/-- The precondition read off: every entry it names is a real number. -/
theorem fin5 (x0 : FVec Ideal S20480x4096 .bf16) (x1 : FVec Ideal S20480x1024 .f32) (x2 : FVec Ideal S20480x6144 .f32)
    (x3 x4 : FVec Ideal S8x1x512x8x128 .f32) (x5 : FVec Ideal S1x32 .f32)
    (h : (Cert.Pre_finite.fn (F := Ideal) x0 x1 x2 x3 x4 x5).1 = (fun _ => 1#1)
      ∧ (Cert.Pre_finite.fn (F := Ideal) x0 x1 x2 x3 x4 x5).2.1 = (fun _ => 1#1)
      ∧ (Cert.Pre_finite.fn (F := Ideal) x0 x1 x2 x3 x4 x5).2.2.1 = (fun _ => 1#1)
      ∧ (Cert.Pre_finite.fn (F := Ideal) x0 x1 x2 x3 x4 x5).2.2.2 = (fun _ => 1#1)) : Cert.WindowIdeal.Val.Fin5 x0 x1 x3 x5 := by
  obtain ⟨h0, h1, h3, h5⟩ := h
  refine ⟨fun b g r q d => ?_, fun b g k d => ?_, ?_, fun g r => ?_⟩
  · have e := real_at S16384x4096 _ _ (fun _ => rfl) h0 (ix2 ⟨2048 * b.val + q.val, by omega⟩ ⟨512 * g.val + 128 * r.val + d.val, by omega⟩)
    have e' : Row.Real (extractStridedSlice S16384x4096 ![4096, 0] x0 Facts.slices_S20480x4096_S16384x4096_4096_0
      (ix2 ⟨2048 * b.val + q.val, by omega⟩ ⟨512 * g.val + 128 * r.val + d.val, by omega⟩)) := e
    have f : extractStridedSlice S16384x4096 ![4096, 0] x0 Facts.slices_S20480x4096_S16384x4096_4096_0
      (ix2 ⟨2048 * b.val + q.val, by omega⟩ ⟨512 * g.val + 128 * r.val + d.val, by omega⟩) = Spec.qe x0 b g r q d := by
      unfold Spec.qe; pointwise
    rwa [f] at e'
  · have e := real_at S16384x1024 _ _ (fun _ => rfl) h1 (ix2 ⟨2048 * b.val + k.val, by omega⟩ ⟨128 * g.val + d.val, by omega⟩)
    have e' : Row.Real (extractStridedSlice S16384x1024 ![4096, 0] x1 Facts.slices_S20480x1024_S16384x1024_4096_0
      (ix2 ⟨2048 * b.val + k.val, by omega⟩ ⟨128 * g.val + d.val, by omega⟩)) := e
    have f : extractStridedSlice S16384x1024 ![4096, 0] x1 Facts.slices_S20480x1024_S16384x1024_4096_0
      (ix2 ⟨2048 * b.val + k.val, by omega⟩ ⟨128 * g.val + d.val, by omega⟩) = Spec.ke x1 b g k d := by
      unfold Spec.ke; pointwise
    rwa [f] at e'
  · exact real_at S8x1x512x8x128 _ _ (fun _ => rfl) h3
  · exact real_at S1x32 _ _ (fun _ => rfl) h5 _

end Cert.Pre_finite.Dec

end
-- ==== Proof.RefScore.lean ====
module

public import proofs.«01_k».proof.Proof.Gen.WindowRefIdeal
public import proofs.«01_k».proof.Proof.Gen.WindowRefIdeal.Run
public import proofs.«01_k».proof.Proof.Gen.WindowRefIdeal.Read
public import proofs.«01_k».proof.Proof.Spec
public import proofs.«01_k».proof.Proof.Word
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.WindowRefIdeal.Ref

open Cert.WindowRefIdeal Cert.WindowRefIdeal.Read

variable (x0 : FVec Ideal S20480x4096 .bf16) (x1 : FVec Ideal S20480x1024 .f32) (x2 : FVec Ideal S20480x6144 .f32)
  (x3 x4 : FVec Ideal S8x1x512x8x128 .f32) (x5 : FVec Ideal S1x32 .f32)

theorem ninf : Ideal.ofBits .f32 0xFF800000#32 = (⊥ : EReal) := by
  simp [Ideal.ofBits, Ideal.ieee]

theorem q_at (b : Fin 8) (q : Fin 2048) (g : Fin 8) (r : Fin 4) (d : Fin 128) :
    val_main_v2 (F := Ideal) x0 (ix5 b q g r d) = Spec.qe x0 b g r q d := by
  pointwise [val_main_v2, val_main_v1, val_main_v0, Spec.qe]
  exact congrArg x0 ((ix2_inj ..).2 ⟨Fin.ext (by simp only; omega), Fin.ext (by simp only; omega)⟩)

theorem k_lat (b : Fin 8) (k : Fin 2048) (g : Fin 8) (d : Fin 128) :
    val_main_v21 (F := Ideal) x1 x3 (ix4 b ⟨k.val, by omega⟩ g d) = Spec.ke x1 b g k d := by
  pointwise [val_main_v21, val_main_v3, val_main_v4, val_main_v7, Spec.ke]
  exact congrArg x1 ((ix2_inj ..).2 ⟨Fin.ext (by simp only; omega), Fin.ext (by simp only; omega)⟩)

theorem k_ctx (b : Fin 8) (c : Fin 512) (g : Fin 8) (d : Fin 128) :
    val_main_v21 (F := Ideal) x1 x3 (ix4 b ⟨2048 + c.val, by omega⟩ g d) = x3 (ix5 b 0 c g d) := by
  pointwise [val_main_v21, val_main_v3, val_main_v4, val_main_v7]

theorem v_lat (b : Fin 8) (k : Fin 2048) (g : Fin 8) (d : Fin 128) :
    val_main_v22 (F := Ideal) x2 x4 (ix4 b ⟨k.val, by omega⟩ g d) = Spec.ve x2 b g k d := by
  pointwise [val_main_v22, val_main_v5, val_main_v6, val_main_v8, Spec.ve]
  exact congrArg x2 ((ix2_inj ..).2 ⟨Fin.ext (by simp only; omega), Fin.ext (by simp only; omega)⟩)

theorem v_ctx (b : Fin 8) (c : Fin 512) (g : Fin 8) (d : Fin 128) :
    val_main_v22 (F := Ideal) x2 x4 (ix4 b ⟨2048 + c.val, by omega⟩ g d) = x4 (ix5 b 0 c g d) := by
  pointwise [val_main_v22, val_main_v5, val_main_v6, val_main_v8]

theorem mask_lat (q k : Fin 2048) :
    val_main_v20 (F := Ideal) (ix2 q ⟨k.val, by omega⟩) = BitVec.ofBool (decide (Row.near q k)) := by
  pointwise [val_main_v20, val_main_v18, val_main_v19, val_main_v17, val_main_v16, val_main_v15, val_main_v14, val_main_v13, val_main_v12, val_main_v11, val_main_v10, val_main_c, val_main_c_0]
  exact Word.near_word _ _ (by omega) (by omega)

theorem mask_ctx (q : Fin 2048) (c : Fin 512) :
    val_main_v20 (F := Ideal) (ix2 q ⟨2048 + c.val, by omega⟩) = 1#1 := by
  pointwise [val_main_v20, val_main_v18, val_main_v19, val_main_v17, val_main_v16, val_main_v15, val_main_v14, val_main_v13, val_main_v12, val_main_v11, val_main_v10, val_main_c, val_main_c_0]

theorem s_at (b g : Fin 8) (r : Fin 4) (q : Fin 2048) (k : Fin 2560) :
    val_main_v27 (F := Ideal) x0 x1 x3 (ix5 b g r q k)
      = Scalar.select (val_main_v20 (F := Ideal) (ix2 q k))
        ((∑ d : Fin 128, val_main_v21 (F := Ideal) x1 x3 (ix4 b k g d) * val_main_v2 (F := Ideal) x0 (ix5 b q g r d)) * Spec.kap) ⊥ := by
  pointwise [val_main_v27, val_main_v26, val_main_v25, val_main_v24, val_main_v23, val_main_cst, val_main_cst_1, val_main_call0_v0, val_main_call0_v1, val_main_call0_v2, ninf]
  exact congrArg _ ninf

theorem s_lat (b g : Fin 8) (r : Fin 4) (q k : Fin 2048) :
    val_main_v27 (F := Ideal) x0 x1 x3 (ix5 b g r q ⟨k.val, by omega⟩) = Spec.sc x0 x1 b g r q k := by
  rw [s_at, mask_lat]
  simp only [k_lat, q_at]
  unfold Spec.sc Spec.raw
  by_cases h : Row.near q k
  · rw [decide_eq_true h, if_pos h]
    exact congrArg (· * Spec.kap) (Finset.sum_congr rfl fun d _ => mul_comm _ _)
  · rw [decide_eq_false h, if_neg h]; rfl

theorem s_ctx (b g : Fin 8) (r : Fin 4) (q : Fin 2048) (c : Fin 512) :
    val_main_v27 (F := Ideal) x0 x1 x3 (ix5 b g r q ⟨2048 + c.val, by omega⟩) = Spec.cs x0 x3 b g r q c := by
  rw [s_at, mask_ctx]
  simp only [k_ctx, q_at]
  exact congrArg (· * Spec.kap) (Finset.sum_congr rfl fun d _ => mul_comm _ _)

theorem all_at (b g : Fin 8) (r : Fin 4) (q : Fin 2048) (k : Fin 2561) :
    val_main_v30 (F := Ideal) x0 x1 x3 x5 (ix5 b g r q k)
      = Row.rall (Spec.sc x0 x1 b g r q) (Spec.cs x0 x3 b g r q) (Spec.sink x5 g r) k := by
  pointwise [val_main_v30, val_main_v29, val_main_v28, val_main_v9]
  unfold Row.rall
  by_cases h : k.val < 2048
  · rw [dif_pos h, dif_pos (by omega)]
    exact s_lat x0 x1 x3 b g r q ⟨k.val, h⟩
  · by_cases h2 : k.val < 2560
    · rw [dif_neg h, dif_pos h2, dif_pos h2]
      rw [← s_ctx]
      exact congrArg (val_main_v27 (F := Ideal) x0 x1 x3) (congrArg (ix5 b g r q) (Fin.ext (by simp only; omega)))
    · rw [dif_neg h, dif_neg h2, dif_neg h2]
      unfold Spec.sink
      exact congrArg x5 ((ix2_inj ..).2 ⟨rfl, Fin.ext (by simp only; omega)⟩)

end Cert.WindowRefIdeal.Ref

end
-- ==== Proof.RefMax.lean ====
module

public import proofs.«01_k».proof.Proof.Gen.WindowRefIdeal
public import proofs.«01_k».proof.Proof.Gen.WindowRefIdeal.Run
public import proofs.«01_k».proof.Proof.Gen.WindowRefIdeal.Read
public import proofs.«01_k».proof.Proof.RefScore
public import proofs.«01_k».proof.Proof.Word
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.WindowRefIdeal.Ref

open Cert.WindowRefIdeal Cert.WindowRefIdeal.Read

variable (x0 : FVec Ideal S20480x4096 .bf16) (x1 : FVec Ideal S20480x1024 .f32) (x2 : FVec Ideal S20480x6144 .f32)
  (x3 x4 : FVec Ideal S8x1x512x8x128 .f32) (x5 : FVec Ideal S1x32 .f32)

theorem red_at (v : FVec Ideal S8x8x4x2048x2561 .f32) (e : FVec Ideal S_ .f32) (h : S8x8x4x2048x2561.ReducesTo [4] S8x8x4x2048) (hu : 0 < S_.numel)
    (b g : Fin 8) (r : Fin 4) (q : Fin 2048) :
    Host.reduce (FloatOps.maximumf (F := Ideal)) v e h hu (ix4 b g r q)
      = Finset.univ.fold max (e ix0) fun k : Fin 2561 => v (ix5 b g r q k) := by
  pointwise
  rw [show Shape.Idx.first hu = ix0 from funext fun a => a.elim0]

theorem max_a (b g : Fin 8) (r : Fin 4) (q : Fin 2048) :
    val_main_v31 (F := Ideal) x0 x1 x3 x5 (ix4 b g r q)
      = Finset.univ.fold max (val_main_cst_2 (F := Ideal) ix0) fun k : Fin 2561 => val_main_v30 (F := Ideal) x0 x1 x3 x5 (ix5 b g r q k) := by
  unfold val_main_v31
  exact red_at _ _ _ _ b g r q

theorem max_b (b g : Fin 8) (r : Fin 4) (q : Fin 2048) :
   (Finset.univ.fold max (val_main_cst_2 (F := Ideal) ix0) fun k : Fin 2561 => val_main_v30 (F := Ideal) x0 x1 x3 x5 (ix5 b g r q k))
      = Finset.univ.fold max ⊥ (Row.rall (Spec.sc x0 x1 b g r q) (Spec.cs x0 x3 b g r q) (Spec.sink x5 g r)) := by
    have e1 : (fun k : Fin 2561 => val_main_v30 (F := Ideal) x0 x1 x3 x5 (ix5 b g r q k))
        = Row.rall (Spec.sc x0 x1 b g r q) (Spec.cs x0 x3 b g r q) (Spec.sink x5 g r) := funext fun k => all_at x0 x1 x3 x5 b g r q k
    have e0 : val_main_cst_2 (F := Ideal) ix0 = (⊥ : EReal) := ninf
    rw [e1, e0]

theorem max_c (b g : Fin 8) (r : Fin 4) (q : Fin 2048) (M : EReal) (e : val_main_v31 (F := Ideal) x0 x1 x3 x5 (ix4 b g r q) = M) :
    val_main_v33 (F := Ideal) x0 x1 x3 x5 (ix4 b g r q) = max ⊥ M := by
  have h : FloatOps.ofBits (F := Ideal) .f32 0xFF800000#32 = (⊥ : EReal) := ninf
  have h2 : ∀ a b : EReal, FloatOps.maximumf (F := Ideal) (φ := .f32) a b = max a b := fun _ _ => rfl
  rw [val_main_v33_apply, e, val_main_v32_apply, val_main_cst_3_apply, h, h2]

theorem max_at (b g : Fin 8) (r : Fin 4) (q : Fin 2048) :
    val_main_v33 (F := Ideal) x0 x1 x3 x5 (ix4 b g r q)
      = Row.rmax (Spec.sc x0 x1 b g r q) (Spec.cs x0 x3 b g r q) (Spec.sink x5 g r) := by
  unfold Row.rmax
  exact max_c x0 x1 x3 x5 b g r q _ ((max_a x0 x1 x3 x5 b g r q).trans (max_b x0 x1 x3 x5 b g r q))

end Cert.WindowRefIdeal.Ref

end
-- ==== Proof.Ref.lean ====
module

public import proofs.«01_k».proof.Proof.Gen.WindowRefIdeal
public import proofs.«01_k».proof.Proof.Gen.WindowRefIdeal.Run
public import proofs.«01_k».proof.Proof.Gen.WindowRefIdeal.Read
public import proofs.«01_k».proof.Proof.RefMax
public import proofs.«01_k».proof.Proof.Word
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.WindowRefIdeal.Ref

open Cert.WindowRefIdeal Cert.WindowRefIdeal.Read

variable (x0 : FVec Ideal S20480x4096 .bf16) (x1 : FVec Ideal S20480x1024 .f32) (x2 : FVec Ideal S20480x6144 .f32)
  (x3 x4 : FVec Ideal S8x1x512x8x128 .f32) (x5 : FVec Ideal S1x32 .f32)

theorem rall_lat (s : Fin 2048 → EReal) (sc : Fin 512 → EReal) (sk : EReal) (j : Fin 2561) (k : Fin 2048)
    (h : j.val = k.val) : Row.rall s sc sk j = s k := by
  unfold Row.rall
  rw [dif_pos (by omega)]
  exact congrArg s (Fin.ext h)

theorem rall_ctx (s : Fin 2048 → EReal) (sc : Fin 512 → EReal) (sk : EReal) (j : Fin 2561) (c : Fin 512)
    (h : j.val = 2048 + c.val) : Row.rall s sc sk j = sc c := by
  unfold Row.rall
  rw [dif_neg (by omega), dif_pos (by omega)]
  exact congrArg sc (Fin.ext (by simp only; omega))

theorem rall_sink (s : Fin 2048 → EReal) (sc : Fin 512 → EReal) (sk : EReal) (j : Fin 2561)
    (h : j.val = 2560) : Row.rall s sc sk j = sk := by
  unfold Row.rall
  rw [dif_neg (by omega), dif_neg (by omega)]

theorem exp_at (b g : Fin 8) (r : Fin 4) (q : Fin 2048) (k : Fin 2561) :
    val_main_v37 (F := Ideal) x0 x1 x3 x5 (ix5 b g r q k)
      = Ideal.exp (Row.rall (Spec.sc x0 x1 b g r q) (Spec.cs x0 x3 b g r q) (Spec.sink x5 g r) k
          - Row.rmax (Spec.sc x0 x1 b g r q) (Spec.cs x0 x3 b g r q) (Spec.sink x5 g r)) := by
  pointwise [val_main_v37, val_main_v36, val_main_v35, val_main_v34, all_at, max_at]

theorem den_at (b g : Fin 8) (r : Fin 4) (q : Fin 2048) :
    val_main_v38 (F := Ideal) x0 x1 x3 x5 (ix4 b g r q)
      = Row.rden (Spec.sc x0 x1 b g r q) (Spec.cs x0 x3 b g r q) (Spec.sink x5 g r) := by
  pointwise [val_main_v38, val_main_cst_4, exp_at]
  rw [Fin.sum_univ_castSucc]
  rw [Fin.sum_univ_add (a := 2048) (b := 512)]
  unfold Row.rden
  refine congrArg₂ (· + ·) (congrArg₂ (· + ·) (Finset.sum_congr rfl fun k _ => ?_) (Finset.sum_congr rfl fun c _ => ?_)) ?_
  · rw [rall_lat _ _ _ _ k rfl]
  · rw [rall_ctx _ _ _ _ c rfl]
  · rw [rall_sink _ _ _ _ rfl]

theorem p_at (b g : Fin 8) (r : Fin 4) (q : Fin 2048) (k : Fin 2560) :
    val_main_v42 (F := Ideal) x0 x1 x3 x5 (ix5 b g r q k)
      = Ideal.div (Ideal.exp (Row.rall (Spec.sc x0 x1 b g r q) (Spec.cs x0 x3 b g r q) (Spec.sink x5 g r) ⟨k.val, by omega⟩
          - Row.rmax (Spec.sc x0 x1 b g r q) (Spec.cs x0 x3 b g r q) (Spec.sink x5 g r)))
        (Row.rden (Spec.sc x0 x1 b g r q) (Spec.cs x0 x3 b g r q) (Spec.sink x5 g r)) := by
  pointwise [val_main_v42, val_main_v41, val_main_v40, val_main_v39, exp_at, den_at]

theorem out_at (b g : Fin 8) (r : Fin 4) (q : Fin 2048) (d : Fin 128) :
    val_main_v44 (F := Ideal) x0 x1 x2 x3 x4 x5 (ix5 b q g r d) = Spec.at5 x0 x1 x2 x3 x4 x5 b g r q d := by
  pointwise [val_main_v44, val_main_v43, p_at]
  rw [Fin.sum_univ_add (a := 2048) (b := 512)]
  unfold Spec.at5 Row.rrow
  refine congrArg₂ (· + ·) (Finset.sum_congr rfl fun k _ => ?_) (Finset.sum_congr rfl fun c _ => ?_)
  · rw [rall_lat _ _ _ _ k rfl]
    exact congrArg (· * _) (v_lat x2 x4 b k g d)
  · rw [rall_ctx _ _ _ _ c rfl]
    exact congrArg (· * _) (v_ctx x2 x4 b c g d)

theorem out_eq : val_main_v46 (F := Ideal) x0 x1 x2 x3 x4 x5 = Spec.G x0 x1 x2 x3 x4 x5 := by
  funext n
  idx_vars n
  unfold Spec.G
  pointwise [val_main_v46, val_main_v45, out_at]

end Cert.WindowRefIdeal.Ref

end
-- ==== Proof.SsdInVal.lean ====
module

public import proofs.«01_k».proof.Proof.Gen.SsdInIdeal
public import proofs.«01_k».proof.Proof.Gen.SsdInIdeal.Skeleton
public import proofs.«01_k».proof.Proof.Gen.SsdInIdeal.Launch
public import proofs.«01_k».proof.Proof.Gen.SsdInIdeal.Points
public import proofs.«01_k».proof.Proof.Gen.SsdInIdeal.Frame
public import proofs.«01_k».proof.Proof.Gen.SsdInIdeal.Value
public import proofs.«01_k».proof.Proof.Gen.SsdInRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SsdInIdeal.Val

open Cert.SsdInIdeal Cert.SsdInIdeal.Gen

/-- The projection: one entry of the tokens times the weight. -/
def proj (x : S20480x4096.Idx → EReal) (w : S1x4096x18688.Idx → EReal) (r : Fin 20480) (q : Fin 18688) : EReal :=
  ∑ k : Fin 4096, x (ix2 r k) * w (ix3 0 k q)

/-- The result: the first 18432 columns of the projection. -/
def out (x : S20480x4096.Idx → EReal) (w : S1x4096x18688.Idx → EReal) : S20480x18432.Idx → EReal :=
  fun i => proj x w ⟨(i 0).val, (i 0).isLt⟩ ⟨(i 1).val, by have : (i 1).val < 18432 := (i 1).isLt; omega⟩

/-- The reference computes the projection. -/
theorem out_eq (x : S20480x4096.Idx → EReal) (w : S1x4096x18688.Idx → EReal) :
    Cert.SsdInRefIdeal.Read.val_main_v3 (F := Ideal) x w = out x w := by
  funext i
  rw [Cert.SsdInRefIdeal.Read.val_main_v3_apply, Cert.SsdInRefIdeal.Read.val_main_v2_apply]
  unfold out proj
  refine Finset.sum_congr rfl fun k _ => ?_
  rw [Cert.SsdInRefIdeal.Read.val_main_v1_apply]
  refine congrArg₂ (· * ·) (congrArg x ?_) (congrArg w ?_)
  · blk_ext
  · have h1 : (i 1).val < 18432 := (i 1).isLt
    blk_ext

/-- Each window's block at grid point `t`. -/
theorem idx_val : ∀ t : Fin cfg0.N, win0_0.index t = ![t.val / 72, t.val % 4]
    ∧ win0_1.index t = ![0, t.val % 4, t.val / 4 % 18]
    ∧ win0_2.index t = ![t.val / 72, t.val / 4 % 18] :=
  (by decide +kernel : ∀ t : Fin grid0.N, _)

/-- What one step adds to an entry: the product of the two staged blocks. -/
def part (X : S2048x1024.Idx → EReal) (W : S1x1024x1024.Idx → EReal) (y : S2048x1024.Idx) : EReal :=
  ∑ k : Fin 1024, X (ix2 ⟨(y 0).val, (y 0).isLt⟩ k) * W (ix3 0 k ⟨(y 1).val, (y 1).isLt⟩)

theorem hzero (y : S2048x1024.Idx) : k0_pay1 (F := Ideal) y = 0 := by
  pointwise [k0_pay1]

theorem hpay (X : Vec Ideal S2048x1024 .bf16) (A : Vec Ideal S2048x1024 .f32) (W : Vec Ideal S1x1024x1024 .bf16) (y : S2048x1024.Idx) :
    k0_pay2 (F := Ideal) X A W y = A y + part X W y := by
  unfold part
  pointwise [k0_pay2]

variable (m : (ℓ : Loc nD τ sig) → Buf (Elt Ideal) ℓ) (c : Dev nD)

theorem V_v0 : V m c main_v0 = (m ((c : Thread nD τ).loc main_arg1) : S1x4096x18688.Idx → EReal) := by
  unfold V
  simp only [hostOps0, List.flatten_cons, List.flatten_nil, List.append_nil, List.cons_append, List.nil_append]
  after_results_simp
  rfl

theorem x_read (t : Fin cfg0.N) (a : Fin 2048) (k : Fin 1024) :
    iblk m c 0 t (ix2 a k) = (m ((c : Thread nD τ).loc main_arg0) : S20480x4096.Idx → EReal)
      (ix2 ⟨t.val / 72 * 2048 + a.val, by have : t.val < 720 := t.isLt; omega⟩ ⟨t.val % 4 * 1024 + k.val, by omega⟩) := by
  blk_ext [iblk, V, idx_val t]

theorem w_read (t : Fin cfg0.N) (k b : Fin 1024) :
    X0_1 m c t (ix3 0 k b) = (m ((c : Thread nD τ).loc main_arg1) : S1x4096x18688.Idx → EReal)
      (ix3 0 ⟨t.val % 4 * 1024 + k.val, by omega⟩ ⟨t.val / 4 % 18 * 1024 + b.val, by omega⟩) := by
  refine Eq.trans (b := (V m c main_v0 : S1x4096x18688.Idx → EReal)
      (ix3 0 ⟨t.val % 4 * 1024 + k.val, by omega⟩ ⟨t.val / 4 % 18 * 1024 + b.val, by omega⟩)) ?_ (congrFun (V_v0 m c) _)
  unfold X0_1 Pipeline.Window.fill
  rw [dif_pos (moved0_1 t _)]
  blk_simp [iblk, idx_val t]
  refine congrArg (V m c main_v0) ?_
  blk_ext [idx_val t]

/-- The accumulator at the last step of a block is the sum of the steps' products. -/
theorem acc (t : Fin cfg0.N) (hr : t.val % 4 = 4 - 1) (y : S2048x1024.Idx) :
    (outsAt0 m c t.val t.isLt).2 y
      = 0 + ∑ s : Fin 4, part (iblk m c 0 ⟨4 * (t.val / 4) + s.val, Pipeline.run_point_lt_of_flush t hr s⟩)
          (X0_1 m c ⟨4 * (t.val / 4) + s.val, Pipeline.run_point_lt_of_flush t hr s⟩) y := by
  refine Pipeline.eq_sum_fin_of_reset_step_apply_of_flush (fun n h => (outsAt0 m c n h).2) 4 (fun _ => 0)
    (fun t y => part (iblk m c 0 t) (X0_1 m c t) y) (fun t h j => ?_) (fun t h j => ?_) t hr y
  · rw [outsAt0_A m c t h (by omega)]
    frame_out
    rw [hpay, hzero]
  · by_cases h1 : t.val % 4 = 3
    · rw [outsAt0_C m c t h h1]
      frame_out
      rw [hpay]
      exact congrArg (· + part (iblk m c 0 t) (X0_1 m c t) j) (congrFun ((Memref.isWhole_whole cc0_scratch0).read_unread _) j)
    · rw [outsAt0_B m c t h h1]
      frame_out
      rw [hpay]
      exact congrArg (· + part (iblk m c 0 t) (X0_1 m c t) j) (congrFun ((Memref.isWhole_whole cc0_scratch0).read_unread _) j)

/-- The block written back is the accumulator. -/
theorem wb (t : Fin cfg0.N) (h1 : t.val % 4 = 3) (y : S2048x1024.Idx) :
    (outsAt0 m c t.val t.isLt).1 y = (outsAt0 m c t.val t.isLt).2 y := by
  rw [outsAt0_C m c t (by omega) h1]
  frame_out

/-- The kernel's result array. -/
theorem final : (dats m 0 c).arrAt 2 (cfgs 0).N
    = out (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2]
  refine (wb m c t hr _).trans ((acc m c t hr _).trans ?_)
  rw [zero_add]
  unfold out proj part
  refine Fin.sum_mul_add_congr fun s k hl => ?_
  rw [x_read, w_read]
  blk_point [idx_val t]

end Cert.SsdInIdeal.Val

end
-- ==== Proof.QkvVal.lean ====
module

public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvIdeal.Val

open Cert.QkvIdeal Cert.QkvIdeal.Gen

/-- The projection: one entry of the tokens times the weight. -/
def proj (x : S20480x4096.Idx → EReal) (w : S1x4096x6144.Idx → EReal) (r : Fin 20480) (q : Fin 6144) : EReal :=
  ∑ k : Fin 4096, x (ix2 r k) * w (ix3 0 k q)

/-- The result: the projection. -/
def out (x : S20480x4096.Idx → EReal) (w : S1x4096x6144.Idx → EReal) : S20480x6144.Idx → EReal :=
  fun i => proj x w ⟨(i 0).val, (i 0).isLt⟩ ⟨(i 1).val, by have : (i 1).val < 6144 := (i 1).isLt; omega⟩

/-- The reference computes the projection. -/
theorem out_eq (x : S20480x4096.Idx → EReal) (w : S1x4096x6144.Idx → EReal) :
    Cert.QkvRefIdeal.Read.val_main_v2 (F := Ideal) x w = out x w := by
  funext i
  rw [Cert.QkvRefIdeal.Read.val_main_v2_apply]
  unfold out proj
  refine Finset.sum_congr rfl fun k _ => ?_
  rw [Cert.QkvRefIdeal.Read.val_main_v1_apply]
  refine congrArg₂ (· * ·) (congrArg x ?_) (congrArg w ?_)
  · blk_ext
  · have h1 : (i 1).val < 6144 := (i 1).isLt
    blk_ext

/-- Each window's block at grid point `t`. -/
theorem idx_val : ∀ t : Fin cfg0.N, win0_0.index t = ![t.val / 24, t.val % 4]
    ∧ win0_1.index t = ![0, t.val % 4, t.val / 4 % 6]
    ∧ win0_2.index t = ![t.val / 24, t.val / 4 % 6] :=
  (by decide +kernel : ∀ t : Fin grid0.N, _)

/-- What one step adds to an entry: the product of the two staged blocks. -/
def part (X : S2048x1024.Idx → EReal) (W : S1x1024x1024.Idx → EReal) (y : S2048x1024.Idx) : EReal :=
  ∑ k : Fin 1024, X (ix2 ⟨(y 0).val, (y 0).isLt⟩ k) * W (ix3 0 k ⟨(y 1).val, (y 1).isLt⟩)

theorem hzero (y : S2048x1024.Idx) : k0_pay1 (F := Ideal) y = 0 := by
  pointwise [k0_pay1]

theorem hpay (X : Vec Ideal S2048x1024 .bf16) (A : Vec Ideal S2048x1024 .f32) (W : Vec Ideal S1x1024x1024 .bf16) (y : S2048x1024.Idx) :
    k0_pay2 (F := Ideal) X A W y = A y + part X W y := by
  unfold part
  pointwise [k0_pay2]

variable (m : (ℓ : Loc nD τ sig) → Buf (Elt Ideal) ℓ) (c : Dev nD)

theorem V_v0 : V m c main_v0 = (m ((c : Thread nD τ).loc main_arg1) : S1x4096x6144.Idx → EReal) := by
  unfold V
  simp only [hostOps0, List.flatten_cons, List.flatten_nil, List.append_nil, List.cons_append, List.nil_append]
  after_results_simp
  rfl

theorem x_read (t : Fin cfg0.N) (a : Fin 2048) (k : Fin 1024) :
    iblk m c 0 t (ix2 a k) = (m ((c : Thread nD τ).loc main_arg0) : S20480x4096.Idx → EReal)
      (ix2 ⟨t.val / 24 * 2048 + a.val, by have : t.val < 240 := t.isLt; omega⟩ ⟨t.val % 4 * 1024 + k.val, by omega⟩) := by
  blk_ext [iblk, V, idx_val t]

theorem w_read (t : Fin cfg0.N) (k b : Fin 1024) :
    iblk m c 1 t (ix3 0 k b) = (m ((c : Thread nD τ).loc main_arg1) : S1x4096x6144.Idx → EReal)
      (ix3 0 ⟨t.val % 4 * 1024 + k.val, by omega⟩ ⟨t.val / 4 % 6 * 1024 + b.val, by omega⟩) := by
  refine Eq.trans (b := (V m c main_v0 : S1x4096x6144.Idx → EReal)
      (ix3 0 ⟨t.val % 4 * 1024 + k.val, by omega⟩ ⟨t.val / 4 % 6 * 1024 + b.val, by omega⟩)) ?_ (congrFun (V_v0 m c) _)
  blk_simp [iblk, idx_val t]
  refine congrArg (V m c main_v0) ?_
  blk_ext [idx_val t]

/-- The accumulator at the last step of a block is the sum of the steps' products. -/
theorem acc (t : Fin cfg0.N) (hr : t.val % 4 = 4 - 1) (y : S2048x1024.Idx) :
    (outsAt0 m c t.val t.isLt).2 y
      = 0 + ∑ s : Fin 4, part (iblk m c 0 ⟨4 * (t.val / 4) + s.val, Pipeline.run_point_lt_of_flush t hr s⟩)
          (iblk m c 1 ⟨4 * (t.val / 4) + s.val, Pipeline.run_point_lt_of_flush t hr s⟩) y := by
  refine Pipeline.eq_sum_fin_of_reset_step_apply_of_flush (fun n h => (outsAt0 m c n h).2) 4 (fun _ => 0)
    (fun t y => part (iblk m c 0 t) (iblk m c 1 t) y) (fun t h j => ?_) (fun t h j => ?_) t hr y
  · rw [outsAt0_A m c t h (by omega)]
    frame_out
    rw [hpay, hzero]
  · by_cases h1 : t.val % 4 = 3
    · rw [outsAt0_C m c t h h1]
      frame_out
      rw [hpay]
      exact congrArg (· + part (iblk m c 0 t) (iblk m c 1 t) j) (congrFun ((Memref.isWhole_whole cc0_scratch0).read_unread _) j)
    · rw [outsAt0_B m c t h h1]
      frame_out
      rw [hpay]
      exact congrArg (· + part (iblk m c 0 t) (iblk m c 1 t) j) (congrFun ((Memref.isWhole_whole cc0_scratch0).read_unread _) j)

/-- The block written back is the accumulator. -/
theorem wb (t : Fin cfg0.N) (h1 : t.val % 4 = 3) (y : S2048x1024.Idx) :
    (outsAt0 m c t.val t.isLt).1 y = (outsAt0 m c t.val t.isLt).2 y := by
  rw [outsAt0_C m c t (by omega) h1]
  frame_out

/-- The kernel's result array. -/
theorem final : (dats m 0 c).arrAt 2 (cfgs 0).N
    = out (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2]
  refine (wb m c t hr _).trans ((acc m c t hr _).trans ?_)
  rw [zero_add]
  unfold out proj part
  refine Fin.sum_mul_add_congr fun s k hl => ?_
  rw [x_read, w_read]
  blk_point [idx_val t]

end Cert.QkvIdeal.Val

end
-- ==== Proof.FnetOutVal.lean ====
module

public import proofs.«01_k».proof.Proof.Gen.FnetOutIdeal
public import proofs.«01_k».proof.Proof.Gen.FnetOutIdeal.Skeleton
public import proofs.«01_k».proof.Proof.Gen.FnetOutIdeal.Launch
public import proofs.«01_k».proof.Proof.Gen.FnetOutIdeal.Points
public import proofs.«01_k».proof.Proof.Gen.FnetOutIdeal.Frame
public import proofs.«01_k».proof.Proof.Gen.FnetOutIdeal.Value
public import proofs.«01_k».proof.Proof.Gen.FnetOutRefIdeal.Read
public import Idealize.ShloMosaic.Lib.Pipeline.ValueKit
public import Idealize.ShloMosaic.Lib.Routing.Ops
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FnetOutIdeal.Val

open Cert.FnetOutIdeal Cert.FnetOutIdeal.Gen

/-- The projection: one entry of the mixer's output times the weight. -/
def proj (x : S20480x4096.Idx → EReal) (w : S2x4096x4096.Idx → EReal) (r : Fin 20480) (q : Fin 4096) : EReal :=
  ∑ k : Fin 4096, x (ix2 r k) * w (ix3 0 k q)

/-- The condition of a token: 0 for the context tokens, then one for each batch of latent tokens. -/
def cond (r : ℕ) : ℕ := if r < 4096 then 0 else 1 + (r - 4096) / 2048

theorem cond_lt (r : Fin 20480) : cond r.val < 16 := by
  have := r.isLt
  unfold cond; split <;> omega

/-- The result: the residual stream plus the gated projection. -/
def out (x : S20480x4096.Idx → EReal) (w : S2x4096x4096.Idx → EReal) (b : S2x4096.Idx → EReal) (res : S20480x4096.Idx → EReal) (g : S16x24576.Idx → EReal) :
    S20480x4096.Idx → EReal :=
  fun i =>
    let r : Fin 20480 := ⟨(i 0).val, (i 0).isLt⟩
    let q : Fin 4096 := ⟨(i 1).val, (i 1).isLt⟩
    res (ix2 r q) + g (ix2 ⟨cond r.val, cond_lt r⟩ ⟨8192 + q.val, by omega⟩) * (proj x w r q + b (ix2 0 q))

/-- Each window's block at grid point `t`. -/
theorem idx_val : ∀ t : Fin cfg0.N, win0_0.index t = ![t.val / 16, t.val % 4]
    ∧ win0_1.index t = ![0, t.val % 4, t.val / 4 % 4]
    ∧ win0_2.index t = ![0, t.val / 4 % 4]
    ∧ win0_3.index t = ![t.val / 16, t.val / 4 % 4]
    ∧ win0_4.index t = ![t.val / 16, 0, 8 + t.val / 4 % 4]
    ∧ win0_5.index t = ![t.val / 16, t.val / 4 % 4] :=
  (by decide +kernel : ∀ t : Fin grid0.N, _)

/-- What one step adds to an entry: the product of the two staged blocks. -/
def part (X : S1024x1024.Idx → EReal) (W : S1x1024x1024.Idx → EReal) (y : S1024x1024.Idx) : EReal :=
  ∑ k : Fin 1024, X (ix2 ⟨(y 0).val, (y 0).isLt⟩ k) * W (ix3 0 k ⟨(y 1).val, (y 1).isLt⟩)

theorem hzero (y : S1024x1024.Idx) : k0_pay1 (F := Ideal) y = 0 := by
  pointwise [k0_pay1]

theorem hpay (X : Vec Ideal S1024x1024 .bf16) (A : Vec Ideal S1024x1024 .f32) (W : Vec Ideal S1x1024x1024 .bf16) (y : S1024x1024.Idx) :
    k0_pay2 (F := Ideal) X A W y = A y + part X W y := by
  unfold part
  pointwise [k0_pay2]

/-- The last step's store: the sum gated by the modulation row of its 256 tokens, plus the residual. -/
theorem hlast (A : Vec Ideal S1024x1024 .f32) (B : Vec Ideal S1x1024 .f32) (G : Vec Ideal S4x1x1024 .f32) (R : Vec Ideal S1024x1024 .f32) (a b : Fin 1024) :
    k0_pay3 (F := Ideal) A B G R (ix2 a b) = (A (ix2 a b) + B (ix2 0 b)) * G (ix3 ⟨a.val / 256, by omega⟩ 0 b) + R (ix2 a b) := by
  pointwise [k0_pay3]

variable (m : (ℓ : Loc nD τ sig) → Buf (Elt Ideal) ℓ) (c : Dev nD)

theorem V_w : V m c main_v0 = (m ((c : Thread nD τ).loc main_arg1) : S2x4096x4096.Idx → EReal) := by
  unfold V
  simp only [hostOps0, hostOps0_1, hostOps0_2, List.flatten_cons, List.flatten_nil, List.append_nil, List.cons_append, List.nil_append]
  after_results_simp
  rfl

theorem V_b : V m c main_v17 = shapeCast S1x4096 (shapeCast S4096 (extractStridedSlice S1x4096 ![0, 0]
    (m ((c : Thread nD τ).loc main_arg2)) slices_S2x4096_S1x4096_0_0) shapeCasts_S1x4096_S4096) shapeCasts_S4096_S1x4096 := by
  unfold V
  simp only [hostOps0, hostOps0_1, hostOps0_2, List.flatten_cons, List.flatten_nil, List.append_nil, List.cons_append, List.nil_append]
  after_results_simp
  rfl

/-- Eight on every lane, zero, one. -/
def lane (n : BitVec 32) : S64.Idx → BitVec 32 := broadcastInDim S64 ![] bcast_S_S64 (constantI S_ 32 n)
def row (n : BitVec 32) : S80.Idx → BitVec 32 := broadcastInDim S80 ![] bcast_S_S80 (constantI S_ 32 n)

/-- The lanes' numbers divided by eight, rounded down. -/
def div8 : S64.Idx → BitVec 32 :=
  select (andi (cmpi .ne (signi (iotaInDim S64 32 0)) (broadcastInDim S64 ![] bcast_S_S64 (signi (constantI S_ 32 8#32))))
      (cmpi .ne (Host.remsi (iotaInDim S64 32 0) (lane 8#32)) (lane 0#32)))
    (subi (Host.divsi (iotaInDim S64 32 0) (lane 8#32)) (lane 1#32)) (Host.divsi (iotaInDim S64 32 0) (lane 8#32))

/-- The condition of every group of 256 tokens. -/
def conds : S80.Idx → BitVec 32 :=
  concatenate S80 0 [⟨S16, broadcastInDim S16 ![] bcast_S_S16 (constantI S_ 32 0#32)⟩, ⟨S64, addi (lane 1#32) div8⟩] concatenates_S16_S64_S80_d0

def ids : S80x1.Idx → BitVec 32 :=
  broadcastInDim S80x1 ![0] bcast_S80_S80x1_0 (select (cmpi .slt conds (row 0#32)) (addi conds (row 16#32)) conds)

theorem ids_at : ∀ p : Fin 80, ids (ix2 p (0 : Fin 1)) = BitVec.ofNat 32 (cond (256 * p.val)) := by
  decide +kernel

set_option maxHeartbeats 2000000 in
theorem V_ids : (V m c main_v14 : S80x1.Idx → BitVec 32) = ids := by
  unfold V
  simp only [hostOps0, hostOps0_1, hostOps0_2, List.flatten_cons, List.flatten_nil, List.append_nil, List.cons_append, List.nil_append]
  after_results_simp
  try dsimp only [Matrix.cons_val]
  try after_results_simp
  rfl

set_option maxHeartbeats 2000000 in
theorem V_g : V m c main_v16 = shapeCast S80x1x24576 (Host.gather gather_S16x24576_S80x1_S80x24576_1_0_n_n_0_1_124576
    (m ((c : Thread nD τ).loc main_arg4) : S16x24576.Idx → EReal) ids) shapeCasts_S80x24576_S80x1x24576 := by
  rw [← V_ids m c]
  unfold V
  simp only [hostOps0, hostOps0_1, hostOps0_2, List.flatten_cons, List.flatten_nil, List.append_nil, List.cons_append, List.nil_append]
  after_results_simp
  try dsimp only [Matrix.cons_val]
  try after_results_simp
  rfl

/-- The gathered modulation rows. -/
theorem g_at (g : S16x24576.Idx → EReal) (p : Fin 80) (q : Fin 24576) (b : Fin 16) (hb : b.val = cond (256 * p.val)) :
    shapeCast S80x1x24576 (Host.gather gather_S16x24576_S80x1_S80x24576_1_0_n_n_0_1_124576 g ids)
      shapeCasts_S80x24576_S80x1x24576 (ix3 p 0 q) = g (ix2 b q) := by
  generalize hz : Host.gather gather_S16x24576_S80x1_S80x24576_1_0_n_n_0_1_124576 g ids = z
  refine Eq.trans (b := z (ix2 p q)) ?_ ?_
  · pointwise
  · subst hz
    exact Routing.gather_row _ rfl rfl rfl rfl rfl g ids p q b ((ids_at p).trans (by rw [hb])) (by decide)

variable (t : Fin cfg0.N)

theorem x_read (a k : Fin 1024) :
    iblk m c 0 t (ix2 a k) = (m ((c : Thread nD τ).loc main_arg0) : S20480x4096.Idx → EReal)
      (ix2 ⟨t.val / 16 * 1024 + a.val, by have : t.val < 320 := t.isLt; omega⟩ ⟨t.val % 4 * 1024 + k.val, by omega⟩) := by
  blk_ext [iblk, V, idx_val t]

theorem w_read (k b : Fin 1024) :
    iblk m c 1 t (ix3 0 k b) = (m ((c : Thread nD τ).loc main_arg1) : S2x4096x4096.Idx → EReal)
      (ix3 0 ⟨t.val % 4 * 1024 + k.val, by omega⟩ ⟨t.val / 4 % 4 * 1024 + b.val, by omega⟩) := by
  refine Eq.trans (b := (V m c main_v0 : S2x4096x4096.Idx → EReal)
      (ix3 0 ⟨t.val % 4 * 1024 + k.val, by omega⟩ ⟨t.val / 4 % 4 * 1024 + b.val, by omega⟩)) ?_ (congrFun (V_w m c) _)
  blk_simp [iblk, idx_val t]
  refine congrArg (V m c main_v0) ?_
  blk_ext [idx_val t]

theorem r_read (a b : Fin 1024) :
    iblk m c 3 t (ix2 a b) = (m ((c : Thread nD τ).loc main_arg3) : S20480x4096.Idx → EReal)
      (ix2 ⟨t.val / 16 * 1024 + a.val, by have : t.val < 320 := t.isLt; omega⟩ ⟨t.val / 4 % 4 * 1024 + b.val, by omega⟩) := by
  blk_ext [iblk, V, idx_val t]

theorem b_at (b : S2x4096.Idx → EReal) (q : Fin 4096) :
    shapeCast S1x4096 (shapeCast S4096 (extractStridedSlice S1x4096 ![0, 0]
      b slices_S2x4096_S1x4096_0_0) shapeCasts_S1x4096_S4096) shapeCasts_S4096_S1x4096 (ix2 0 q) = b (ix2 0 q) := by
  pointwise

theorem b_read (b : Fin 1024) :
    iblk m c 2 t (ix2 0 b) = (m ((c : Thread nD τ).loc main_arg2) : S2x4096.Idx → EReal)
      (ix2 0 ⟨t.val / 4 % 4 * 1024 + b.val, by omega⟩) := by
  refine Eq.trans (b := (V m c main_v17 : S1x4096.Idx → EReal)
      (ix2 0 ⟨t.val / 4 % 4 * 1024 + b.val, by omega⟩)) ?_ ((congrFun (V_b m c) _).trans (b_at _ _))
  blk_simp [iblk, idx_val t]
  refine congrArg (V m c main_v17) ?_
  blk_ext [idx_val t]

theorem g_read (a : Fin 4) (b : Fin 1024) (e : Fin 16) (he : e.val = cond (256 * (t.val / 16 * 4 + a.val))) :
    iblk m c 4 t (ix3 a 0 b) = (m ((c : Thread nD τ).loc main_arg4) : S16x24576.Idx → EReal)
      (ix2 e ⟨8192 + (t.val / 4 % 4 * 1024 + b.val), by omega⟩) := by
  refine Eq.trans (b := (V m c main_v16 : S80x1x24576.Idx → EReal)
      (ix3 ⟨t.val / 16 * 4 + a.val, by have : t.val < 320 := t.isLt; omega⟩ 0 ⟨8192 + (t.val / 4 % 4 * 1024 + b.val), by omega⟩)) ?_
      ((congrFun (V_g m c) _).trans (g_at _ _ _ _ he))
  blk_simp [iblk, idx_val t]
  refine congrArg (V m c main_v16) ?_
  blk_ext [idx_val t]

/-- The accumulator at the last step of a block is the sum of the steps' products. -/
theorem acc (hr : t.val % 4 = 4 - 1) (y : S1024x1024.Idx) :
    (outsAt0 m c t.val t.isLt).2 y
      = 0 + ∑ s : Fin 4, part (iblk m c 0 ⟨4 * (t.val / 4) + s.val, Pipeline.run_point_lt_of_flush t hr s⟩)
          (iblk m c 1 ⟨4 * (t.val / 4) + s.val, Pipeline.run_point_lt_of_flush t hr s⟩) y := by
  refine Pipeline.eq_sum_fin_of_reset_step_apply_of_flush (fun n h => (outsAt0 m c n h).2) 4 (fun _ => 0)
    (fun t y => part (iblk m c 0 t) (iblk m c 1 t) y) (fun t h j => ?_) (fun t h j => ?_) t hr y
  · rw [outsAt0_A m c t h (by omega)]
    frame_out
    rw [hpay, hzero]
  · by_cases h1 : t.val % 4 = 3
    · rw [outsAt0_C m c t h h1]
      frame_out
      rw [hpay]
      exact congrArg (· + part (iblk m c 0 t) (iblk m c 1 t) j) (congrFun ((Memref.isWhole_whole cc0_scratch0).read_unread _) j)
    · rw [outsAt0_B m c t h h1]
      frame_out
      rw [hpay]
      exact congrArg (· + part (iblk m c 0 t) (iblk m c 1 t) j) (congrFun ((Memref.isWhole_whole cc0_scratch0).read_unread _) j)

/-- The block written back: the last step's store over the accumulator. -/
theorem wb (h1 : t.val % 4 = 3) (y : S1024x1024.Idx) :
    (outsAt0 m c t.val t.isLt).1 y = k0_pay3 (F := Ideal) (outsAt0 m c t.val t.isLt).2 (iblk m c 2 t) (iblk m c 4 t) (iblk m c 3 t) y := by
  rw [outsAt0_C m c t (by omega) h1]
  frame_out

/-- The kernel's result array. -/
theorem final : (dats m 0 c).arrAt 5 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have hr := (flush0_5 t).mp hf
  blk_simp
  rw [after0_5]
  obtain ⟨a, b, rfl⟩ : ∃ a b : Fin 1024, y = ix2 a b := ⟨y 0, y 1, by idx_vars y⟩
  have ht : t.val < 320 := t.isLt
  have ha := a.isLt
  have hb := b.isLt
  have hrow : (⟨t.val / 16 * 1024 + a.val, by omega⟩ : Fin 20480).val / 1024 = t.val / 16 := by simp only; omega
  refine (wb m c t hr _).trans ((hlast _ _ _ _ a b).trans ?_)
  rw [acc m c t hr, zero_add, b_read, r_read,
    g_read m c t _ _ ⟨cond (t.val / 16 * 1024 + a.val), cond_lt ⟨t.val / 16 * 1024 + a.val, by omega⟩⟩ (by
      simp only [cond]
      split <;> split <;> omega)]
  refine Eq.trans (b := out (m ((c : Thread nD τ).loc main_arg0)) (m ((c : Thread nD τ).loc main_arg1)) (m ((c : Thread nD τ).loc main_arg2)) (m ((c : Thread nD τ).loc main_arg3)) (m ((c : Thread nD τ).loc main_arg4))
    (ix2 ⟨t.val / 16 * 1024 + a.val, by omega⟩ ⟨t.val / 4 % 4 * 1024 + b.val, by omega⟩)) ?_ ?_
  · unfold out proj part
    dsimp only
    refine (add_comm (_ : EReal) _).trans (congrArg₂ (· + ·) ?_ ((mul_comm (_ : EReal) _).trans (congrArg₂ (· * ·) ?_ ?_)))
    · blk_ext
    · blk_ext
    · refine congrArg₂ (· + ·) ?_ ?_
      · refine Fin.sum_mul_add_congr fun s k hl => ?_
        rw [x_read, w_read]
        blk_point
      · blk_ext
  · refine congrArg (out _ _ _ _ _) ?_
    blk_ext [idx_val t]

end Cert.FnetOutIdeal.Val

end
-- ==== Proof.AttnOutVal.lean ====
module

public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutIdeal.Value
public import proofs.«01_k».proof.Proof.Gen.AttnOutRefIdeal.Read
public import Idealize.ShloMosaic.Lib.Pipeline.ValueKit
public import Idealize.ShloMosaic.Lib.Routing.Ops
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnOutIdeal.Val

open Cert.AttnOutIdeal Cert.AttnOutIdeal.Gen

/-- The projection: one entry of the mixer's output times the weight. -/
def proj (x : S20480x4096.Idx → EReal) (w : S1x4096x4096.Idx → EReal) (r : Fin 20480) (q : Fin 4096) : EReal :=
  ∑ k : Fin 4096, x (ix2 r k) * w (ix3 0 k q)

/-- The condition of a token: 0 for the context tokens, then one for each batch of latent tokens. -/
def cond (r : ℕ) : ℕ := if r < 4096 then 0 else 1 + (r - 4096) / 2048

theorem cond_lt (r : Fin 20480) : cond r.val < 16 := by
  have := r.isLt
  unfold cond; split <;> omega

/-- The result: the residual stream plus the gated projection. -/
def out (x : S20480x4096.Idx → EReal) (w : S1x4096x4096.Idx → EReal) (res : S20480x4096.Idx → EReal) (g : S16x24576.Idx → EReal) :
    S20480x4096.Idx → EReal :=
  fun i =>
    let r : Fin 20480 := ⟨(i 0).val, (i 0).isLt⟩
    let q : Fin 4096 := ⟨(i 1).val, (i 1).isLt⟩
    res (ix2 r q) + g (ix2 ⟨cond r.val, cond_lt r⟩ ⟨8192 + q.val, by omega⟩) * (proj x w r q)

/-- Each window's block at grid point `t`. -/
theorem idx_val : ∀ t : Fin cfg0.N, win0_0.index t = ![t.val / 16, t.val % 4]
    ∧ win0_1.index t = ![0, t.val % 4, t.val / 4 % 4]
    ∧ win0_2.index t = ![t.val / 16, t.val / 4 % 4]
    ∧ win0_3.index t = ![t.val / 16, 0, 8 + t.val / 4 % 4]
    ∧ win0_4.index t = ![t.val / 16, t.val / 4 % 4] :=
  (by decide +kernel : ∀ t : Fin grid0.N, _)

/-- What one step adds to an entry: the product of the two staged blocks. -/
def part (X : S1024x1024.Idx → EReal) (W : S1x1024x1024.Idx → EReal) (y : S1024x1024.Idx) : EReal :=
  ∑ k : Fin 1024, X (ix2 ⟨(y 0).val, (y 0).isLt⟩ k) * W (ix3 0 k ⟨(y 1).val, (y 1).isLt⟩)

theorem hzero (y : S1024x1024.Idx) : k0_pay1 (F := Ideal) y = 0 := by
  pointwise [k0_pay1]

theorem hpay (X : Vec Ideal S1024x1024 .bf16) (A : Vec Ideal S1024x1024 .f32) (W : Vec Ideal S1x1024x1024 .bf16) (y : S1024x1024.Idx) :
    k0_pay2 (F := Ideal) X A W y = A y + part X W y := by
  unfold part
  pointwise [k0_pay2]

/-- The last step's store: the sum gated by the modulation row of its 256 tokens, plus the residual. -/
theorem hlast (A : Vec Ideal S1024x1024 .f32) (G : Vec Ideal S4x1x1024 .f32) (R : Vec Ideal S1024x1024 .f32) (a b : Fin 1024) :
    k0_pay3 (F := Ideal) A G R (ix2 a b) = (A (ix2 a b)) * G (ix3 ⟨a.val / 256, by omega⟩ 0 b) + R (ix2 a b) := by
  pointwise [k0_pay3]

variable (m : (ℓ : Loc nD τ sig) → Buf (Elt Ideal) ℓ) (c : Dev nD)

theorem V_w : V m c main_v0 = (m ((c : Thread nD τ).loc main_arg1) : S1x4096x4096.Idx → EReal) := by
  unfold V
  simp only [hostOps0, hostOps0_1, hostOps0_2, List.flatten_cons, List.flatten_nil, List.append_nil, List.cons_append, List.nil_append]
  after_results_simp
  rfl

/-- Eight on every lane, zero, one. -/
def lane (n : BitVec 32) : S64.Idx → BitVec 32 := broadcastInDim S64 ![] bcast_S_S64 (constantI S_ 32 n)
def row (n : BitVec 32) : S80.Idx → BitVec 32 := broadcastInDim S80 ![] bcast_S_S80 (constantI S_ 32 n)

/-- The lanes' numbers divided by eight, rounded down. -/
def div8 : S64.Idx → BitVec 32 :=
  select (andi (cmpi .ne (signi (iotaInDim S64 32 0)) (broadcastInDim S64 ![] bcast_S_S64 (signi (constantI S_ 32 8#32))))
      (cmpi .ne (Host.remsi (iotaInDim S64 32 0) (lane 8#32)) (lane 0#32)))
    (subi (Host.divsi (iotaInDim S64 32 0) (lane 8#32)) (lane 1#32)) (Host.divsi (iotaInDim S64 32 0) (lane 8#32))

/-- The condition of every group of 256 tokens. -/
def conds : S80.Idx → BitVec 32 :=
  concatenate S80 0 [⟨S16, broadcastInDim S16 ![] bcast_S_S16 (constantI S_ 32 0#32)⟩, ⟨S64, addi (lane 1#32) div8⟩] concatenates_S16_S64_S80_d0

def ids : S80x1.Idx → BitVec 32 :=
  broadcastInDim S80x1 ![0] bcast_S80_S80x1_0 (select (cmpi .slt conds (row 0#32)) (addi conds (row 16#32)) conds)

theorem ids_at : ∀ p : Fin 80, ids (ix2 p (0 : Fin 1)) = BitVec.ofNat 32 (cond (256 * p.val)) := by
  decide +kernel

set_option maxHeartbeats 2000000 in
theorem V_ids : (V m c main_v12 : S80x1.Idx → BitVec 32) = ids := by
  unfold V
  simp only [hostOps0, hostOps0_1, hostOps0_2, List.flatten_cons, List.flatten_nil, List.append_nil, List.cons_append, List.nil_append]
  after_results_simp
  try dsimp only [Matrix.cons_val]
  try after_results_simp
  rfl

set_option maxHeartbeats 2000000 in
theorem V_g : V m c main_v14 = shapeCast S80x1x24576 (Host.gather gather_S16x24576_S80x1_S80x24576_1_0_n_n_0_1_124576
    (m ((c : Thread nD τ).loc main_arg3) : S16x24576.Idx → EReal) ids) shapeCasts_S80x24576_S80x1x24576 := by
  rw [← V_ids m c]
  unfold V
  simp only [hostOps0, hostOps0_1, hostOps0_2, List.flatten_cons, List.flatten_nil, List.append_nil, List.cons_append, List.nil_append]
  after_results_simp
  try dsimp only [Matrix.cons_val]
  try after_results_simp
  rfl

/-- The gathered modulation rows. -/
theorem g_at (g : S16x24576.Idx → EReal) (p : Fin 80) (q : Fin 24576) (b : Fin 16) (hb : b.val = cond (256 * p.val)) :
    shapeCast S80x1x24576 (Host.gather gather_S16x24576_S80x1_S80x24576_1_0_n_n_0_1_124576 g ids)
      shapeCasts_S80x24576_S80x1x24576 (ix3 p 0 q) = g (ix2 b q) := by
  generalize hz : Host.gather gather_S16x24576_S80x1_S80x24576_1_0_n_n_0_1_124576 g ids = z
  refine Eq.trans (b := z (ix2 p q)) ?_ ?_
  · pointwise
  · subst hz
    exact Routing.gather_row _ rfl rfl rfl rfl rfl g ids p q b ((ids_at p).trans (by rw [hb])) (by decide)

variable (t : Fin cfg0.N)

theorem x_read (a k : Fin 1024) :
    iblk m c 0 t (ix2 a k) = (m ((c : Thread nD τ).loc main_arg0) : S20480x4096.Idx → EReal)
      (ix2 ⟨t.val / 16 * 1024 + a.val, by have : t.val < 320 := t.isLt; omega⟩ ⟨t.val % 4 * 1024 + k.val, by omega⟩) := by
  blk_ext [iblk, V, idx_val t]

theorem w_read (k b : Fin 1024) :
    iblk m c 1 t (ix3 0 k b) = (m ((c : Thread nD τ).loc main_arg1) : S1x4096x4096.Idx → EReal)
      (ix3 0 ⟨t.val % 4 * 1024 + k.val, by omega⟩ ⟨t.val / 4 % 4 * 1024 + b.val, by omega⟩) := by
  refine Eq.trans (b := (V m c main_v0 : S1x4096x4096.Idx → EReal)
      (ix3 0 ⟨t.val % 4 * 1024 + k.val, by omega⟩ ⟨t.val / 4 % 4 * 1024 + b.val, by omega⟩)) ?_ (congrFun (V_w m c) _)
  blk_simp [iblk, idx_val t]
  refine congrArg (V m c main_v0) ?_
  blk_ext [idx_val t]

theorem r_read (a b : Fin 1024) :
    iblk m c 2 t (ix2 a b) = (m ((c : Thread nD τ).loc main_arg2) : S20480x4096.Idx → EReal)
      (ix2 ⟨t.val / 16 * 1024 + a.val, by have : t.val < 320 := t.isLt; omega⟩ ⟨t.val / 4 % 4 * 1024 + b.val, by omega⟩) := by
  blk_ext [iblk, V, idx_val t]

theorem g_read (a : Fin 4) (b : Fin 1024) (e : Fin 16) (he : e.val = cond (256 * (t.val / 16 * 4 + a.val))) :
    iblk m c 3 t (ix3 a 0 b) = (m ((c : Thread nD τ).loc main_arg3) : S16x24576.Idx → EReal)
      (ix2 e ⟨8192 + (t.val / 4 % 4 * 1024 + b.val), by omega⟩) := by
  refine Eq.trans (b := (V m c main_v14 : S80x1x24576.Idx → EReal)
      (ix3 ⟨t.val / 16 * 4 + a.val, by have : t.val < 320 := t.isLt; omega⟩ 0 ⟨8192 + (t.val / 4 % 4 * 1024 + b.val), by omega⟩)) ?_
      ((congrFun (V_g m c) _).trans (g_at _ _ _ _ he))
  blk_simp [iblk, idx_val t]
  refine congrArg (V m c main_v14) ?_
  blk_ext [idx_val t]

/-- The accumulator at the last step of a block is the sum of the steps' products. -/
theorem acc (hr : t.val % 4 = 4 - 1) (y : S1024x1024.Idx) :
    (outsAt0 m c t.val t.isLt).2 y
      = 0 + ∑ s : Fin 4, part (iblk m c 0 ⟨4 * (t.val / 4) + s.val, Pipeline.run_point_lt_of_flush t hr s⟩)
          (iblk m c 1 ⟨4 * (t.val / 4) + s.val, Pipeline.run_point_lt_of_flush t hr s⟩) y := by
  refine Pipeline.eq_sum_fin_of_reset_step_apply_of_flush (fun n h => (outsAt0 m c n h).2) 4 (fun _ => 0)
    (fun t y => part (iblk m c 0 t) (iblk m c 1 t) y) (fun t h j => ?_) (fun t h j => ?_) t hr y
  · rw [outsAt0_A m c t h (by omega)]
    frame_out
    rw [hpay, hzero]
  · by_cases h1 : t.val % 4 = 3
    · rw [outsAt0_C m c t h h1]
      frame_out
      rw [hpay]
      exact congrArg (· + part (iblk m c 0 t) (iblk m c 1 t) j) (congrFun ((Memref.isWhole_whole cc0_scratch0).read_unread _) j)
    · rw [outsAt0_B m c t h h1]
      frame_out
      rw [hpay]
      exact congrArg (· + part (iblk m c 0 t) (iblk m c 1 t) j) (congrFun ((Memref.isWhole_whole cc0_scratch0).read_unread _) j)

/-- The block written back: the last step's store over the accumulator. -/
theorem wb (h1 : t.val % 4 = 3) (y : S1024x1024.Idx) :
    (outsAt0 m c t.val t.isLt).1 y = k0_pay3 (F := Ideal) (outsAt0 m c t.val t.isLt).2 (iblk m c 3 t) (iblk m c 2 t) y := by
  rw [outsAt0_C m c t (by omega) h1]
  frame_out

/-- The kernel's result array. -/
theorem final : (dats m 0 c).arrAt 4 (cfgs 0).N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hr := (flush0_4 t).mp hf
  blk_simp
  rw [after0_4]
  obtain ⟨a, b, rfl⟩ : ∃ a b : Fin 1024, y = ix2 a b := ⟨y 0, y 1, by idx_vars y⟩
  have ht : t.val < 320 := t.isLt
  have ha := a.isLt
  have hb := b.isLt
  have hrow : (⟨t.val / 16 * 1024 + a.val, by omega⟩ : Fin 20480).val / 1024 = t.val / 16 := by simp only; omega
  refine (wb m c t hr _).trans ((hlast _ _ _ a b).trans ?_)
  rw [acc m c t hr, zero_add, r_read,
    g_read m c t _ _ ⟨cond (t.val / 16 * 1024 + a.val), cond_lt ⟨t.val / 16 * 1024 + a.val, by omega⟩⟩ (by
      simp only [cond]
      split <;> split <;> omega)]
  refine Eq.trans (b := out (m ((c : Thread nD τ).loc main_arg0)) (m ((c : Thread nD τ).loc main_arg1)) (m ((c : Thread nD τ).loc main_arg2)) (m ((c : Thread nD τ).loc main_arg3))
    (ix2 ⟨t.val / 16 * 1024 + a.val, by omega⟩ ⟨t.val / 4 % 4 * 1024 + b.val, by omega⟩)) ?_ ?_
  · unfold out proj part
    dsimp only
    refine (add_comm (_ : EReal) _).trans (congrArg₂ (· + ·) ?_ ((mul_comm (_ : EReal) _).trans (congrArg₂ (· * ·) ?_ ?_)))
    · blk_ext
    · blk_ext
    · skip
      refine Fin.sum_mul_add_congr fun s k hl => ?_
      rw [x_read, w_read]
      blk_point
  · refine congrArg (out _ _ _ _) ?_
    blk_ext [idx_val t]

end Cert.AttnOutIdeal.Val

end
-- ==== Proof.SsdOutVal.lean ====
module

public import proofs.«01_k».proof.Proof.Gen.SsdOutIdeal
public import proofs.«01_k».proof.Proof.Gen.SsdOutIdeal.Skeleton
public import proofs.«01_k».proof.Proof.Gen.SsdOutIdeal.Launch
public import proofs.«01_k».proof.Proof.Gen.SsdOutIdeal.Points
public import proofs.«01_k».proof.Proof.Gen.SsdOutIdeal.Frame
public import proofs.«01_k».proof.Proof.Gen.SsdOutIdeal.Value
public import proofs.«01_k».proof.Proof.Gen.SsdOutRefIdeal.Read
public import Idealize.ShloMosaic.Lib.Pipeline.ValueKit
public import Idealize.ShloMosaic.Lib.Routing.Ops
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SsdOutIdeal.Val

open Cert.SsdOutIdeal Cert.SsdOutIdeal.Gen

/-- The projection: one entry of the mixer's output times the weight. -/
def proj (x : S20480x8192.Idx → EReal) (w : S1x8192x4096.Idx → EReal) (r : Fin 20480) (q : Fin 4096) : EReal :=
  ∑ k : Fin 8192, x (ix2 r k) * w (ix3 0 k q)

/-- The condition of a token: 0 for the context tokens, then one for each batch of latent tokens. -/
def cond (r : ℕ) : ℕ := if r < 4096 then 0 else 1 + (r - 4096) / 2048

theorem cond_lt (r : Fin 20480) : cond r.val < 16 := by
  have := r.isLt
  unfold cond; split <;> omega

/-- The result: the residual stream plus the gated projection. -/
def out (x : S20480x8192.Idx → EReal) (w : S1x8192x4096.Idx → EReal) (res : S20480x4096.Idx → EReal) (g : S16x24576.Idx → EReal) :
    S20480x4096.Idx → EReal :=
  fun i =>
    let r : Fin 20480 := ⟨(i 0).val, (i 0).isLt⟩
    let q : Fin 4096 := ⟨(i 1).val, (i 1).isLt⟩
    res (ix2 r q) + g (ix2 ⟨cond r.val, cond_lt r⟩ ⟨8192 + q.val, by omega⟩) * (proj x w r q)

/-- Each window's block at grid point `t`. -/
theorem idx_val : ∀ t : Fin cfg0.N, win0_0.index t = ![t.val / 32, t.val % 8]
    ∧ win0_1.index t = ![0, t.val % 8, t.val / 8 % 4]
    ∧ win0_2.index t = ![t.val / 32, t.val / 8 % 4]
    ∧ win0_3.index t = ![t.val / 32, 0, 8 + t.val / 8 % 4]
    ∧ win0_4.index t = ![t.val / 32, t.val / 8 % 4] :=
  (by decide +kernel : ∀ t : Fin grid0.N, _)

/-- What one step adds to an entry: the product of the two staged blocks. -/
def part (X : S1024x1024.Idx → EReal) (W : S1x1024x1024.Idx → EReal) (y : S1024x1024.Idx) : EReal :=
  ∑ k : Fin 1024, X (ix2 ⟨(y 0).val, (y 0).isLt⟩ k) * W (ix3 0 k ⟨(y 1).val, (y 1).isLt⟩)

theorem hzero (y : S1024x1024.Idx) : k0_pay1 (F := Ideal) y = 0 := by
  pointwise [k0_pay1]

theorem hpay (X : Vec Ideal S1024x1024 .bf16) (A : Vec Ideal S1024x1024 .f32) (W : Vec Ideal S1x1024x1024 .bf16) (y : S1024x1024.Idx) :
    k0_pay2 (F := Ideal) X A W y = A y + part X W y := by
  unfold part
  pointwise [k0_pay2]

/-- The last step's store: the sum gated by the modulation row of its 256 tokens, plus the residual. -/
theorem hlast (A : Vec Ideal S1024x1024 .f32) (G : Vec Ideal S4x1x1024 .f32) (R : Vec Ideal S1024x1024 .f32) (a b : Fin 1024) :
    k0_pay3 (F := Ideal) A G R (ix2 a b) = (A (ix2 a b)) * G (ix3 ⟨a.val / 256, by omega⟩ 0 b) + R (ix2 a b) := by
  pointwise [k0_pay3]

variable (m : (ℓ : Loc nD τ sig) → Buf (Elt Ideal) ℓ) (c : Dev nD)

theorem V_w : V m c main_v0 = (m ((c : Thread nD τ).loc main_arg1) : S1x8192x4096.Idx → EReal) := by
  unfold V
  simp only [hostOps0, hostOps0_1, hostOps0_2, List.flatten_cons, List.flatten_nil, List.append_nil, List.cons_append, List.nil_append]
  after_results_simp
  rfl

/-- Eight on every lane, zero, one. -/
def lane (n : BitVec 32) : S64.Idx → BitVec 32 := broadcastInDim S64 ![] bcast_S_S64 (constantI S_ 32 n)
def row (n : BitVec 32) : S80.Idx → BitVec 32 := broadcastInDim S80 ![] bcast_S_S80 (constantI S_ 32 n)

/-- The lanes' numbers divided by eight, rounded down. -/
def div8 : S64.Idx → BitVec 32 :=
  select (andi (cmpi .ne (signi (iotaInDim S64 32 0)) (broadcastInDim S64 ![] bcast_S_S64 (signi (constantI S_ 32 8#32))))
      (cmpi .ne (Host.remsi (iotaInDim S64 32 0) (lane 8#32)) (lane 0#32)))
    (subi (Host.divsi (iotaInDim S64 32 0) (lane 8#32)) (lane 1#32)) (Host.divsi (iotaInDim S64 32 0) (lane 8#32))

/-- The condition of every group of 256 tokens. -/
def conds : S80.Idx → BitVec 32 :=
  concatenate S80 0 [⟨S16, broadcastInDim S16 ![] bcast_S_S16 (constantI S_ 32 0#32)⟩, ⟨S64, addi (lane 1#32) div8⟩] concatenates_S16_S64_S80_d0

def ids : S80x1.Idx → BitVec 32 :=
  broadcastInDim S80x1 ![0] bcast_S80_S80x1_0 (select (cmpi .slt conds (row 0#32)) (addi conds (row 16#32)) conds)

theorem ids_at : ∀ p : Fin 80, ids (ix2 p (0 : Fin 1)) = BitVec.ofNat 32 (cond (256 * p.val)) := by
  decide +kernel

set_option maxHeartbeats 2000000 in
theorem V_ids : (V m c main_v12 : S80x1.Idx → BitVec 32) = ids := by
  unfold V
  simp only [hostOps0, hostOps0_1, hostOps0_2, List.flatten_cons, List.flatten_nil, List.append_nil, List.cons_append, List.nil_append]
  after_results_simp
  try dsimp only [Matrix.cons_val]
  try after_results_simp
  rfl

set_option maxHeartbeats 2000000 in
theorem V_g : V m c main_v14 = shapeCast S80x1x24576 (Host.gather gather_S16x24576_S80x1_S80x24576_1_0_n_n_0_1_124576
    (m ((c : Thread nD τ).loc main_arg3) : S16x24576.Idx → EReal) ids) shapeCasts_S80x24576_S80x1x24576 := by
  rw [← V_ids m c]
  unfold V
  simp only [hostOps0, hostOps0_1, hostOps0_2, List.flatten_cons, List.flatten_nil, List.append_nil, List.cons_append, List.nil_append]
  after_results_simp
  try dsimp only [Matrix.cons_val]
  try after_results_simp
  rfl

/-- The gathered modulation rows. -/
theorem g_at (g : S16x24576.Idx → EReal) (p : Fin 80) (q : Fin 24576) (b : Fin 16) (hb : b.val = cond (256 * p.val)) :
    shapeCast S80x1x24576 (Host.gather gather_S16x24576_S80x1_S80x24576_1_0_n_n_0_1_124576 g ids)
      shapeCasts_S80x24576_S80x1x24576 (ix3 p 0 q) = g (ix2 b q) := by
  generalize hz : Host.gather gather_S16x24576_S80x1_S80x24576_1_0_n_n_0_1_124576 g ids = z
  refine Eq.trans (b := z (ix2 p q)) ?_ ?_
  · pointwise
  · subst hz
    exact Routing.gather_row _ rfl rfl rfl rfl rfl g ids p q b ((ids_at p).trans (by rw [hb])) (by decide)

variable (t : Fin cfg0.N)

theorem x_read (a k : Fin 1024) :
    iblk m c 0 t (ix2 a k) = (m ((c : Thread nD τ).loc main_arg0) : S20480x8192.Idx → EReal)
      (ix2 ⟨t.val / 32 * 1024 + a.val, by have : t.val < 640 := t.isLt; omega⟩ ⟨t.val % 8 * 1024 + k.val, by omega⟩) := by
  blk_ext [iblk, V, idx_val t]

theorem w_read (k b : Fin 1024) :
    iblk m c 1 t (ix3 0 k b) = (m ((c : Thread nD τ).loc main_arg1) : S1x8192x4096.Idx → EReal)
      (ix3 0 ⟨t.val % 8 * 1024 + k.val, by omega⟩ ⟨t.val / 8 % 4 * 1024 + b.val, by omega⟩) := by
  refine Eq.trans (b := (V m c main_v0 : S1x8192x4096.Idx → EReal)
      (ix3 0 ⟨t.val % 8 * 1024 + k.val, by omega⟩ ⟨t.val / 8 % 4 * 1024 + b.val, by omega⟩)) ?_ (congrFun (V_w m c) _)
  blk_simp [iblk, idx_val t]
  refine congrArg (V m c main_v0) ?_
  blk_ext [idx_val t]

theorem r_read (a b : Fin 1024) :
    iblk m c 2 t (ix2 a b) = (m ((c : Thread nD τ).loc main_arg2) : S20480x4096.Idx → EReal)
      (ix2 ⟨t.val / 32 * 1024 + a.val, by have : t.val < 640 := t.isLt; omega⟩ ⟨t.val / 8 % 4 * 1024 + b.val, by omega⟩) := by
  blk_ext [iblk, V, idx_val t]

theorem g_read (a : Fin 4) (b : Fin 1024) (e : Fin 16) (he : e.val = cond (256 * (t.val / 32 * 4 + a.val))) :
    iblk m c 3 t (ix3 a 0 b) = (m ((c : Thread nD τ).loc main_arg3) : S16x24576.Idx → EReal)
      (ix2 e ⟨8192 + (t.val / 8 % 4 * 1024 + b.val), by omega⟩) := by
  refine Eq.trans (b := (V m c main_v14 : S80x1x24576.Idx → EReal)
      (ix3 ⟨t.val / 32 * 4 + a.val, by have : t.val < 640 := t.isLt; omega⟩ 0 ⟨8192 + (t.val / 8 % 4 * 1024 + b.val), by omega⟩)) ?_
      ((congrFun (V_g m c) _).trans (g_at _ _ _ _ he))
  blk_simp [iblk, idx_val t]
  refine congrArg (V m c main_v14) ?_
  blk_ext [idx_val t]

/-- The accumulator at the last step of a block is the sum of the steps' products. -/
theorem acc (hr : t.val % 8 = 8 - 1) (y : S1024x1024.Idx) :
    (outsAt0 m c t.val t.isLt).2 y
      = 0 + ∑ s : Fin 8, part (iblk m c 0 ⟨8 * (t.val / 8) + s.val, Pipeline.run_point_lt_of_flush t hr s⟩)
          (iblk m c 1 ⟨8 * (t.val / 8) + s.val, Pipeline.run_point_lt_of_flush t hr s⟩) y := by
  refine Pipeline.eq_sum_fin_of_reset_step_apply_of_flush (fun n h => (outsAt0 m c n h).2) 8 (fun _ => 0)
    (fun t y => part (iblk m c 0 t) (iblk m c 1 t) y) (fun t h j => ?_) (fun t h j => ?_) t hr y
  · rw [outsAt0_A m c t h (by omega)]
    frame_out
    rw [hpay, hzero]
  · by_cases h1 : t.val % 8 = 7
    · rw [outsAt0_C m c t h h1]
      frame_out
      rw [hpay]
      exact congrArg (· + part (iblk m c 0 t) (iblk m c 1 t) j) (congrFun ((Memref.isWhole_whole cc0_scratch0).read_unread _) j)
    · rw [outsAt0_B m c t h h1]
      frame_out
      rw [hpay]
      exact congrArg (· + part (iblk m c 0 t) (iblk m c 1 t) j) (congrFun ((Memref.isWhole_whole cc0_scratch0).read_unread _) j)

/-- The block written back: the last step's store over the accumulator. -/
theorem wb (h1 : t.val % 8 = 7) (y : S1024x1024.Idx) :
    (outsAt0 m c t.val t.isLt).1 y = k0_pay3 (F := Ideal) (outsAt0 m c t.val t.isLt).2 (iblk m c 3 t) (iblk m c 2 t) y := by
  rw [outsAt0_C m c t (by omega) h1]
  frame_out

/-- The kernel's result array. -/
theorem final : (dats m 0 c).arrAt 4 (cfgs 0).N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hr := (flush0_4 t).mp hf
  blk_simp
  rw [after0_4]
  obtain ⟨a, b, rfl⟩ : ∃ a b : Fin 1024, y = ix2 a b := ⟨y 0, y 1, by idx_vars y⟩
  have ht : t.val < 640 := t.isLt
  have ha := a.isLt
  have hb := b.isLt
  have hrow : (⟨t.val / 32 * 1024 + a.val, by omega⟩ : Fin 20480).val / 1024 = t.val / 32 := by simp only; omega
  refine (wb m c t hr _).trans ((hlast _ _ _ a b).trans ?_)
  rw [acc m c t hr, zero_add, r_read,
    g_read m c t _ _ ⟨cond (t.val / 32 * 1024 + a.val), cond_lt ⟨t.val / 32 * 1024 + a.val, by omega⟩⟩ (by
      simp only [cond]
      split <;> split <;> omega)]
  refine Eq.trans (b := out (m ((c : Thread nD τ).loc main_arg0)) (m ((c : Thread nD τ).loc main_arg1)) (m ((c : Thread nD τ).loc main_arg2)) (m ((c : Thread nD τ).loc main_arg3))
    (ix2 ⟨t.val / 32 * 1024 + a.val, by omega⟩ ⟨t.val / 8 % 4 * 1024 + b.val, by omega⟩)) ?_ ?_
  · unfold out proj part
    dsimp only
    refine (add_comm (_ : EReal) _).trans (congrArg₂ (· + ·) ?_ ((mul_comm (_ : EReal) _).trans (congrArg₂ (· * ·) ?_ ?_)))
    · blk_ext
    · blk_ext
    · skip
      refine Fin.sum_mul_add_congr fun s k hl => ?_
      rw [x_read, w_read]
      blk_point
  · refine congrArg (out _ _ _ _) ?_
    blk_ext [idx_val t]

end Cert.SsdOutIdeal.Val

end
-- ==== Proof.FnetOutRef.lean ====
module

public import proofs.«01_k».proof.Proof.Gen.FnetOutRefIdeal
public import proofs.«01_k».proof.Proof.Gen.FnetOutRefIdeal.Run
public import proofs.«01_k».proof.Proof.Gen.FnetOutRefIdeal.Read
public import proofs.«01_k».proof.Proof.FnetOutVal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FnetOutRefIdeal.Ref

open Cert.FnetOutRefIdeal Cert.FnetOutRefIdeal.Gen Cert.FnetOutRefIdeal.Read

variable (x : S20480x4096.Idx → EReal) (w : S2x4096x4096.Idx → EReal) (b : S2x4096.Idx → EReal) (res : S20480x4096.Idx → EReal) (g : S16x24576.Idx → EReal)

/-- The projection before the gate. -/
theorem pre_at (r : Fin 20480) (q : Fin 4096) :
    val_main_v8 (F := Ideal) x w b (ix2 r q) = FnetOutIdeal.Val.proj x w r q + b (ix2 0 q) := by
  rw [val_main_v8_apply, val_main_v3_apply]
  refine congrArg₂ (· + ·) ?_ ?_
  · unfold FnetOutIdeal.Val.proj
    refine Finset.sum_congr rfl fun k _ => ?_
    rw [val_main_v2_apply, val_main_v1_apply]
    refine congrArg₂ (· * ·) (congrArg x ?_) (congrArg w ?_)
    · blk_ext
    · blk_ext
  · rw [val_main_v7_apply, val_main_v6_apply, val_main_v5_apply, val_main_v4_apply]
    refine congrArg b ?_
    blk_ext

/-- The context tokens: condition 0. -/
theorem low_at (r : Fin 4096) (q : Fin 4096) :
    val_main_v17 (F := Ideal) x w b res g (ix2 r q) = res (ix2 ⟨r.val, by omega⟩ q)
      + g (ix2 0 ⟨8192 + q.val, by omega⟩) * (FnetOutIdeal.Val.proj x w ⟨r.val, by omega⟩ q + b (ix2 0 q)) := by
  rw [val_main_v17_apply, val_main_v16_apply, val_main_v15_apply, val_main_v14_apply, val_main_v12_apply, val_main_v11_apply, val_main_v9_apply, val_main_v10_apply, val_main_v13_apply,
    ← pre_at]
  refine congrArg₂ (· + ·) (congrArg res ?_) (congrArg₂ (· * ·) (congrArg g ?_) (congrArg (val_main_v8 (F := Ideal) x w b) ?_))
  · blk_ext
  · blk_ext
  · blk_ext

/-- The latent tokens: a condition for each batch. -/
theorem high_at (r : Fin 16384) (q : Fin 4096) :
    val_main_v27 (F := Ideal) x w b res g (ix2 r q) = res (ix2 ⟨4096 + r.val, by omega⟩ q)
      + g (ix2 ⟨1 + r.val / 2048, by omega⟩ ⟨8192 + q.val, by omega⟩) * (FnetOutIdeal.Val.proj x w ⟨4096 + r.val, by omega⟩ q + b (ix2 0 q)) := by
  rw [val_main_v27_apply, val_main_v26_apply, val_main_v25_apply, val_main_v24_apply, val_main_v23_apply, val_main_v22_apply, val_main_v21_apply, val_main_v20_apply, val_main_v19_apply, val_main_v18_apply, val_main_v9_apply,
    ← pre_at]
  have hr := r.isLt
  have hq := q.isLt
  refine congrArg₂ (· + ·) (congrArg res ?_) (congrArg₂ (· * ·) (congrArg g ?_) (congrArg (val_main_v8 (F := Ideal) x w b) ?_))
  · blk_ext
  · blk_ext
  · blk_ext

/-- The two stretches of tokens, joined. -/
theorem cat_low (u : S4096x4096.Idx → EReal) (v : S16384x4096.Idx → EReal) (r : Fin 20480) (q : Fin 4096) (h : r.val < 4096) :
    concatenate S20480x4096 0 [⟨S4096x4096, u⟩, ⟨S16384x4096, v⟩] concatenates_S4096x4096_S16384x4096_S20480x4096_d0 (ix2 r q)
      = u (ix2 ⟨r.val, h⟩ q) :=
  concatenate_pair_apply_left (t := S20480x4096) (s₁ := S4096x4096) (s₂ := S16384x4096) 0 u v
    concatenates_S4096x4096_S16384x4096_S20480x4096_d0 (ix2 r q) rfl (ix2 ⟨r.val, h⟩ q) (fun a => match a with
      | ⟨0, _⟩ => rfl
      | ⟨1, _⟩ => rfl)

theorem cat_high (u : S4096x4096.Idx → EReal) (v : S16384x4096.Idx → EReal) (r : Fin 20480) (q : Fin 4096) (h : 4096 ≤ r.val) :
    concatenate S20480x4096 0 [⟨S4096x4096, u⟩, ⟨S16384x4096, v⟩] concatenates_S4096x4096_S16384x4096_S20480x4096_d0 (ix2 r q)
      = v (ix2 ⟨r.val - 4096, by omega⟩ q) := by
  refine concatenate_pair_apply_right (t := S20480x4096) (s₁ := S4096x4096) (s₂ := S16384x4096) 0 u v
    concatenates_S4096x4096_S16384x4096_S20480x4096_d0 (ix2 r q) rfl rfl (ix2 ⟨r.val - 4096, by omega⟩ q) (fun a => match a with
      | ⟨0, _⟩ => fun hne => absurd rfl hne
      | ⟨1, _⟩ => fun _ => rfl) ?_
  exact Nat.sub_add_cancel h

/-- The reference's result. -/
theorem out_eq : val_main_v28 (F := Ideal) x w b res g = FnetOutIdeal.Val.out x w b res g := by
  funext i
  obtain ⟨r, q, rfl⟩ : ∃ (r : Fin 20480) (q : Fin 4096), i = ix2 r q := ⟨i 0, i 1, by idx_vars i⟩
  have hr := r.isLt
  unfold val_main_v28
  by_cases h : r.val < 4096
  · refine (cat_low _ _ r q h).trans ((low_at x w b res g ⟨r.val, h⟩ q).trans ?_)
    unfold FnetOutIdeal.Val.out
    refine congrArg₂ (· + ·) rfl (congrArg₂ (· * ·) (congrArg g (congrArg₂ ix2 (Fin.ext ?_) rfl)) rfl)
    show 0 = FnetOutIdeal.Val.cond r.val
    unfold FnetOutIdeal.Val.cond
    rw [if_pos h]
  · refine (cat_high _ _ r q (by omega)).trans ((high_at x w b res g ⟨r.val - 4096, by omega⟩ q).trans ?_)
    have e : (⟨4096 + (r.val - 4096), by omega⟩ : Fin 20480) = r := Fin.ext (by show 4096 + (r.val - 4096) = r.val; omega)
    unfold FnetOutIdeal.Val.out
    refine congrArg₂ (· + ·) (congrArg res (congrArg₂ ix2 e rfl)) (congrArg₂ (· * ·) (congrArg g (congrArg₂ ix2 (Fin.ext ?_) rfl)) ?_)
    · show 1 + (r.val - 4096) / 2048 = FnetOutIdeal.Val.cond r.val
      unfold FnetOutIdeal.Val.cond
      rw [if_neg h]
    · exact congrArg (fun z => FnetOutIdeal.Val.proj x w z q + b (ix2 0 q)) e

end Cert.FnetOutRefIdeal.Ref

end
-- ==== Proof.AttnOutRef.lean ====
module

public import proofs.«01_k».proof.Proof.Gen.AttnOutRefIdeal
public import proofs.«01_k».proof.Proof.Gen.AttnOutRefIdeal.Run
public import proofs.«01_k».proof.Proof.Gen.AttnOutRefIdeal.Read
public import proofs.«01_k».proof.Proof.AttnOutVal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AttnOutRefIdeal.Ref

open Cert.AttnOutRefIdeal Cert.AttnOutRefIdeal.Gen Cert.AttnOutRefIdeal.Read

variable (x : S20480x4096.Idx → EReal) (w : S1x4096x4096.Idx → EReal) (res : S20480x4096.Idx → EReal) (g : S16x24576.Idx → EReal)

/-- The projection before the gate. -/
theorem pre_at (r : Fin 20480) (q : Fin 4096) :
    val_main_v2 (F := Ideal) x w (ix2 r q) = AttnOutIdeal.Val.proj x w r q := by
  rw [val_main_v2_apply]
  unfold AttnOutIdeal.Val.proj
  refine Finset.sum_congr rfl fun k _ => ?_
  rw [val_main_v1_apply]
  refine congrArg₂ (· * ·) (congrArg x ?_) (congrArg w ?_)
  · blk_ext
  · blk_ext

/-- The context tokens: condition 0. -/
theorem low_at (r : Fin 4096) (q : Fin 4096) :
    val_main_v11 (F := Ideal) x w res g (ix2 r q) = res (ix2 ⟨r.val, by omega⟩ q)
      + g (ix2 0 ⟨8192 + q.val, by omega⟩) * (AttnOutIdeal.Val.proj x w ⟨r.val, by omega⟩ q) := by
  rw [val_main_v11_apply, val_main_v10_apply, val_main_v9_apply, val_main_v8_apply, val_main_v6_apply, val_main_v5_apply, val_main_v3_apply, val_main_v4_apply, val_main_v7_apply,
    ← pre_at]
  refine congrArg₂ (· + ·) (congrArg res ?_) (congrArg₂ (· * ·) (congrArg g ?_) (congrArg (val_main_v2 (F := Ideal) x w) ?_))
  · blk_ext
  · blk_ext
  · blk_ext

/-- The latent tokens: a condition for each batch. -/
theorem high_at (r : Fin 16384) (q : Fin 4096) :
    val_main_v21 (F := Ideal) x w res g (ix2 r q) = res (ix2 ⟨4096 + r.val, by omega⟩ q)
      + g (ix2 ⟨1 + r.val / 2048, by omega⟩ ⟨8192 + q.val, by omega⟩) * (AttnOutIdeal.Val.proj x w ⟨4096 + r.val, by omega⟩ q) := by
  rw [val_main_v21_apply, val_main_v20_apply, val_main_v19_apply, val_main_v18_apply, val_main_v17_apply, val_main_v16_apply, val_main_v15_apply, val_main_v14_apply, val_main_v13_apply, val_main_v12_apply, val_main_v3_apply,
    ← pre_at]
  have hr := r.isLt
  have hq := q.isLt
  refine congrArg₂ (· + ·) (congrArg res ?_) (congrArg₂ (· * ·) (congrArg g ?_) (congrArg (val_main_v2 (F := Ideal) x w) ?_))
  · blk_ext
  · blk_ext
  · blk_ext

/-- The two stretches of tokens, joined. -/
theorem cat_low (u : S4096x4096.Idx → EReal) (v : S16384x4096.Idx → EReal) (r : Fin 20480) (q : Fin 4096) (h : r.val < 4096) :
    concatenate S20480x4096 0 [⟨S4096x4096, u⟩, ⟨S16384x4096, v⟩] concatenates_S4096x4096_S16384x4096_S20480x4096_d0 (ix2 r q)
      = u (ix2 ⟨r.val, h⟩ q) :=
  concatenate_pair_apply_left (t := S20480x4096) (s₁ := S4096x4096) (s₂ := S16384x4096) 0 u v
    concatenates_S4096x4096_S16384x4096_S20480x4096_d0 (ix2 r q) rfl (ix2 ⟨r.val, h⟩ q) (fun a => match a with
      | ⟨0, _⟩ => rfl
      | ⟨1, _⟩ => rfl)

theorem cat_high (u : S4096x4096.Idx → EReal) (v : S16384x4096.Idx → EReal) (r : Fin 20480) (q : Fin 4096) (h : 4096 ≤ r.val) :
    concatenate S20480x4096 0 [⟨S4096x4096, u⟩, ⟨S16384x4096, v⟩] concatenates_S4096x4096_S16384x4096_S20480x4096_d0 (ix2 r q)
      = v (ix2 ⟨r.val - 4096, by omega⟩ q) := by
  refine concatenate_pair_apply_right (t := S20480x4096) (s₁ := S4096x4096) (s₂ := S16384x4096) 0 u v
    concatenates_S4096x4096_S16384x4096_S20480x4096_d0 (ix2 r q) rfl rfl (ix2 ⟨r.val - 4096, by omega⟩ q) (fun a => match a with
      | ⟨0, _⟩ => fun hne => absurd rfl hne
      | ⟨1, _⟩ => fun _ => rfl) ?_
  exact Nat.sub_add_cancel h

/-- The reference's result. -/
theorem out_eq : val_main_v22 (F := Ideal) x w res g = AttnOutIdeal.Val.out x w res g := by
  funext i
  obtain ⟨r, q, rfl⟩ : ∃ (r : Fin 20480) (q : Fin 4096), i = ix2 r q := ⟨i 0, i 1, by idx_vars i⟩
  have hr := r.isLt
  unfold val_main_v22
  by_cases h : r.val < 4096
  · refine (cat_low _ _ r q h).trans ((low_at x w res g ⟨r.val, h⟩ q).trans ?_)
    unfold AttnOutIdeal.Val.out
    refine congrArg₂ (· + ·) rfl (congrArg₂ (· * ·) (congrArg g (congrArg₂ ix2 (Fin.ext ?_) rfl)) rfl)
    show 0 = AttnOutIdeal.Val.cond r.val
    unfold AttnOutIdeal.Val.cond
    rw [if_pos h]
  · refine (cat_high _ _ r q (by omega)).trans ((high_at x w res g ⟨r.val - 4096, by omega⟩ q).trans ?_)
    have e : (⟨4096 + (r.val - 4096), by omega⟩ : Fin 20480) = r := Fin.ext (by show 4096 + (r.val - 4096) = r.val; omega)
    unfold AttnOutIdeal.Val.out
    refine congrArg₂ (· + ·) (congrArg res (congrArg₂ ix2 e rfl)) (congrArg₂ (· * ·) (congrArg g (congrArg₂ ix2 (Fin.ext ?_) rfl)) ?_)
    · show 1 + (r.val - 4096) / 2048 = AttnOutIdeal.Val.cond r.val
      unfold AttnOutIdeal.Val.cond
      rw [if_neg h]
    · exact congrArg (fun z => AttnOutIdeal.Val.proj x w z q) e

end Cert.AttnOutRefIdeal.Ref

end
-- ==== Proof.SsdOutRef.lean ====
module

public import proofs.«01_k».proof.Proof.Gen.SsdOutRefIdeal
public import proofs.«01_k».proof.Proof.Gen.SsdOutRefIdeal.Run
public import proofs.«01_k».proof.Proof.Gen.SsdOutRefIdeal.Read
public import proofs.«01_k».proof.Proof.SsdOutVal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.SsdOutRefIdeal.Ref

open Cert.SsdOutRefIdeal Cert.SsdOutRefIdeal.Gen Cert.SsdOutRefIdeal.Read

variable (x : S20480x8192.Idx → EReal) (w : S1x8192x4096.Idx → EReal) (res : S20480x4096.Idx → EReal) (g : S16x24576.Idx → EReal)

/-- The projection before the gate. -/
theorem pre_at (r : Fin 20480) (q : Fin 4096) :
    val_main_v2 (F := Ideal) x w (ix2 r q) = SsdOutIdeal.Val.proj x w r q := by
  rw [val_main_v2_apply]
  unfold SsdOutIdeal.Val.proj
  refine Finset.sum_congr rfl fun k _ => ?_
  rw [val_main_v1_apply]
  refine congrArg₂ (· * ·) (congrArg x ?_) (congrArg w ?_)
  · blk_ext
  · blk_ext

/-- The context tokens: condition 0. -/
theorem low_at (r : Fin 4096) (q : Fin 4096) :
    val_main_v11 (F := Ideal) x w res g (ix2 r q) = res (ix2 ⟨r.val, by omega⟩ q)
      + g (ix2 0 ⟨8192 + q.val, by omega⟩) * (SsdOutIdeal.Val.proj x w ⟨r.val, by omega⟩ q) := by
  rw [val_main_v11_apply, val_main_v10_apply, val_main_v9_apply, val_main_v8_apply, val_main_v6_apply, val_main_v5_apply, val_main_v3_apply, val_main_v4_apply, val_main_v7_apply,
    ← pre_at]
  refine congrArg₂ (· + ·) (congrArg res ?_) (congrArg₂ (· * ·) (congrArg g ?_) (congrArg (val_main_v2 (F := Ideal) x w) ?_))
  · blk_ext
  · blk_ext
  · blk_ext

/-- The latent tokens: a condition for each batch. -/
theorem high_at (r : Fin 16384) (q : Fin 4096) :
    val_main_v21 (F := Ideal) x w res g (ix2 r q) = res (ix2 ⟨4096 + r.val, by omega⟩ q)
      + g (ix2 ⟨1 + r.val / 2048, by omega⟩ ⟨8192 + q.val, by omega⟩) * (SsdOutIdeal.Val.proj x w ⟨4096 + r.val, by omega⟩ q) := by
  rw [val_main_v21_apply, val_main_v20_apply, val_main_v19_apply, val_main_v18_apply, val_main_v17_apply, val_main_v16_apply, val_main_v15_apply, val_main_v14_apply, val_main_v13_apply, val_main_v12_apply, val_main_v3_apply,
    ← pre_at]
  have hr := r.isLt
  have hq := q.isLt
  refine congrArg₂ (· + ·) (congrArg res ?_) (congrArg₂ (· * ·) (congrArg g ?_) (congrArg (val_main_v2 (F := Ideal) x w) ?_))
  · blk_ext
  · blk_ext
  · blk_ext

/-- The two stretches of tokens, joined. -/
theorem cat_low (u : S4096x4096.Idx → EReal) (v : S16384x4096.Idx → EReal) (r : Fin 20480) (q : Fin 4096) (h : r.val < 4096) :
    concatenate S20480x4096 0 [⟨S4096x4096, u⟩, ⟨S16384x4096, v⟩] concatenates_S4096x4096_S16384x4096_S20480x4096_d0 (ix2 r q)
      = u (ix2 ⟨r.val, h⟩ q) :=
  concatenate_pair_apply_left (t := S20480x4096) (s₁ := S4096x4096) (s₂ := S16384x4096) 0 u v
    concatenates_S4096x4096_S16384x4096_S20480x4096_d0 (ix2 r q) rfl (ix2 ⟨r.val, h⟩ q) (fun a => match a with
      | ⟨0, _⟩ => rfl
      | ⟨1, _⟩ => rfl)

theorem cat_high (u : S4096x4096.Idx → EReal) (v : S16384x4096.Idx → EReal) (r : Fin 20480) (q : Fin 4096) (h : 4096 ≤ r.val) :
    concatenate S20480x4096 0 [⟨S4096x4096, u⟩, ⟨S16384x4096, v⟩] concatenates_S4096x4096_S16384x4096_S20480x4096_d0 (ix2 r q)
      = v (ix2 ⟨r.val - 4096, by omega⟩ q) := by
  refine concatenate_pair_apply_right (t := S20480x4096) (s₁ := S4096x4096) (s₂ := S16384x4096) 0 u v
    concatenates_S4096x4096_S16384x4096_S20480x4096_d0 (ix2 r q) rfl rfl (ix2 ⟨r.val - 4096, by omega⟩ q) (fun a => match a with
      | ⟨0, _⟩ => fun hne => absurd rfl hne
      | ⟨1, _⟩ => fun _ => rfl) ?_
  exact Nat.sub_add_cancel h

/-- The reference's result. -/
theorem out_eq : val_main_v22 (F := Ideal) x w res g = SsdOutIdeal.Val.out x w res g := by
  funext i
  obtain ⟨r, q, rfl⟩ : ∃ (r : Fin 20480) (q : Fin 4096), i = ix2 r q := ⟨i 0, i 1, by idx_vars i⟩
  have hr := r.isLt
  unfold val_main_v22
  by_cases h : r.val < 4096
  · refine (cat_low _ _ r q h).trans ((low_at x w res g ⟨r.val, h⟩ q).trans ?_)
    unfold SsdOutIdeal.Val.out
    refine congrArg₂ (· + ·) rfl (congrArg₂ (· * ·) (congrArg g (congrArg₂ ix2 (Fin.ext ?_) rfl)) rfl)
    show 0 = SsdOutIdeal.Val.cond r.val
    unfold SsdOutIdeal.Val.cond
    rw [if_pos h]
  · refine (cat_high _ _ r q (by omega)).trans ((high_at x w res g ⟨r.val - 4096, by omega⟩ q).trans ?_)
    have e : (⟨4096 + (r.val - 4096), by omega⟩ : Fin 20480) = r := Fin.ext (by show 4096 + (r.val - 4096) = r.val; omega)
    unfold SsdOutIdeal.Val.out
    refine congrArg₂ (· + ·) (congrArg res (congrArg₂ ix2 e rfl)) (congrArg₂ (· * ·) (congrArg g (congrArg₂ ix2 (Fin.ext ?_) rfl)) ?_)
    · show 1 + (r.val - 4096) / 2048 = SsdOutIdeal.Val.cond r.val
      unfold SsdOutIdeal.Val.cond
      rw [if_neg h]
    · exact congrArg (fun z => SsdOutIdeal.Val.proj x w z q) e

end Cert.SsdOutRefIdeal.Ref

end
-- ==== Proof.lean ====
/- The claims about the window attention, the five matrix products of the layer and the experts' two projections, put together from the modules under Proof/. -/
module

public import proofs.«01_k».proof.Defs
public import proofs.«01_k».proof.Proof.Gen.MoeDown
public import proofs.«01_k».proof.Proof.Gen.MoeDownIdeal
public import proofs.«01_k».proof.Proof.Gen.MoeDownRefIdeal
public import proofs.«01_k».proof.Proof.Gen.MoeDownRefIdeal.Run
public import proofs.«01_k».proof.Proof.Gen.MoeDownRefIdeal.Read
public import proofs.«01_k».proof.Proof.Gen.Pre_experts_down
public import proofs.«01_k».proof.Proof.DownOk
public import proofs.«01_k».proof.Proof.DownData
public import proofs.«01_k».proof.Proof.DownBitsOk
public import proofs.«01_k».proof.Proof.DownBitsData
public import proofs.«01_k».proof.Proof.DownVal
public import proofs.«01_k».proof.Proof.DownRef
public import proofs.«01_k».proof.Proof.Gen.MoeUp
public import proofs.«01_k».proof.Proof.Gen.MoeUpIdeal
public import proofs.«01_k».proof.Proof.Gen.MoeUpRefIdeal
public import proofs.«01_k».proof.Proof.Gen.MoeUpRefIdeal.Run
public import proofs.«01_k».proof.Proof.Gen.MoeUpRefIdeal.Read
public import proofs.«01_k».proof.Proof.Gen.Pre_experts
public import proofs.«01_k».proof.Proof.MoeOk
public import proofs.«01_k».proof.Proof.MoeData
public import proofs.«01_k».proof.Proof.MoeBitsOk
public import proofs.«01_k».proof.Proof.MoeBitsData
public import proofs.«01_k».proof.Proof.MoeVal
public import proofs.«01_k».proof.Proof.MoeRef
public import proofs.«01_k».proof.Proof.Gen.Window
public import proofs.«01_k».proof.Proof.Gen.Window.Skeleton
public import proofs.«01_k».proof.Proof.Gen.Window.Launch
public import proofs.«01_k».proof.Proof.Gen.Window.Points
public import proofs.«01_k».proof.Proof.Gen.Window.Frame
public import proofs.«01_k».proof.Proof.Gen.WindowIdeal
public import proofs.«01_k».proof.Proof.Gen.WindowIdeal.Skeleton
public import proofs.«01_k».proof.Proof.Gen.WindowIdeal.Launch
public import proofs.«01_k».proof.Proof.Gen.WindowIdeal.Points
public import proofs.«01_k».proof.Proof.Gen.WindowIdeal.Frame
public import proofs.«01_k».proof.Proof.Gen.WindowRefIdeal
public import proofs.«01_k».proof.Proof.Gen.WindowIdeal.Value
public import proofs.«01_k».proof.Proof.Gen.WindowRefIdeal.Run
public import proofs.«01_k».proof.Proof.Gen.WindowRefIdeal.Read
public import proofs.«01_k».proof.Proof.Gen.SsdIn
public import proofs.«01_k».proof.Proof.Gen.SsdIn.Skeleton
public import proofs.«01_k».proof.Proof.Gen.SsdIn.Launch
public import proofs.«01_k».proof.Proof.Gen.SsdIn.Points
public import proofs.«01_k».proof.Proof.Gen.SsdIn.Frame
public import proofs.«01_k».proof.Proof.Gen.SsdInIdeal
public import proofs.«01_k».proof.Proof.Gen.SsdInIdeal.Skeleton
public import proofs.«01_k».proof.Proof.Gen.SsdInIdeal.Launch
public import proofs.«01_k».proof.Proof.Gen.SsdInIdeal.Points
public import proofs.«01_k».proof.Proof.Gen.SsdInIdeal.Frame
public import proofs.«01_k».proof.Proof.Gen.SsdInIdeal.Value
public import proofs.«01_k».proof.Proof.Gen.SsdInRefIdeal
public import proofs.«01_k».proof.Proof.Gen.SsdInRefIdeal.Run
public import proofs.«01_k».proof.Proof.Gen.SsdInRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.FnetOut
public import proofs.«01_k».proof.Proof.Gen.FnetOut.Skeleton
public import proofs.«01_k».proof.Proof.Gen.FnetOut.Launch
public import proofs.«01_k».proof.Proof.Gen.FnetOut.Points
public import proofs.«01_k».proof.Proof.Gen.FnetOut.Frame
public import proofs.«01_k».proof.Proof.Gen.FnetOutIdeal
public import proofs.«01_k».proof.Proof.Gen.FnetOutIdeal.Skeleton
public import proofs.«01_k».proof.Proof.Gen.FnetOutIdeal.Launch
public import proofs.«01_k».proof.Proof.Gen.FnetOutIdeal.Points
public import proofs.«01_k».proof.Proof.Gen.FnetOutIdeal.Frame
public import proofs.«01_k».proof.Proof.Gen.FnetOutIdeal.Value
public import proofs.«01_k».proof.Proof.Gen.FnetOutRefIdeal
public import proofs.«01_k».proof.Proof.Gen.FnetOutRefIdeal.Run
public import proofs.«01_k».proof.Proof.Gen.FnetOutRefIdeal.Read
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutIdeal.Value
public import proofs.«01_k».proof.Proof.Gen.AttnOutRefIdeal
public import proofs.«01_k».proof.Proof.Gen.AttnOutRefIdeal.Run
public import proofs.«01_k».proof.Proof.Gen.AttnOutRefIdeal.Read
public import proofs.«01_k».proof.Proof.Gen.SsdOut
public import proofs.«01_k».proof.Proof.Gen.SsdOut.Skeleton
public import proofs.«01_k».proof.Proof.Gen.SsdOut.Launch
public import proofs.«01_k».proof.Proof.Gen.SsdOut.Points
public import proofs.«01_k».proof.Proof.Gen.SsdOut.Frame
public import proofs.«01_k».proof.Proof.Gen.SsdOutIdeal
public import proofs.«01_k».proof.Proof.Gen.SsdOutIdeal.Skeleton
public import proofs.«01_k».proof.Proof.Gen.SsdOutIdeal.Launch
public import proofs.«01_k».proof.Proof.Gen.SsdOutIdeal.Points
public import proofs.«01_k».proof.Proof.Gen.SsdOutIdeal.Frame
public import proofs.«01_k».proof.Proof.Gen.SsdOutIdeal.Value
public import proofs.«01_k».proof.Proof.Gen.SsdOutRefIdeal
public import proofs.«01_k».proof.Proof.Gen.SsdOutRefIdeal.Run
public import proofs.«01_k».proof.Proof.Gen.SsdOutRefIdeal.Read
public import proofs.«01_k».proof.Proof.Value
public import proofs.«01_k».proof.Proof.Finite
public import proofs.«01_k».proof.Proof.Ref
public import proofs.«01_k».proof.Proof.SsdInVal
public import proofs.«01_k».proof.Proof.QkvVal
public import proofs.«01_k».proof.Proof.FnetOutVal
public import proofs.«01_k».proof.Proof.AttnOutVal
public import proofs.«01_k».proof.Proof.SsdOutVal
public import proofs.«01_k».proof.Proof.FnetOutRef
public import proofs.«01_k».proof.Proof.AttnOutRef
public import proofs.«01_k».proof.Proof.SsdOutRef
public import Idealize.ShloMosaic.Lib.Claim
public import Idealize.ShloMosaic.Adequacy
public import Idealize.ShloMosaic.Init

@[expose] public section

noncomputable section

namespace Cert.Proof

open Idealize.ShloMosaic Idealize.SL.Sem Cert.Window

/-- A reference runs, keeps its arguments and leaves every counter at zero. -/
theorem frame_ref :
    Cert.quiescent_WindowRefIdeal (hWindowRefIdeal := Cert.WindowRefIdeal.Gen.facts) := by
  intro m g _
  exact (θ_run _ _ _).mono (fun r h => ⟨fun c => (h c).2, sem_eq_zero_of_no_sems (by decide) r.2⟩) (Cert.WindowRefIdeal.Value.run m g)

theorem frame_ref_SsdIn :
    Cert.quiescent_SsdInRefIdeal (hSsdInRefIdeal := Cert.SsdInRefIdeal.Gen.facts) := by
  intro m g _
  exact (θ_run _ _ _).mono (fun r h => ⟨fun c => (h c).2, sem_eq_zero_of_no_sems (by decide) r.2⟩) (Cert.SsdInRefIdeal.Value.run m g)

theorem frame_ref_Qkv :
    Cert.quiescent_QkvRefIdeal (hQkvRefIdeal := Cert.QkvRefIdeal.Gen.facts) := by
  intro m g _
  exact (θ_run _ _ _).mono (fun r h => ⟨fun c => (h c).2, sem_eq_zero_of_no_sems (by decide) r.2⟩) (Cert.QkvRefIdeal.Value.run m g)

theorem frame_ref_FnetOut :
    Cert.quiescent_FnetOutRefIdeal (hFnetOutRefIdeal := Cert.FnetOutRefIdeal.Gen.facts) := by
  intro m g _
  exact (θ_run _ _ _).mono (fun r h => ⟨fun c => (h c).2, sem_eq_zero_of_no_sems (by decide) r.2⟩) (Cert.FnetOutRefIdeal.Value.run m g)

theorem frame_ref_AttnOut :
    Cert.quiescent_AttnOutRefIdeal (hAttnOutRefIdeal := Cert.AttnOutRefIdeal.Gen.facts) := by
  intro m g _
  exact (θ_run _ _ _).mono (fun r h => ⟨fun c => (h c).2, sem_eq_zero_of_no_sems (by decide) r.2⟩) (Cert.AttnOutRefIdeal.Value.run m g)

theorem frame_ref_SsdOut :
    Cert.quiescent_SsdOutRefIdeal (hSsdOutRefIdeal := Cert.SsdOutRefIdeal.Gen.facts) := by
  intro m g _
  exact (θ_run _ _ _).mono (fun r h => ⟨fun c => (h c).2, sem_eq_zero_of_no_sems (by decide) r.2⟩) (Cert.SsdOutRefIdeal.Value.run m g)

theorem frame_ref_MoeUp :
    Cert.quiescent_MoeUpRefIdeal (hMoeUpRefIdeal := Cert.MoeUpRefIdeal.Gen.facts) := by
  intro m g _
  exact (θ_run _ _ _).mono (fun r h => ⟨fun c => (h c).2, sem_eq_zero_of_no_sems (by decide) r.2⟩) (Cert.MoeUpRefIdeal.Value.run m g)

/-- Tables that `experts` accepts keep every block that the up call fetches inside its array. -/
theorem ok_MoeUp (m : (ℓ : Loc Cert.MoeUp.nD Cert.MoeUp.τ Cert.MoeUp.sig) → Buf (Elt Bits) ℓ) (h : Cert.Pre_MoeUp m) : Cert.MoeUp.Up.Ok (F := Bits) m :=
  Cert.MoeUp.Up.ok_of_lt (F := Bits) m fun y => by
    rw [Cert.MoeUp.Up.tbl_eq]; exact Cert.MoeUp.Up.lt_of_experts (h 0) y

theorem ok_MoeUpIdeal (m : (ℓ : Loc Cert.MoeUpIdeal.nD Cert.MoeUpIdeal.τ Cert.MoeUpIdeal.sig) → Buf (Elt Ideal) ℓ) (h : Cert.Pre_MoeUpIdeal m) : Cert.MoeUpIdeal.Up.Ok (F := Ideal) m :=
  Cert.MoeUpIdeal.Up.ok_of_lt (F := Ideal) m fun y => by
    rw [Cert.MoeUpIdeal.Up.tbl_eq]; exact Cert.MoeUpIdeal.Up.lt_of_experts (h 0) y

theorem frame_MoeUp : Cert.quiescent_MoeUp := fun m g h => Cert.MoeUp.Up.frame (F := Bits) m g (ok_MoeUp m h)

theorem frame_MoeUpIdeal : Cert.quiescent_MoeUpIdeal := fun m g h => Cert.MoeUpIdeal.Up.frame m g (ok_MoeUpIdeal m h)

theorem frame_ref_MoeDown :
    Cert.quiescent_MoeDownRefIdeal (hMoeDownRefIdeal := Cert.MoeDownRefIdeal.Gen.facts) := by
  intro m g _
  exact (θ_run _ _ _).mono (fun r h => ⟨fun c => (h c).2, sem_eq_zero_of_no_sems (by decide) r.2⟩) (Cert.MoeDownRefIdeal.Value.run m g)

/-- Tables that `experts_down` accepts keep every block that the down call fetches inside its array. -/
theorem ok_MoeDown (m : (ℓ : Loc Cert.MoeDown.nD Cert.MoeDown.τ Cert.MoeDown.sig) → Buf (Elt Bits) ℓ) (h : Cert.Pre_MoeDown m) : Cert.MoeDown.Down.Ok (F := Bits) m :=
  Cert.MoeDown.Down.ok_of_lt (F := Bits) m fun y => by
    rw [Cert.MoeDown.Down.tbl_eq]; exact Cert.MoeDown.Down.lt_of_experts (h 0) y

theorem ok_MoeDownIdeal (m : (ℓ : Loc Cert.MoeDownIdeal.nD Cert.MoeDownIdeal.τ Cert.MoeDownIdeal.sig) → Buf (Elt Ideal) ℓ) (h : Cert.Pre_MoeDownIdeal m) : Cert.MoeDownIdeal.Down.Ok (F := Ideal) m :=
  Cert.MoeDownIdeal.Down.ok_of_lt (F := Ideal) m fun y => by
    rw [Cert.MoeDownIdeal.Down.tbl_eq]; exact Cert.MoeDownIdeal.Down.lt_of_experts (h 0) y

theorem frame_MoeDown : Cert.quiescent_MoeDown := fun m g h => Cert.MoeDown.Down.frame (F := Bits) m g (ok_MoeDown m h)

theorem frame_MoeDownIdeal : Cert.quiescent_MoeDownIdeal := fun m g h => Cert.MoeDownIdeal.Down.frame m g (ok_MoeDownIdeal m h)

/-- The window attention's result is the masked softmax attention. -/
theorem alg_Window : Cert.algebraic_WindowIdeal_WindowRefIdeal_pre_finite (hWindowIdeal := Cert.WindowIdeal.Gen.facts)
    (hWindowRefIdeal := Cert.WindowRefIdeal.Gen.facts) (hPre_finite := Cert.Pre_finite.Dec.facts) := by
  intro m g m' g' hpre hag
  refine ⟨fun c => Cert.WindowIdeal.Val.GG m c, ?_, ?_⟩
  · refine (θ_run _ _ _).mono (fun r h c => ?_) (Cert.WindowIdeal.Value.run_blocks m g)
    exact ⟨(h c).1.trans (Cert.WindowIdeal.Val.final m c (Cert.Pre_finite.Dec.fin5 _ _ _ _ _ _ (hpre c))), (h c).2⟩
  · refine (θ_run _ _ _).mono (fun r h c => ?_) (Cert.WindowRefIdeal.Value.run m' g')
    refine ⟨(h c).1.trans ?_, (h c).2⟩
    rw [Cert.WindowRefIdeal.Read.val_main_v46_eq, Cert.WindowRefIdeal.Ref.out_eq]
    obtain ⟨a0, a1, a2, a3, a4, a5⟩ := hag c
    rw [a0, a1, a2, a3, a4, a5]
    rfl

/-- The input projection of the state-space mixer. -/
theorem alg_SsdIn : Cert.algebraic_SsdInIdeal_SsdInRefIdeal (hSsdInIdeal := Cert.SsdInIdeal.Gen.facts) (hSsdInRefIdeal := Cert.SsdInRefIdeal.Gen.facts) := by
  intro m g m' g' _ hag
  refine ⟨fun c => Cert.SsdInIdeal.Val.out (m ((c.tc : Thread Cert.SsdInIdeal.nD Cert.SsdInIdeal.τ).loc Cert.SsdInIdeal.main_arg0)) (m ((c.tc : Thread Cert.SsdInIdeal.nD Cert.SsdInIdeal.τ).loc Cert.SsdInIdeal.main_arg1)), ?_, ?_⟩
  · refine (θ_run _ _ _).mono (fun r h c => ?_) (Cert.SsdInIdeal.Value.run_blocks m g)
    exact ⟨(h c).1.trans (Cert.SsdInIdeal.Val.final m c), (h c).2⟩
  · refine (θ_run _ _ _).mono (fun r h c => ?_) (Cert.SsdInRefIdeal.Value.run m' g')
    refine ⟨(h c).1.trans ?_, (h c).2⟩
    rw [Cert.SsdInRefIdeal.Read.val_main_v3_eq, Cert.SsdInIdeal.Val.out_eq]
    obtain ⟨a0, a1⟩ := hag c
    rw [a0, a1]

/-- The projection to queries, keys and values. -/
theorem alg_Qkv : Cert.algebraic_QkvIdeal_QkvRefIdeal (hQkvIdeal := Cert.QkvIdeal.Gen.facts) (hQkvRefIdeal := Cert.QkvRefIdeal.Gen.facts) := by
  intro m g m' g' _ hag
  refine ⟨fun c => Cert.QkvIdeal.Val.out (m ((c.tc : Thread Cert.QkvIdeal.nD Cert.QkvIdeal.τ).loc Cert.QkvIdeal.main_arg0)) (m ((c.tc : Thread Cert.QkvIdeal.nD Cert.QkvIdeal.τ).loc Cert.QkvIdeal.main_arg1)), ?_, ?_⟩
  · refine (θ_run _ _ _).mono (fun r h c => ?_) (Cert.QkvIdeal.Value.run_blocks m g)
    exact ⟨(h c).1.trans (Cert.QkvIdeal.Val.final m c), (h c).2⟩
  · refine (θ_run _ _ _).mono (fun r h c => ?_) (Cert.QkvRefIdeal.Value.run m' g')
    refine ⟨(h c).1.trans ?_, (h c).2⟩
    rw [Cert.QkvRefIdeal.Read.val_main_v2_eq, Cert.QkvIdeal.Val.out_eq]
    obtain ⟨a0, a1⟩ := hag c
    rw [a0, a1]

/-- The Fourier mixer's output projection with its gated residual. -/
theorem alg_FnetOut : Cert.algebraic_FnetOutIdeal_FnetOutRefIdeal (hFnetOutIdeal := Cert.FnetOutIdeal.Gen.facts) (hFnetOutRefIdeal := Cert.FnetOutRefIdeal.Gen.facts) := by
  intro m g m' g' _ hag
  refine ⟨fun c => Cert.FnetOutIdeal.Val.out (m ((c.tc : Thread Cert.FnetOutIdeal.nD Cert.FnetOutIdeal.τ).loc Cert.FnetOutIdeal.main_arg0)) (m ((c.tc : Thread Cert.FnetOutIdeal.nD Cert.FnetOutIdeal.τ).loc Cert.FnetOutIdeal.main_arg1)) (m ((c.tc : Thread Cert.FnetOutIdeal.nD Cert.FnetOutIdeal.τ).loc Cert.FnetOutIdeal.main_arg2)) (m ((c.tc : Thread Cert.FnetOutIdeal.nD Cert.FnetOutIdeal.τ).loc Cert.FnetOutIdeal.main_arg3)) (m ((c.tc : Thread Cert.FnetOutIdeal.nD Cert.FnetOutIdeal.τ).loc Cert.FnetOutIdeal.main_arg4)), ?_, ?_⟩
  · refine (θ_run _ _ _).mono (fun r h c => ?_) (Cert.FnetOutIdeal.Value.run_blocks m g)
    exact ⟨(h c).1.trans (Cert.FnetOutIdeal.Val.final m c), (h c).2⟩
  · refine (θ_run _ _ _).mono (fun r h c => ?_) (Cert.FnetOutRefIdeal.Value.run m' g')
    refine ⟨(h c).1.trans ?_, (h c).2⟩
    rw [Cert.FnetOutRefIdeal.Read.val_main_v28_eq, Cert.FnetOutRefIdeal.Ref.out_eq]
    obtain ⟨a0, a1, a2, a3, a4⟩ := hag c
    rw [a0, a1, a2, a3, a4]

/-- The attention's output projection with its gated residual. -/
theorem alg_AttnOut : Cert.algebraic_AttnOutIdeal_AttnOutRefIdeal (hAttnOutIdeal := Cert.AttnOutIdeal.Gen.facts) (hAttnOutRefIdeal := Cert.AttnOutRefIdeal.Gen.facts) := by
  intro m g m' g' _ hag
  refine ⟨fun c => Cert.AttnOutIdeal.Val.out (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3)), ?_, ?_⟩
  · refine (θ_run _ _ _).mono (fun r h c => ?_) (Cert.AttnOutIdeal.Value.run_blocks m g)
    exact ⟨(h c).1.trans (Cert.AttnOutIdeal.Val.final m c), (h c).2⟩
  · refine (θ_run _ _ _).mono (fun r h c => ?_) (Cert.AttnOutRefIdeal.Value.run m' g')
    refine ⟨(h c).1.trans ?_, (h c).2⟩
    rw [Cert.AttnOutRefIdeal.Read.val_main_v22_eq, Cert.AttnOutRefIdeal.Ref.out_eq]
    obtain ⟨a0, a1, a2, a3⟩ := hag c
    rw [a0, a1, a2, a3]

/-- The state-space mixer's output projection with its gated residual. -/
theorem alg_SsdOut : Cert.algebraic_SsdOutIdeal_SsdOutRefIdeal (hSsdOutIdeal := Cert.SsdOutIdeal.Gen.facts) (hSsdOutRefIdeal := Cert.SsdOutRefIdeal.Gen.facts) := by
  intro m g m' g' _ hag
  refine ⟨fun c => Cert.SsdOutIdeal.Val.out (m ((c.tc : Thread Cert.SsdOutIdeal.nD Cert.SsdOutIdeal.τ).loc Cert.SsdOutIdeal.main_arg0)) (m ((c.tc : Thread Cert.SsdOutIdeal.nD Cert.SsdOutIdeal.τ).loc Cert.SsdOutIdeal.main_arg1)) (m ((c.tc : Thread Cert.SsdOutIdeal.nD Cert.SsdOutIdeal.τ).loc Cert.SsdOutIdeal.main_arg2)) (m ((c.tc : Thread Cert.SsdOutIdeal.nD Cert.SsdOutIdeal.τ).loc Cert.SsdOutIdeal.main_arg3)), ?_, ?_⟩
  · refine (θ_run _ _ _).mono (fun r h c => ?_) (Cert.SsdOutIdeal.Value.run_blocks m g)
    exact ⟨(h c).1.trans (Cert.SsdOutIdeal.Val.final m c), (h c).2⟩
  · refine (θ_run _ _ _).mono (fun r h c => ?_) (Cert.SsdOutRefIdeal.Value.run m' g')
    refine ⟨(h c).1.trans ?_, (h c).2⟩
    rw [Cert.SsdOutRefIdeal.Read.val_main_v22_eq, Cert.SsdOutRefIdeal.Ref.out_eq]
    obtain ⟨a0, a1, a2, a3⟩ := hag c
    rw [a0, a1, a2, a3]

/-- The experts' up projection with its activation. -/
theorem alg_MoeUp : Cert.algebraic_MoeUpIdeal_MoeUpRefIdeal (hMoeUpIdeal := Cert.MoeUpIdeal.Gen.facts) (hMoeUpRefIdeal := Cert.MoeUpRefIdeal.Gen.facts) (hPre_experts := Cert.Pre_experts.Gen.facts) := by
  intro m g m' g' hpre hag
  have hE (c : Dev Cert.MoeUpIdeal.nD) (y : Cert.MoeUpIdeal.S192.Idx) : ((m ((c.tc : Thread Cert.MoeUpIdeal.nD Cert.MoeUpIdeal.τ).loc Cert.MoeUpIdeal.main_arg0) : Cert.MoeUpIdeal.S192.Idx → BitVec 32) y).toNat < 32 :=
    Cert.MoeUpIdeal.Up.lt_of_experts (hpre c) y
  have hlt (k : Fin 192) : (Cert.MoeUpIdeal.Up.word m k).toNat < 32 := by
    unfold Cert.MoeUpIdeal.Up.word
    rw [Cert.MoeUpIdeal.Up.tbl_eq]
    exact hE 0 _
  refine ⟨fun c => Cert.MoeUpIdeal.Spec.out (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)), ?_, ?_⟩
  · refine (θ_run _ _ _).mono (fun r h c => ?_) (Cert.MoeUpIdeal.Val.run m (ok_MoeUpIdeal m hpre) g hlt)
    refine ⟨(h c).1.trans ?_, (h c).2⟩
    obtain rfl := Cert.MoeUpIdeal.Val.dev_eq c
    rw [Cert.MoeUpIdeal.Up.tbl_eq, Cert.MoeUpIdeal.Up.tbl1_eq]
  · refine (θ_run _ _ _).mono (fun r h c => ?_) (Cert.MoeUpRefIdeal.Value.run m' g')
    refine ⟨(h c).1.trans ?_, (h c).2⟩
    obtain ⟨a0, a1, a2, a3, a4⟩ := hag c
    rw [Cert.MoeUpRefIdeal.Read.val_main_v48_eq, a0, a1, a2, a3, a4]
    exact Cert.MoeUpRefIdeal.Ref.out_eq _ _ _ _ _ (hE c)

/-- The experts' down projection. -/
theorem alg_MoeDown : Cert.algebraic_MoeDownIdeal_MoeDownRefIdeal (hMoeDownIdeal := Cert.MoeDownIdeal.Gen.facts) (hMoeDownRefIdeal := Cert.MoeDownRefIdeal.Gen.facts) (hPre_experts_down := Cert.Pre_experts_down.Gen.facts) := by
  intro m g m' g' hpre hag
  have hE (c : Dev Cert.MoeDownIdeal.nD) (y : Cert.MoeDownIdeal.S192.Idx) : ((m ((c.tc : Thread Cert.MoeDownIdeal.nD Cert.MoeDownIdeal.τ).loc Cert.MoeDownIdeal.main_arg0) : Cert.MoeDownIdeal.S192.Idx → BitVec 32) y).toNat < 32 :=
    Cert.MoeDownIdeal.Down.lt_of_experts (hpre c) y
  have hlt (k : Fin 192) : (Cert.MoeDownIdeal.Down.word m k).toNat < 32 := by
    unfold Cert.MoeDownIdeal.Down.word
    rw [Cert.MoeDownIdeal.Down.tbl_eq]
    exact hE 0 _
  refine ⟨fun c => Cert.MoeDownIdeal.Spec.out (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)), ?_, ?_⟩
  · refine (θ_run _ _ _).mono (fun r h c => ?_) (Cert.MoeDownIdeal.Val.run m (ok_MoeDownIdeal m hpre) g hlt)
    refine ⟨(h c).1.trans ?_, (h c).2⟩
    obtain rfl := Cert.MoeDownIdeal.Val.dev_eq c
    rw [Cert.MoeDownIdeal.Down.tbl_eq, Cert.MoeDownIdeal.Down.tbl1_eq]
  · refine (θ_run _ _ _).mono (fun r h c => ?_) (Cert.MoeDownRefIdeal.Value.run m' g')
    refine ⟨(h c).1.trans ?_, (h c).2⟩
    obtain ⟨a0, a1, a2, a3, a4⟩ := hag c
    rw [Cert.MoeDownRefIdeal.Read.val_main_v31_eq, a0, a1, a2, a3, a4]
    exact Cert.MoeDownRefIdeal.Ref.out_eq _ _ _ _ _ (hE c)

theorem claim : Cert.Claim := ⟨Cert.Window.Gen.facts, Cert.WindowIdeal.Gen.facts, Cert.WindowRefIdeal.Gen.facts, Cert.SsdIn.Gen.facts, Cert.SsdInIdeal.Gen.facts, Cert.SsdInRefIdeal.Gen.facts, Cert.Qkv.Gen.facts, Cert.QkvIdeal.Gen.facts, Cert.QkvRefIdeal.Gen.facts, Cert.FnetOut.Gen.facts, Cert.FnetOutIdeal.Gen.facts, Cert.FnetOutRefIdeal.Gen.facts, Cert.AttnOut.Gen.facts, Cert.AttnOutIdeal.Gen.facts, Cert.AttnOutRefIdeal.Gen.facts, Cert.SsdOut.Gen.facts, Cert.SsdOutIdeal.Gen.facts, Cert.SsdOutRefIdeal.Gen.facts, Cert.MoeUp.Gen.facts, Cert.MoeUpIdeal.Gen.facts, Cert.MoeUpRefIdeal.Gen.facts, Cert.MoeDown.Gen.facts, Cert.MoeDownIdeal.Gen.facts, Cert.MoeDownRefIdeal.Gen.facts, Cert.Pre_finite.Dec.facts, Cert.Pre_experts.Gen.facts, Cert.Pre_experts_down.Gen.facts,
  fun m g _ => Cert.Window.Gen.frame m g, fun m g _ => Cert.WindowIdeal.Gen.frame m g, fun m g _ => Cert.WindowIdeal.Gen.frame m g,
  frame_ref, fun m g _ => frame_ref m g trivial,
  fun m g _ => Cert.SsdIn.Gen.frame m g, fun m g _ => Cert.SsdInIdeal.Gen.frame m g, frame_ref_SsdIn,
  fun m g _ => Cert.Qkv.Gen.frame m g, fun m g _ => Cert.QkvIdeal.Gen.frame m g, frame_ref_Qkv,
  fun m g _ => Cert.FnetOut.Gen.frame m g, fun m g _ => Cert.FnetOutIdeal.Gen.frame m g, frame_ref_FnetOut,
  fun m g _ => Cert.AttnOut.Gen.frame m g, fun m g _ => Cert.AttnOutIdeal.Gen.frame m g, frame_ref_AttnOut,
  fun m g _ => Cert.SsdOut.Gen.frame m g, fun m g _ => Cert.SsdOutIdeal.Gen.frame m g, frame_ref_SsdOut,
  frame_MoeUp, frame_MoeUpIdeal, frame_ref_MoeUp, fun m g _ => frame_ref_MoeUp m g trivial,
  frame_MoeDown, frame_MoeDownIdeal, frame_ref_MoeDown, fun m g _ => frame_ref_MoeDown m g trivial,
  trivial, alg_Window, trivial, alg_SsdIn, trivial, alg_Qkv, trivial, alg_FnetOut, trivial, alg_AttnOut, trivial, alg_SsdOut, trivial, alg_MoeUp, trivial, alg_MoeDown⟩

end Cert.Proof

end
